-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  IdealRules.named_const.Statement Cert.Kernel2Ideal.κ "qscale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)) (v6 : (c : Dev Cert.Kernel2Ideal.nD) → Buf (Elt Ideal) ((c.tc : Thread Cert.Kernel2Ideal.nD Cert.Kernel2Ideal.τ).loc Cert.Kernel2Ideal.main_v2_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_v2_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_v14) = v2 c
          ∧ r.2.mem ((c.tc : Thread Cert.Reference2Ideal.nD Cert.Reference2Ideal.τ).loc Cert.Reference2Ideal.main_v15) = v3 c
          ∧ r.2.mem ((c.tc : Thread Cert.Reference2Ideal.nD Cert.Reference2Ideal.τ).loc Cert.Reference2Ideal.main_v16) = v4 c
          ∧ r.2.mem ((c.tc : Thread Cert.Reference2Ideal.nD Cert.Reference2Ideal.τ).loc Cert.Reference2Ideal.main_v18) = v5 c
          ∧ r.2.mem ((c.tc : Thread Cert.Reference2Ideal.nD Cert.Reference2Ideal.τ).loc Cert.Reference2Ideal.main_v20) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v65) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S4x4096x4x2x64 : Shape := ⟨5, ![4, 4096, 4, 2, 64]⟩
abbrev S4x4096x4x128 : Shape := ⟨4, ![4, 4096, 4, 128]⟩
abbrev S32x4 : Shape := ⟨2, ![32, 4]⟩
abbrev S64 : Shape := ⟨1, ![64]⟩
abbrev S128 : Shape := ⟨1, ![128]⟩
abbrev S_ : Shape := ⟨0, ![]⟩

class Facts : Prop where
  bcast_S_S4x4096x4x2x64 : S_.BroadcastsInDim S4x4096x4x2x64 (![] : Fin 0 → Fin S4x4096x4x2x64.rank)
  reducesTo_S4x4096x4x2x64_S_d0_1_2_3_4 : S4x4096x4x2x64.ReducesTo [0, 1, 2, 3, 4] S_
  h_S_ : 0 < S_.numel
  bcast_S_S4x4096x4x128 : S_.BroadcastsInDim S4x4096x4x128 (![] : Fin 0 → Fin S4x4096x4x128.rank)
  reducesTo_S4x4096x4x128_S_d0_1_2_3 : S4x4096x4x128.ReducesTo [0, 1, 2, 3] S_
  bcast_S_S32x4 : S_.BroadcastsInDim S32x4 (![] : Fin 0 → Fin S32x4.rank)
  reducesTo_S32x4_S_d0_1 : S32x4.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S64 .f32) (main_v13 : IVec S_ 1) (main_v16 : IVec S32x4 1) : IVec S_ 1 :=
  let main_c_5 : IVec S_ 1 := constantI S_ 1 1#1
  let main_v17 : IVec S_ 1 := (fun x v => Host.reduce IntOp.andi x v reducesTo_S32x4_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S4x4096x4x2x64 .f32) (main_arg1 : FVec F S4x4096x4x2x64 .f32) (main_arg2 : FVec F S4x4096x4x128 .f32) (main_arg3 : FVec F S32x4 .f32) (main_arg4 : FVec F S64 .f32) (main_arg5 : FVec F S64 .f32) (main_arg6 : FVec F S64 .f32) (main_arg7 : FVec F S64 .f32) (main_arg8 : FVec F S128 .f32) : IVec S_ 1 :=
  let main_v0 : FVec F S4x4096x4x2x64 .f32 := Host.absf main_arg0
  let main_cst : FVec F S_ .f32 := constant S_ .f32 0x7F800000#32
  let main_v1 : FVec F S4x4096x4x2x64 .f32 := broadcastInDim S4x4096x4x2x64 ![] bcast_S_S4x4096x4x2x64 main_cst
  let main_v2 : IVec S4x4096x4x2x64 1 := cmpf .olt main_v0 main_v1
  let main_c : IVec S_ 1 := constantI S_ 1 1#1
  let main_v3 : IVec S_ 1 := (fun x v => Host.reduce IntOp.andi x v reducesTo_S4x4096x4x2x64_S_d0_1_2_3_4 h_S_) main_v2 main_c
  let main_v4 : FVec F S4x4096x4x2x64 .f32 := Host.absf main_arg1
  let main_cst_0 : FVec F S_ .f32 := constant S_ .f32 0x7F800000#32
  let main_v5 : FVec F S4x4096x4x2x64 .f32 := broadcastInDim S4x4096x4x2x64 ![] bcast_S_S4x4096x4x2x64 main_cst_0
  let main_v6 : IVec S4x4096x4x2x64 1 := cmpf .olt main_v4 main_v5
  let main_c_1 : IVec S_ 1 := constantI S_ 1 1#1
  let main_v7 : IVec S_ 1 := (fun x v => Host.reduce IntOp.andi x v reducesTo_S4x4096x4x2x64_S_d0_1_2_3_4 h_S_) main_v6 main_c_1
  let main_v8 : IVec S_ 1 := andi main_v3 main_v7
  let main_v9 : FVec F S4x4096x4x128 .f32 := Host.absf main_arg2
  let main_cst_2 : FVec F S_ .f32 := constant S_ .f32 0x7F800000#32
  let main_v10 : FVec F S4x4096x4x128 .f32 := broadcastInDim S4x4096x4x128 ![] bcast_S_S4x4096x4x128 main_cst_2
  let main_v11 : IVec S4x4096x4x128 1 := cmpf .olt main_v9 main_v10
  let main_c_3 : IVec S_ 1 := constantI S_ 1 1#1
  let main_v12 : IVec S_ 1 := (fun x v => Host.reduce IntOp.andi x v reducesTo_S4x4096x4x128_S_d0_1_2_3 h_S_) main_v11 main_c_3
  let main_v13 : IVec S_ 1 := andi main_v8 main_v12
  let main_v14 : FVec F S32x4 .f32 := Host.absf main_arg3
  let main_cst_4 : FVec F S_ .f32 := constant S_ .f32 0x7F800000#32
  let main_v15 : FVec F S32x4 .f32 := broadcastInDim S32x4 ![] bcast_S_S32x4 main_cst_4
  let main_v16 : IVec S32x4 1 := cmpf .olt main_v14 main_v15
  fn_part1 (F := F) main_arg4 main_arg5 main_arg6 main_arg7 main_v13 main_v16
-- ==== Kernel.lean ====
abbrev S4x4096x4x2x64 : Shape := ⟨5, ![4, 4096, 4, 2, 64]⟩
abbrev S4x4096x4x128 : Shape := ⟨4, ![4, 4096, 4, 128]⟩
abbrev S32x4 : Shape := ⟨2, ![32, 4]⟩
abbrev S64 : Shape := ⟨1, ![64]⟩
abbrev S128 : Shape := ⟨1, ![128]⟩
abbrev S4x4096x512 : Shape := ⟨3, ![4, 4096, 512]⟩
abbrev S_ : Shape := ⟨0, ![]⟩
abbrev S1x64 : Shape := ⟨2, ![1, 64]⟩
abbrev S2 : Shape := ⟨1, ![2]⟩
abbrev S2x1x1 : Shape := ⟨3, ![2, 1, 1]⟩
abbrev S512 : Shape := ⟨1, ![512]⟩
abbrev S1x512x1 : Shape := ⟨3, ![1, 512, 1]⟩
abbrev S2x512x1 : Shape := ⟨3, ![2, 512, 1]⟩
abbrev S1x1x512 : Shape := ⟨3, ![1, 1, 512]⟩
abbrev S2x512x512 : Shape := ⟨3, ![2, 512, 512]⟩
abbrev S2x512x512x1 : Shape := ⟨4, ![2, 512, 512, 1]⟩
abbrev S2x512x512x4 : Shape := ⟨4, ![2, 512, 512, 4]⟩
abbrev S4x2x512x512 : Shape := ⟨4, ![4, 2, 512, 512]⟩
abbrev S1x4 : Shape := ⟨2, ![1, 4]⟩
abbrev S4 : Shape := ⟨1, ![4]⟩
abbrev S4x1x1x1 : Shape := ⟨4, ![4, 1, 1, 1]⟩
abbrev S1x128 : Shape := ⟨2, ![1, 128]⟩
abbrev S1x512x512 : Shape := ⟨3, ![1, 512, 512]⟩
abbrev S1x4096x512 : Shape := ⟨3, ![1, 4096, 512]⟩
abbrev S8x512x128 : Shape := ⟨3, ![8, 512, 128]⟩
abbrev S1x512x128 : Shape := ⟨3, ![1, 512, 128]⟩
abbrev S512x128 : Shape := ⟨2, ![512, 128]⟩
abbrev S512x1 : Shape := ⟨2, ![512, 1]⟩
abbrev S512x512 : Shape := ⟨2, ![512, 512]⟩
abbrev S1x1x512x512 : Shape := ⟨4, ![1, 1, 512, 512]⟩
abbrev S1 : Shape := ⟨1, ![1]⟩
abbrev S1x1 : Shape := ⟨2, ![1, 1]⟩

abbrev nBuf : Space → Nat
  | .hbm => 101
  | .vmem => 15
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S32x4, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S4x4096x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S4x4096x512, .bf16⟩
  | .hbm, ⟨19, _⟩ => ⟨S4x4096x512, .f32⟩
  | .hbm, ⟨20, _⟩ => ⟨S4x4096x512, .bf16⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S2, .i32⟩
  | .hbm, ⟨26, _⟩ => ⟨S_, .i32⟩
  | .hbm, ⟨27, _⟩ => ⟨S2, .i32⟩
  | .hbm, ⟨28, _⟩ => ⟨S2, .i32⟩
  | .hbm, ⟨29, _⟩ => ⟨S_, .i32⟩
  | .hbm, ⟨30, _⟩ => ⟨S2, .i32⟩
  | .hbm, ⟨31, _⟩ => ⟨S2, .i32⟩
  | .hbm, ⟨32, _⟩ => ⟨S2x1x1, .i32⟩
  | .hbm, ⟨33, _⟩ => ⟨S512, .i32⟩
  | .hbm, ⟨34, _⟩ => ⟨S1x512x1, .i32⟩
  | .hbm, ⟨35, _⟩ => ⟨S2x512x1, .i32⟩
  | .hbm, ⟨36, _⟩ => ⟨S2x512x1, .i32⟩
  | .hbm, ⟨37, _⟩ => ⟨S2x512x1, .i32⟩
  | .hbm, ⟨38, _⟩ => ⟨S512, .i32⟩
  | .hbm, ⟨39, _⟩ => ⟨S1x1x512, .i32⟩
  | .hbm, ⟨40, _⟩ => ⟨S2x512x512, .i32⟩
  | .hbm, ⟨41, _⟩ => ⟨S2x512x512, .i32⟩
  | .hbm, ⟨42, _⟩ => ⟨S2x512x512, .i32⟩
  | .hbm, ⟨43, _⟩ => ⟨S_, .i32⟩
  | .hbm, ⟨44, _⟩ => ⟨S2x512x512, .i32⟩
  | .hbm, ⟨45, _⟩ => ⟨S2x512x512, .i32⟩
  | .hbm, ⟨46, _⟩ => ⟨S_, .i32⟩
  | .hbm, ⟨47, _⟩ => ⟨S2x512x512, .i32⟩
  | .hbm, ⟨48, _⟩ => ⟨S2x512x512, .i32⟩
  | .hbm, ⟨49, _⟩ => ⟨S2x512x512, .f32⟩
  | .hbm, ⟨50, _⟩ => ⟨S_, .f32⟩
  | .hbm, ⟨51, _⟩ => ⟨S2x512x512, .f32⟩
  | .hbm, ⟨52, _⟩ => ⟨S2x512x512, .f32⟩
  | .hbm, ⟨53, _⟩ => ⟨S2x512x512, .f32⟩
  | .hbm, ⟨54, _⟩ => ⟨S_, .f32⟩
  | .hbm, ⟨55, _⟩ => ⟨S2x512x512, .f32⟩
  | .hbm, ⟨56, _⟩ => ⟨S2x512x512, .f32⟩
  | .hbm, ⟨57, _⟩ => ⟨S_, .f32⟩
  | .hbm, ⟨58, _⟩ => ⟨S2x512x512, .f32⟩
  | .hbm, ⟨59, _⟩ => ⟨S2x512x512, .f32⟩
  | .hbm, ⟨60, _⟩ => ⟨S2x512x512, .i32⟩
  | .hbm, ⟨61, _⟩ => ⟨S_, .i32⟩
  | .hbm, ⟨62, _⟩ => ⟨S2x512x512, .i32⟩
  | .hbm, ⟨63, _⟩ => ⟨S2x512x512, .i32⟩
  | .hbm, ⟨64, _⟩ => ⟨S_, .i32⟩
  | .hbm, ⟨65, _⟩ => ⟨S2x512x512, .i32⟩
  | .hbm, ⟨66, _⟩ => ⟨S2x512x512, .i1⟩
  | .hbm, ⟨67, _⟩ => ⟨S_, .i32⟩
  | .hbm, ⟨68, _⟩ => ⟨S2x512x512, .i32⟩
  | .hbm, ⟨69, _⟩ => ⟨S2x512x512, .i32⟩
  | .hbm, ⟨70, _⟩ => ⟨S2x512x512, .i32⟩
  | .hbm, ⟨71, _⟩ => ⟨S_, .i32⟩
  | .hbm, ⟨72, _⟩ => ⟨S2x512x512, .i32⟩
  | .hbm, ⟨73, _⟩ => ⟨S2x512x512, .i1⟩
  | .hbm, ⟨74, _⟩ => ⟨S_, .i32⟩
  | .hbm, ⟨75, _⟩ => ⟨S2x512x512, .i32⟩
  | .hbm, ⟨76, _⟩ => ⟨S2x512x512, .i32⟩
  | .hbm, ⟨77, _⟩ => ⟨S2x512x512, .i32⟩
  | .hbm, ⟨78, _⟩ => ⟨S2x512x512x1, .i32⟩
  | .hbm, ⟨79, _⟩ => ⟨S2x512x512x4, .f32⟩
  | .hbm, ⟨80, _⟩ => ⟨S4x2x512x512, .f32⟩
  | .hbm, ⟨81, _⟩ => ⟨S1x4, .f32⟩
  | .hbm, ⟨82, _⟩ => ⟨S4, .f32⟩
  | .hbm, ⟨83, _⟩ => ⟨S4x1x1x1, .f32⟩
  | .hbm, ⟨84, _⟩ => ⟨S_, .i32⟩
  | .hbm, ⟨85, _⟩ => ⟨S2x512x512, .i32⟩
  | .hbm, ⟨86, _⟩ => ⟨S2x512x512, .i1⟩
  | .hbm, ⟨87, _⟩ => ⟨S4x2x512x512, .f32⟩
  | .hbm, ⟨88, _⟩ => ⟨S4x2x512x512, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S4x2x512x512, .f32⟩
  | .hbm, ⟨93, _⟩ => ⟨S4x2x512x512, .f32⟩
  | .hbm, ⟨94, _⟩ => ⟨S_, .f32⟩
  | .hbm, ⟨95, _⟩ => ⟨S_, .f32⟩
  | .hbm, ⟨96, _⟩ => ⟨S4x2x512x512, .i1⟩
  | .hbm, ⟨97, _⟩ => ⟨S4x2x512x512, .f32⟩
  | .hbm, ⟨98, _⟩ => ⟨S4x2x512x512, .f32⟩
  | .hbm, ⟨99, _⟩ => ⟨S1x128, .f32⟩
  | .hbm, ⟨100, _⟩ => ⟨S4x4096x512, .f32⟩
  | .local _ .vmem, ⟨0, _⟩ => ⟨S1x512x512, .f32⟩
  | .local _ .vmem, ⟨1, _⟩ => ⟨S1x512x512, .f32⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S4x2x512x512, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x128, .f32⟩
  | .local _ .vmem, ⟨12, _⟩ => ⟨S1x512x512, .f32⟩
  | .local _ .vmem, ⟨13, _⟩ => ⟨S1x512x512, .f32⟩
  | .local _ .vmem, ⟨14, _⟩ => ⟨S8x512x128, .f32⟩
  | _, _ => ⟨S4x4096x4x2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_c_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 1, 8], ![false, false, false]⟩

@[reducible] def k0_t1_loop (i : grid0.Coords) : Scf.Loop 32 :=
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let c1_i32_49 : BitVec 32 := 1#32
  ⟨c0_i32_47, v85, c1_i32_49⟩
def k0_mult1 (i : grid0.Coords) (k0_t1 : Fin (k0_t1_loop i).trips) : BitVec 32 :=
  let c0_i32_47 : BitVec 32 := 0#32
  let c1_i32_49 : BitVec 32 := 1#32
  let arg14 : BitVec 32 := Scf.iv c0_i32_47 c1_i32_49 k0_t1
  let c512_i32 : BitVec 32 := 512#32
  let v243 : BitVec 32 := Scalar.muli arg14 c512_i32
  v243
def k0_off1 (i : grid0.Coords) (k0_t1 : Fin (k0_t1_loop i).trips) : Fin 3 → Nat :=
  let c0_123 : Index := 0#32
  let c0_i32_47 : BitVec 32 := 0#32
  let c1_i32_49 : BitVec 32 := 1#32
  let arg14 : BitVec 32 := Scf.iv c0_i32_47 c1_i32_49 k0_t1
  let c512_i32 : BitVec 32 := 512#32
  let v243 : BitVec 32 := Scalar.muli arg14 c512_i32
  let v244 : BitVec 32 := v243
  let v245 : Index := Scalar.indexCast v244
  let c0_124 : Index := 0#32
  ![0, v245.toNat, 0]
def k0_off2 (i : grid0.Coords) (k0_t1 : Fin (k0_t1_loop i).trips) : Fin 3 → Nat :=
  let c0_125 : Index := 0#32
  let c0_i32_47 : BitVec 32 := 0#32
  let c1_i32_49 : BitVec 32 := 1#32
  let arg14 : BitVec 32 := Scf.iv c0_i32_47 c1_i32_49 k0_t1
  let c512_i32 : BitVec 32 := 512#32
  let v243 : BitVec 32 := Scalar.muli arg14 c512_i32
  let v244 : BitVec 32 := v243
  let v248 : Index := Scalar.indexCast v244
  let c128_126 : Index := 128#32
  ![0, v248.toNat, 128]
def k0_off3 (i : grid0.Coords) (k0_t1 : Fin (k0_t1_loop i).trips) : Fin 3 → Nat :=
  let c0_127 : Index := 0#32
  let c0_i32_47 : BitVec 32 := 0#32
  let c1_i32_49 : BitVec 32 := 1#32
  let arg14 : BitVec 32 := Scf.iv c0_i32_47 c1_i32_49 k0_t1
  let c512_i32 : BitVec 32 := 512#32
  let v243 : BitVec 32 := Scalar.muli arg14 c512_i32
  let v244 : BitVec 32 := v243
  let v251 : Index := Scalar.indexCast v244
  let c256_128 : Index := 256#32
  ![0, v251.toNat, 256]
def k0_off4 (i : grid0.Coords) (k0_t1 : Fin (k0_t1_loop i).trips) : Fin 3 → Nat :=
  let c0_129 : Index := 0#32
  let c0_i32_47 : BitVec 32 := 0#32
  let c1_i32_49 : BitVec 32 := 1#32
  let arg14 : BitVec 32 := Scf.iv c0_i32_47 c1_i32_49 k0_t1
  let c512_i32 : BitVec 32 := 512#32
  let v243 : BitVec 32 := Scalar.muli arg14 c512_i32
  let v244 : BitVec 32 := v243
  let v254 : Index := Scalar.indexCast v244
  let c384_130 : Index := 384#32
  ![0, v254.toNat, 384]
@[reducible] def k0_t2_loop (i : grid0.Coords) : Scf.Loop 32 :=
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let v82 : BitVec 32 := Scalar.addi c0_i32_47 v81
  let c1_i32_50 : BitVec 32 := 1#32
  ⟨v85, v82, c1_i32_50⟩
def k0_mult2 (i : grid0.Coords) (k0_t2 : Fin (k0_t2_loop i).trips) : BitVec 32 :=
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let c1_i32_50 : BitVec 32 := 1#32
  let arg14 : BitVec 32 := Scf.iv v85 c1_i32_50 k0_t2
  let c512_i32 : BitVec 32 := 512#32
  let v243 : BitVec 32 := Scalar.muli arg14 c512_i32
  v243
def k0_off5 (i : grid0.Coords) (k0_t2 : Fin (k0_t2_loop i).trips) : Fin 3 → Nat :=
  let c0_123 : Index := 0#32
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let c1_i32_50 : BitVec 32 := 1#32
  let arg14 : BitVec 32 := Scf.iv v85 c1_i32_50 k0_t2
  let c512_i32 : BitVec 32 := 512#32
  let v243 : BitVec 32 := Scalar.muli arg14 c512_i32
  let v244 : BitVec 32 := v243
  let v245 : Index := Scalar.indexCast v244
  let c0_124 : Index := 0#32
  ![0, v245.toNat, 0]
def k0_off6 (i : grid0.Coords) (k0_t2 : Fin (k0_t2_loop i).trips) : Fin 3 → Nat :=
  let c0_125 : Index := 0#32
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let c1_i32_50 : BitVec 32 := 1#32
  let arg14 : BitVec 32 := Scf.iv v85 c1_i32_50 k0_t2
  let c512_i32 : BitVec 32 := 512#32
  let v243 : BitVec 32 := Scalar.muli arg14 c512_i32
  let v244 : BitVec 32 := v243
  let v248 : Index := Scalar.indexCast v244
  let c128_126 : Index := 128#32
  ![0, v248.toNat, 128]
def k0_off7 (i : grid0.Coords) (k0_t2 : Fin (k0_t2_loop i).trips) : Fin 3 → Nat :=
  let c0_127 : Index := 0#32
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let c1_i32_50 : BitVec 32 := 1#32
  let arg14 : BitVec 32 := Scf.iv v85 c1_i32_50 k0_t2
  let c512_i32 : BitVec 32 := 512#32
  let v243 : BitVec 32 := Scalar.muli arg14 c512_i32
  let v244 : BitVec 32 := v243
  let v251 : Index := Scalar.indexCast v244
  let c256_128 : Index := 256#32
  ![0, v251.toNat, 256]
def k0_off8 (i : grid0.Coords) (k0_t2 : Fin (k0_t2_loop i).trips) : Fin 3 → Nat :=
  let c0_129 : Index := 0#32
  let c0_i32_47 : BitVec 32 := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let v81 : BitVec 32 := Scalar.subi v80 c0_i32_47
  let c1_i32_48 : BitVec 32 := 1#32
  let v83 : BitVec 32 := Scalar.divsi v81 c1_i32_48
  let v84 : BitVec 32 := Scalar.muli v83 c1_i32_48
  let v85 : BitVec 32 := Scalar.addi c0_i32_47 v84
  let c1_i32_50 : BitVec 32 := 1#32
  let arg14 : BitVec 32 := Scf.iv v85 c1_i32_50 k0_t2
  let c512_i32 : BitVec 32 := 512#32
  let v243 : BitVec 32 := Scalar.muli arg14 c512_i32
  let v244 : BitVec 32 := v243
  let v254 : Index := Scalar.indexCast v244
  let c384_130 : Index := 384#32
  ![0, v254.toNat, 384]
@[reducible] def k0_t3_loop (i : grid0.Coords) : Scf.Loop 32 :=
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_53 : BitVec 32 := 1#32
  ⟨v80, v93, c1_i32_53⟩
def k0_mult3 (i : grid0.Coords) (k0_t3 : Fin (k0_t3_loop i).trips) : BitVec 32 :=
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let c512_i32 : BitVec 32 := 512#32
  let v243 : BitVec 32 := Scalar.muli arg14 c512_i32
  v243
def k0_off9 (i : grid0.Coords) (k0_t3 : Fin (k0_t3_loop i).trips) : Fin 3 → Nat :=
  let c0_123 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let c512_i32 : BitVec 32 := 512#32
  let v243 : BitVec 32 := Scalar.muli arg14 c512_i32
  let v244 : BitVec 32 := v243
  let v245 : Index := Scalar.indexCast v244
  let c0_124 : Index := 0#32
  ![0, v245.toNat, 0]
def k0_off10 (i : grid0.Coords) (k0_t3 : Fin (k0_t3_loop i).trips) : Fin 3 → Nat :=
  let c0_125 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let c512_i32 : BitVec 32 := 512#32
  let v243 : BitVec 32 := Scalar.muli arg14 c512_i32
  let v244 : BitVec 32 := v243
  let v248 : Index := Scalar.indexCast v244
  let c128_126 : Index := 128#32
  ![0, v248.toNat, 128]
def k0_off11 (i : grid0.Coords) (k0_t3 : Fin (k0_t3_loop i).trips) : Fin 3 → Nat :=
  let c0_127 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let c512_i32 : BitVec 32 := 512#32
  let v243 : BitVec 32 := Scalar.muli arg14 c512_i32
  let v244 : BitVec 32 := v243
  let v251 : Index := Scalar.indexCast v244
  let c256_128 : Index := 256#32
  ![0, v251.toNat, 256]
def k0_off12 (i : grid0.Coords) (k0_t3 : Fin (k0_t3_loop i).trips) : Fin 3 → Nat :=
  let c0_129 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let c512_i32 : BitVec 32 := 512#32
  let v243 : BitVec 32 := Scalar.muli arg14 c512_i32
  let v244 : BitVec 32 := v243
  let v254 : Index := Scalar.indexCast v244
  let c384_130 : Index := 384#32
  ![0, v254.toNat, 384]
def k0_off13 (i : grid0.Coords) (k0_t3 : Fin (k0_t3_loop i).trips) : Fin 4 → Nat :=
  let c0_148 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let v277 : BitVec 32 := Scalar.subi arg14 arg2
  let c1_i32_147 : BitVec 32 := 1#32
  let v278 : BitVec 32 := Scalar.addi v277 c1_i32_147
  let v279 : Index := Scalar.indexCast v278
  let c0_149 : Index := 0#32
  let c0_150 : Index := 0#32
  ![0, v279.toNat, 0, 0]
def k0_off14 (i : grid0.Coords) (k0_t3 : Fin (k0_t3_loop i).trips) : Fin 4 → Nat :=
  let c1_152 : Index := 1#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let v282 : BitVec 32 := Scalar.subi arg14 arg2
  let c1_i32_151 : BitVec 32 := 1#32
  let v283 : BitVec 32 := Scalar.addi v282 c1_i32_151
  let v284 : Index := Scalar.indexCast v283
  let c0_153 : Index := 0#32
  let c0_154 : Index := 0#32
  ![1, v284.toNat, 0, 0]
def k0_off15 (i : grid0.Coords) (k0_t3 : Fin (k0_t3_loop i).trips) : Fin 4 → Nat :=
  let c2_156 : Index := 2#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let v287 : BitVec 32 := Scalar.subi arg14 arg2
  let c1_i32_155 : BitVec 32 := 1#32
  let v288 : BitVec 32 := Scalar.addi v287 c1_i32_155
  let v289 : Index := Scalar.indexCast v288
  let c0_157 : Index := 0#32
  let c0_158 : Index := 0#32
  ![2, v289.toNat, 0, 0]
def k0_off16 (i : grid0.Coords) (k0_t3 : Fin (k0_t3_loop i).trips) : Fin 4 → Nat :=
  let c3_160 : Index := 3#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_53 : BitVec 32 := 1#32
  let arg14 : BitVec 32 := Scf.iv v80 c1_i32_53 k0_t3
  let v292 : BitVec 32 := Scalar.subi arg14 arg2
  let c1_i32_159 : BitVec 32 := 1#32
  let v293 : BitVec 32 := Scalar.addi v292 c1_i32_159
  let v294 : Index := Scalar.indexCast v293
  let c0_161 : Index := 0#32
  let c0_162 : Index := 0#32
  ![3, v294.toNat, 0, 0]
@[reducible] def k0_t4_loop (i : grid0.Coords) : Scf.Loop 32 :=
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let v90 : BitVec 32 := Scalar.addi v80 v89
  let c1_i32_54 : BitVec 32 := 1#32
  ⟨v93, v90, c1_i32_54⟩
def k0_mult4 (i : grid0.Coords) (k0_t4 : Fin (k0_t4_loop i).trips) : BitVec 32 :=
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let c512_i32 : BitVec 32 := 512#32
  let v243 : BitVec 32 := Scalar.muli arg14 c512_i32
  v243
def k0_off17 (i : grid0.Coords) (k0_t4 : Fin (k0_t4_loop i).trips) : Fin 3 → Nat :=
  let c0_123 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let c512_i32 : BitVec 32 := 512#32
  let v243 : BitVec 32 := Scalar.muli arg14 c512_i32
  let v244 : BitVec 32 := v243
  let v245 : Index := Scalar.indexCast v244
  let c0_124 : Index := 0#32
  ![0, v245.toNat, 0]
def k0_off18 (i : grid0.Coords) (k0_t4 : Fin (k0_t4_loop i).trips) : Fin 3 → Nat :=
  let c0_125 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let c512_i32 : BitVec 32 := 512#32
  let v243 : BitVec 32 := Scalar.muli arg14 c512_i32
  let v244 : BitVec 32 := v243
  let v248 : Index := Scalar.indexCast v244
  let c128_126 : Index := 128#32
  ![0, v248.toNat, 128]
def k0_off19 (i : grid0.Coords) (k0_t4 : Fin (k0_t4_loop i).trips) : Fin 3 → Nat :=
  let c0_127 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let c512_i32 : BitVec 32 := 512#32
  let v243 : BitVec 32 := Scalar.muli arg14 c512_i32
  let v244 : BitVec 32 := v243
  let v251 : Index := Scalar.indexCast v244
  let c256_128 : Index := 256#32
  ![0, v251.toNat, 256]
def k0_off20 (i : grid0.Coords) (k0_t4 : Fin (k0_t4_loop i).trips) : Fin 3 → Nat :=
  let c0_129 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let c512_i32 : BitVec 32 := 512#32
  let v243 : BitVec 32 := Scalar.muli arg14 c512_i32
  let v244 : BitVec 32 := v243
  let v254 : Index := Scalar.indexCast v244
  let c384_130 : Index := 384#32
  ![0, v254.toNat, 384]
def k0_off21 (i : grid0.Coords) (k0_t4 : Fin (k0_t4_loop i).trips) : Fin 4 → Nat :=
  let c0_148 : Index := 0#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let v277 : BitVec 32 := Scalar.subi arg14 arg2
  let c1_i32_147 : BitVec 32 := 1#32
  let v278 : BitVec 32 := Scalar.addi v277 c1_i32_147
  let v279 : Index := Scalar.indexCast v278
  let c0_149 : Index := 0#32
  let c0_150 : Index := 0#32
  ![0, v279.toNat, 0, 0]
def k0_off22 (i : grid0.Coords) (k0_t4 : Fin (k0_t4_loop i).trips) : Fin 4 → Nat :=
  let c1_152 : Index := 1#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let v282 : BitVec 32 := Scalar.subi arg14 arg2
  let c1_i32_151 : BitVec 32 := 1#32
  let v283 : BitVec 32 := Scalar.addi v282 c1_i32_151
  let v284 : Index := Scalar.indexCast v283
  let c0_153 : Index := 0#32
  let c0_154 : Index := 0#32
  ![1, v284.toNat, 0, 0]
def k0_off23 (i : grid0.Coords) (k0_t4 : Fin (k0_t4_loop i).trips) : Fin 4 → Nat :=
  let c2_156 : Index := 2#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let v287 : BitVec 32 := Scalar.subi arg14 arg2
  let c1_i32_155 : BitVec 32 := 1#32
  let v288 : BitVec 32 := Scalar.addi v287 c1_i32_155
  let v289 : Index := Scalar.indexCast v288
  let c0_157 : Index := 0#32
  let c0_158 : Index := 0#32
  ![2, v289.toNat, 0, 0]
def k0_off24 (i : grid0.Coords) (k0_t4 : Fin (k0_t4_loop i).trips) : Fin 4 → Nat :=
  let c3_160 : Index := 3#32
  let arg2 : BitVec 32 := BitVec.ofNat 32 (i 2).val
  let c1_i32 : BitVec 32 := 1#32
  let v79 : BitVec 32 := Scalar.subi arg2 c1_i32
  let c0_i32 : BitVec 32 := 0#32
  let v80 : BitVec 32 := Scalar.maxsi v79 c0_i32
  let c1_i32_51 : BitVec 32 := 1#32
  let v88 : BitVec 32 := Scalar.addi arg2 c1_i32_51
  let v89 : BitVec 32 := Scalar.subi v88 v80
  let c1_i32_52 : BitVec 32 := 1#32
  let v91 : BitVec 32 := Scalar.divsi v89 c1_i32_52
  let v92 : BitVec 32 := Scalar.muli v91 c1_i32_52
  let v93 : BitVec 32 := Scalar.addi v80 v92
  let c1_i32_54 : BitVec 32 := 1#32
  let arg14 : BitVec 32 := Scf.iv v93 c1_i32_54 k0_t4
  let v292 : BitVec 32 := Scalar.subi arg14 arg2
  let c1_i32_159 : BitVec 32 := 1#32
  let v293 : BitVec 32 := Scalar.addi v292 c1_i32_159
  let v294 : Index := Scalar.indexCast v293
  let c0_161 : Index := 0#32
  let c0_162 : Index := 0#32
  ![3, v294.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x2x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x4x2x64 : Shape := ⟨5, ![4, 4096, 4, 2, 64]⟩
abbrev S4x4096x4x128 : Shape := ⟨4, ![4, 4096, 4, 128]⟩
abbrev S32x4 : Shape := ⟨2, ![32, 4]⟩
abbrev S64 : Shape := ⟨1, ![64]⟩
abbrev S128 : Shape := ⟨1, ![128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S4096x4096x4 : Shape := ⟨3, ![4096, 4096, 4]⟩
abbrev S4x4096x4096 : Shape := ⟨3, ![4, 4096, 4096]⟩
abbrev S4x4x2x4096x4096 : Shape := ⟨5, ![4, 4, 2, 4096, 4096]⟩
abbrev S1x4x1x4096x4096 : Shape := ⟨5, ![1, 4, 1, 4096, 4096]⟩
abbrev S4x4x2x4096 : Shape := ⟨4, ![4, 4, 2, 4096]⟩
abbrev S4x4x2x4096x1 : Shape := ⟨5, ![4, 4, 2, 4096, 1]⟩
abbrev S4x4x1x4096x4096 : Shape := ⟨5, ![4, 4, 1, 4096, 4096]⟩
abbrev S4x4x4096x4096 : Shape := ⟨4, ![4, 4, 4096, 4096]⟩
abbrev S4x4x128x4096 : Shape := ⟨4, ![4, 4, 128, 4096]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x4096x512 : Shape := ⟨3, ![4, 4096, 512]⟩

abbrev nBuf : Space → Nat
  | .hbm => 124
  | .vmem => 0
  | .smem => 0
  | _ => 0

abbrev bufTy : (tb : Table) → Fin (tcTables nBuf tb) → BufTy
  | .hbm, ⟨0, _⟩ => ⟨S4x4096x4x2x64, .f32⟩
  | .hbm, ⟨1, _⟩ => ⟨S4x4096x4x2x64, .f32⟩
  | .hbm, ⟨2, _⟩ => ⟨S4x4096x4x128, .f32⟩
  | .hbm, ⟨3, _⟩ => ⟨S32x4, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S4096, .i32⟩
  | .hbm, ⟨10, _⟩ => ⟨S4096x1, .i32⟩
  | .hbm, ⟨11, _⟩ => ⟨S1x4096, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .i32⟩
  | .hbm, ⟨33, _⟩ => ⟨S_, .i32⟩
  | .hbm, ⟨34, _⟩ => ⟨S4096x4096, .i32⟩
  | .hbm, ⟨35, _⟩ => ⟨S4096x4096, .i32⟩
  | .hbm, ⟨36, _⟩ => ⟨S_, .i32⟩
  | .hbm, ⟨37, _⟩ => ⟨S4096x4096, .i32⟩
  | .hbm, ⟨38, _⟩ => ⟨S4096x4096, .i1⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i32⟩
  | .hbm, ⟨43, _⟩ => ⟨S_, .i32⟩
  | .hbm, ⟨44, _⟩ => ⟨S4096x4096, .i32⟩
  | .hbm, ⟨45, _⟩ => ⟨S4096x4096, .i1⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S4096x4096x1, .i32⟩
  | .hbm, ⟨51, _⟩ => ⟨S4096x4096x4, .f32⟩
  | .hbm, ⟨52, _⟩ => ⟨S4x4096x4096, .f32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S4x4x2x4096x4096, .f32⟩
  | .hbm, ⟨65, _⟩ => ⟨S_, .f32⟩
  | .hbm, ⟨66, _⟩ => ⟨S4x4x2x4096x4096, .f32⟩
  | .hbm, ⟨67, _⟩ => ⟨S4x4x2x4096x4096, .f32⟩
  | .hbm, ⟨68, _⟩ => ⟨S1x4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S1x4x1x4096x4096, .f32⟩
  | .hbm, ⟨74, _⟩ => ⟨S4x4x2x4096x4096, .f32⟩
  | .hbm, ⟨75, _⟩ => ⟨S4x4x2x4096x4096, .f32⟩
  | .hbm, ⟨76, _⟩ => ⟨S_, .f32⟩
  | .hbm, ⟨77, _⟩ => ⟨S_, .f32⟩
  | .hbm, ⟨78, _⟩ => ⟨S4x4x2x4096x4096, .i1⟩
  | .hbm, ⟨79, _⟩ => ⟨S4x4x2x4096x4096, .f32⟩
  | .hbm, ⟨80, _⟩ => ⟨S4x4x2x4096x4096, .f32⟩
  | .hbm, ⟨81, _⟩ => ⟨S_, .f32⟩
  | .hbm, ⟨82, _⟩ => ⟨S4x4x2x4096, .f32⟩
  | .hbm, ⟨83, _⟩ => ⟨S_, .f32⟩
  | .hbm, ⟨84, _⟩ => ⟨S4x4x2x4096, .f32⟩
  | .hbm, ⟨85, _⟩ => ⟨S4x4x2x4096, .f32⟩
  | .hbm, ⟨86, _⟩ => ⟨S4x4x2x4096x1, .f32⟩
  | .hbm, ⟨87, _⟩ => ⟨S4x4x2x4096x4096, .f32⟩
  | .hbm, ⟨88, _⟩ => ⟨S4x4x2x4096x4096, .f32⟩
  | .hbm, ⟨89, _⟩ => ⟨S4x4x2x4096x4096, .f32⟩
  | .hbm, ⟨90, _⟩ => ⟨S_, .f32⟩
  | .hbm, ⟨91, _⟩ => ⟨S4x4x2x4096, .f32⟩
  | .hbm, ⟨92, _⟩ => ⟨S4x4x2x4096x1, .f32⟩
  | .hbm, ⟨93, _⟩ => ⟨S4x4x2x4096x4096, .f32⟩
  | .hbm, ⟨94, _⟩ => ⟨S4x4x2x4096x4096, .f32⟩
  | .hbm, ⟨95, _⟩ => ⟨S4x4x1x4096x4096, .f32⟩
  | .hbm, ⟨96, _⟩ => ⟨S4x4x4096x4096, .f32⟩
  | .hbm, ⟨97, _⟩ => ⟨S4x4x1x4096x4096, .f32⟩
  | .hbm, ⟨98, _⟩ => ⟨S4x4x4096x4096, .f32⟩
  | .hbm, ⟨99, _⟩ => ⟨S4x4x4096x4096, .f32⟩
  | .hbm, ⟨100, _⟩ => ⟨S4x4x4096x4096, .f32⟩
  | .hbm, ⟨101, _⟩ => ⟨S4x4x4096x4096, .f32⟩
  | .hbm, ⟨102, _⟩ => ⟨S4x4x128x4096, .f32⟩
  | .hbm, ⟨103, _⟩ => ⟨S4x4096x4x128, .f32⟩
  | .hbm, ⟨104, _⟩ => ⟨S4x4096x4x128, .f32⟩
  | .hbm, ⟨105, _⟩ => ⟨S_, .f32⟩
  | .hbm, ⟨106, _⟩ => ⟨S4x4096x4, .f32⟩
  | .hbm, ⟨107, _⟩ => ⟨S4x4096x4x1, .f32⟩
  | .hbm, ⟨108, _⟩ => ⟨S_, .f32⟩
  | .hbm, ⟨109, _⟩ => ⟨S4x4096x4x1, .f32⟩
  | .hbm, ⟨110, _⟩ => ⟨S4x4096x4x1, .f32⟩
  | .hbm, ⟨111, _⟩ => ⟨S_, .f32⟩
  | .hbm, ⟨112, _⟩ => ⟨S4x4096x4x1, .f32⟩
  | .hbm, ⟨113, _⟩ => ⟨S4x4096x4x1, .f32⟩
  | .hbm, ⟨114, _⟩ => ⟨S4x4096x4x1, .f32⟩
  | .hbm, ⟨115, _⟩ => ⟨S4x4096x4x128, .f32⟩
  | .hbm, ⟨116, _⟩ => ⟨S4x4096x4x128, .f32⟩
  | .hbm, ⟨117, _⟩ => ⟨S1x1x1x128, .f32⟩
  | .hbm, ⟨118, _⟩ => ⟨S4x4096x4x128, .f32⟩
  | .hbm, ⟨119, _⟩ => ⟨S4x4096x4x128, .f32⟩
  | .hbm, ⟨120, _⟩ => ⟨S_, .f32⟩
  | .hbm, ⟨121, _⟩ => ⟨S4x4096x4x128, .f32⟩
  | .hbm, ⟨122, _⟩ => ⟨S4x4096x4x128, .f32⟩
  | .hbm, ⟨123, _⟩ => ⟨S4x4096x512, .f32⟩
  | _, _ => ⟨S4x4096x4x2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_15 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024x5376 : Shape := ⟨2, ![1024, 5376]⟩
abbrev S16384x1024 : Shape := ⟨2, ![16384, 1024]⟩
abbrev S16384x1792 : Shape := ⟨2, ![16384, 1792]⟩
abbrev S16384x512 : Shape := ⟨2, ![16384, 512]⟩
abbrev S16384x4x2x64 : Shape := ⟨4, ![16384, 4, 2, 64]⟩
abbrev S16384x4x128 : Shape := ⟨3, ![16384, 4, 128]⟩
abbrev S16384x2048 : Shape := ⟨2, ![16384, 2048]⟩
abbrev S256x1024 : Shape := ⟨2, ![256, 1024]⟩
abbrev S256x1792 : Shape := ⟨2, ![256, 1792]⟩
abbrev S256x512 : Shape := ⟨2, ![256, 512]⟩
abbrev S256x4x2x64 : Shape := ⟨4, ![256, 4, 2, 64]⟩
abbrev S256x4x128 : Shape := ⟨3, ![256, 4, 128]⟩
abbrev S256x2048 : Shape := ⟨2, ![256, 2048]⟩
abbrev S1024x1792 : Shape := ⟨2, ![1024, 1792]⟩
abbrev S1024x512 : Shape := ⟨2, ![1024, 512]⟩
abbrev S256x128 : Shape := ⟨2, ![256, 128]⟩
abbrev S256x1x128 : Shape := ⟨3, ![256, 1, 128]⟩
abbrev S256x64 : Shape := ⟨2, ![256, 64]⟩
abbrev S256x1x1x64 : Shape := ⟨4, ![256, 1, 1, 64]⟩
abbrev S1024x2048 : Shape := ⟨2, ![1024, 2048]⟩

abbrev nBuf : Space → Nat
  | .hbm => 11
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024x5376, .f32⟩
  | .hbm, ⟨2, _⟩ => ⟨S16384x1024, .f32⟩
  | .hbm, ⟨3, _⟩ => ⟨S1024x5376, .bf16⟩
  | .hbm, ⟨4, _⟩ => ⟨S16384x1792, .f32⟩
  | .hbm, ⟨5, _⟩ => ⟨S16384x512, .f32⟩
  | .hbm, ⟨6, _⟩ => ⟨S16384x4x2x64, .f32⟩
  | .hbm, ⟨7, _⟩ => ⟨S16384x4x128, .f32⟩
  | .hbm, ⟨8, _⟩ => ⟨S16384x2048, .f32⟩
  | .hbm, ⟨9, _⟩ => ⟨S16384x512, .bf16⟩
  | .hbm, ⟨10, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1024x5376, .bf16⟩
  | .local _ .vmem, ⟨3, _⟩ => ⟨S256x1792, .f32⟩
  | .local _ .vmem, ⟨4, _⟩ => ⟨S256x1792, .f32⟩
  | .local _ .vmem, ⟨5, _⟩ => ⟨S256x512, .f32⟩
  | .local _ .vmem, ⟨6, _⟩ => ⟨S256x512, .f32⟩
  | .local _ .vmem, ⟨7, _⟩ => ⟨S256x4x2x64, .f32⟩
  | .local _ .vmem, ⟨8, _⟩ => ⟨S256x4x2x64, .f32⟩
  | .local _ .vmem, ⟨9, _⟩ => ⟨S256x4x128, .f32⟩
  | .local _ .vmem, ⟨10, _⟩ => ⟨S256x4x128, .f32⟩
  | .local _ .vmem, ⟨11, _⟩ => ⟨S256x2048, .f32⟩
  | .local _ .vmem, ⟨12, _⟩ => ⟨S256x2048, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_v2_5 : Ref sig .tc := ⟨.hbm, 9, rfl⟩
abbrev main_v2_6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4x2x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
variable {F : FTy → Type} [FloatOps F] [Named F]
def κ : String → Option EReal := fun
  | "qscale" => some (((8 * (Real.log 2))⁻¹ : ℝ) : EReal)
  | _ => none
-- ==== Reference2Ideal.lean ====
abbrev S4x4096x1024 : Shape := ⟨3, ![4, 4096, 1024]⟩
abbrev S1024x5376 : Shape := ⟨2, ![1024, 5376]⟩
abbrev S4x4096x5376 : Shape := ⟨3, ![4, 4096, 5376]⟩
abbrev S4x4096x1792 : Shape := ⟨3, ![4, 4096, 1792]⟩
abbrev S4x4096x512 : Shape := ⟨3, ![4, 4096, 512]⟩
abbrev S_ : Shape := ⟨0, ![]⟩
abbrev S4x4096x2048 : Shape := ⟨3, ![4, 4096, 2048]⟩
abbrev S16384x1792 : Shape := ⟨2, ![16384, 1792]⟩
abbrev S16384x512 : Shape := ⟨2, ![16384, 512]⟩
abbrev S16384x4x2x64 : Shape := ⟨4, ![16384, 4, 2, 64]⟩
abbrev S16384x4x128 : Shape := ⟨3, ![16384, 4, 128]⟩
abbrev S16384x2048 : Shape := ⟨2, ![16384, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5376, .f32⟩
  | .hbm, ⟨2, _⟩ => ⟨S4x4096x5376, .f32⟩
  | .hbm, ⟨3, _⟩ => ⟨S4x4096x1792, .f32⟩
  | .hbm, ⟨4, _⟩ => ⟨S4x4096x512, .f32⟩
  | .hbm, ⟨5, _⟩ => ⟨S_, .f32⟩
  | .hbm, ⟨6, _⟩ => ⟨S4x4096x512, .f32⟩
  | .hbm, ⟨7, _⟩ => ⟨S4x4096x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x512, .f32⟩
  | .hbm, ⟨12, _⟩ => ⟨S4x4096x512, .f32⟩
  | .hbm, ⟨13, _⟩ => ⟨S4x4096x512, .f32⟩
  | .hbm, ⟨14, _⟩ => ⟨S4x4096x512, .f32⟩
  | .hbm, ⟨15, _⟩ => ⟨S4x4096x2048, .f32⟩
  | .hbm, ⟨16, _⟩ => ⟨S16384x1792, .f32⟩
  | .hbm, ⟨17, _⟩ => ⟨S16384x512, .f32⟩
  | .hbm, ⟨18, _⟩ => ⟨S16384x4x2x64, .f32⟩
  | .hbm, ⟨19, _⟩ => ⟨S16384x4x128, .f32⟩
  | .hbm, ⟨20, _⟩ => ⟨S16384x2048, .f32⟩
  | .hbm, ⟨21, _⟩ => ⟨S16384x512, .f32⟩
  | .hbm, ⟨22, _⟩ => ⟨S16384x512, .bf16⟩
  | .hbm, ⟨23, _⟩ => ⟨S16384x512, .f32⟩
  | .hbm, ⟨24, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S16384x1024 : Shape := ⟨2, ![16384, 1024]⟩
abbrev S16384x512 : Shape := ⟨2, ![16384, 512]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 18
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S16384x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S16384x512, .f32⟩
  | .hbm, ⟨11, _⟩ => ⟨S16384x512, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .f32⟩
  | .local _ .vmem, ⟨7, _⟩ => ⟨S512x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4x4096x1024 : Shape := ⟨3, ![4, 4096, 1024]⟩
abbrev S4x4096x512 : Shape := ⟨3, ![4, 4096, 512]⟩
abbrev S16384x2048 : Shape := ⟨2, ![16384, 2048]⟩
abbrev S512x1024 : Shape := ⟨2, ![512, 1024]⟩
abbrev S1024x1024 : Shape := ⟨2, ![1024, 1024]⟩
abbrev S1024 : Shape := ⟨1, ![1024]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S16384x2048, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4x4096x2048, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x1024, .f32⟩
  | .hbm, ⟨22, _⟩ => ⟨S_, .f32⟩
  | .hbm, ⟨23, _⟩ => ⟨S4x4096x1024, .f32⟩
  | .hbm, ⟨24, _⟩ => ⟨S4x4096x1024, .f32⟩
  | .hbm, ⟨25, _⟩ => ⟨S_, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S1x1x1024, .f32⟩
  | .hbm, ⟨62, _⟩ => ⟨S4x4096x1024, .f32⟩
  | .hbm, ⟨63, _⟩ => ⟨S4x4096x1024, .f32⟩
  | .hbm, ⟨64, _⟩ => ⟨S1x1x1024, .f32⟩
  | .hbm, ⟨65, _⟩ => ⟨S4x4096x1024, .f32⟩
  | .hbm, ⟨66, _⟩ => ⟨S4x4096x1024, .f32⟩
  | .hbm, ⟨67, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S4x8x8x2816 : Shape := ⟨4, ![4, 8, 8, 2816]⟩
abbrev S1x512x1024 : Shape := ⟨3, ![1, 512, 1024]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S1x1x8x1408 : Shape := ⟨4, ![1, 1, 8, 1408]⟩
abbrev S512x1024 : Shape := ⟨2, ![512, 1024]⟩
abbrev S2x8x1408 : Shape := ⟨3, ![2, 8, 1408]⟩
abbrev S512x1 : Shape := ⟨2, ![512, 1]⟩
abbrev S512x1408 : Shape := ⟨2, ![512, 1408]⟩
abbrev S1x8x1408 : Shape := ⟨3, ![1, 8, 1408]⟩
abbrev S8x1408 : Shape := ⟨2, ![8, 1408]⟩
abbrev S512 : Shape := ⟨1, ![512]⟩

abbrev nBuf : Space → Nat
  | .hbm => 15
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x5632, .bf16⟩
  | .hbm, ⟨8, _⟩ => ⟨S2816x1024, .bf16⟩
  | .hbm, ⟨9, _⟩ => ⟨S1x5632, .f32⟩
  | .hbm, ⟨10, _⟩ => ⟨S1x1024, .f32⟩
  | .hbm, ⟨11, _⟩ => ⟨S1x1024, .f32⟩
  | .hbm, ⟨12, _⟩ => ⟨S4x4096x1024, .f32⟩
  | .hbm, ⟨13, _⟩ => ⟨S4x8x8x2816, .f32⟩
  | .hbm, ⟨14, _⟩ => ⟨S4x8x8x2816, .f32⟩
  | .local _ .vmem, ⟨0, _⟩ => ⟨S1x512x1024, .f32⟩
  | .local _ .vmem, ⟨1, _⟩ => ⟨S1x512x1024, .f32⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S3x1408, .f32⟩
  | .local _ .vmem, ⟨7, _⟩ => ⟨S3x1408, .f32⟩
  | .local _ .vmem, ⟨8, _⟩ => ⟨S3x1408, .f32⟩
  | .local _ .vmem, ⟨9, _⟩ => ⟨S3x1408, .f32⟩
  | .local _ .vmem, ⟨10, _⟩ => ⟨S1x1408, .f32⟩
  | .local _ .vmem, ⟨11, _⟩ => ⟨S1x1408, .f32⟩
  | .local _ .vmem, ⟨12, _⟩ => ⟨S1x1408, .f32⟩
  | .local _ .vmem, ⟨13, _⟩ => ⟨S1x1408, .f32⟩
  | .local _ .vmem, ⟨14, _⟩ => ⟨S1408x1024, .bf16⟩
  | .local _ .vmem, ⟨15, _⟩ => ⟨S1408x1024, .bf16⟩
  | .local _ .vmem, ⟨16, _⟩ => ⟨S1x1024, .f32⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x1x8x1408, .f32⟩
  | .local _ .vmem, ⟨21, _⟩ => ⟨S1x1x8x1408, .f32⟩
  | .local _ .vmem, ⟨22, _⟩ => ⟨S1x1x8x1408, .f32⟩
  | .local _ .vmem, ⟨23, _⟩ => ⟨S1x1x8x1408, .f32⟩
  | .local _ .vmem, ⟨24, _⟩ => ⟨S512x1024, .f32⟩
  | .local _ .vmem, ⟨25, _⟩ => ⟨S2x8x1408, .f32⟩
  | .local _ .vmem, ⟨26, _⟩ => ⟨S2x8x1408, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨3, ![4, 8, 2], ![false, false, false]⟩

def k0_off1 (i : grid0.Coords) : Fin 3 → Nat :=
  let arg2 : BitVec 32 := BitVec.ofNat 32 (i 2).val
  let v12 : Index := Scalar.indexCast arg2
  let c0_6 : Index := 0#32
  let c0_7 : Index := 0#32
  ![v12.toNat, 0, 0]
def k0_cond4 (i : grid0.Coords) : BitVec 1 :=
  let arg2 : BitVec 32 := BitVec.ofNat 32 (i 2).val
  let c1_i32_57 : BitVec 32 := 1#32
  let v136 : BitVec 1 := Scalar.cmpi .eq arg2 c1_i32_57
  let v137 : BitVec 32 := Scalar.extui v136
  let c0_i32_58 : BitVec 32 := 0#32
  let v138 : BitVec 1 := Scalar.cmpi .ne v137 c0_i32_58
  v138

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S3x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x8x1408 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x8x1408 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== Reference4Ideal.lean ====
abbrev S4x4096x1024 : Shape := ⟨3, ![4, 4096, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩
abbrev S4x2x5632 : Shape := ⟨3, ![4, 2, 5632]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S4x4096 : Shape := ⟨2, ![4, 4096]⟩
abbrev S4x4096x1 : Shape := ⟨3, ![4, 4096, 1]⟩
abbrev S1x1x1024 : Shape := ⟨3, ![1, 1, 1024]⟩
abbrev S4x8x512x5632 : Shape := ⟨4, ![4, 8, 512, 5632]⟩
abbrev S4x8x8x5632 : Shape := ⟨4, ![4, 8, 8, 5632]⟩
abbrev S4x8x8x2816 : Shape := ⟨4, ![4, 8, 8, 2816]⟩

abbrev nBuf : Space → Nat
  | .hbm => 88
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S4x2x5632, .f32⟩
  | .hbm, ⟨9, _⟩ => ⟨S4x4096x5632, .f32⟩
  | .hbm, ⟨10, _⟩ => ⟨S4x4098x5632, .f32⟩
  | .hbm, ⟨11, _⟩ => ⟨S4x4096x5632, .f32⟩
  | .hbm, ⟨12, _⟩ => ⟨S1x5632, .f32⟩
  | .hbm, ⟨13, _⟩ => ⟨S5632, .f32⟩
  | .hbm, ⟨14, _⟩ => ⟨S1x1x5632, .f32⟩
  | .hbm, ⟨15, _⟩ => ⟨S4x4096x5632, .f32⟩
  | .hbm, ⟨16, _⟩ => ⟨S4x4096x5632, .f32⟩
  | .hbm, ⟨17, _⟩ => ⟨S_, .f32⟩
  | .hbm, ⟨18, _⟩ => ⟨S4x4096x5632, .f32⟩
  | .hbm, ⟨19, _⟩ => ⟨S4x4096x5632, .f32⟩
  | .hbm, ⟨20, _⟩ => ⟨S4x4096x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S4x4096x5632, .f32⟩
  | .hbm, ⟨25, _⟩ => ⟨S4x4096x5632, .f32⟩
  | .hbm, ⟨26, _⟩ => ⟨S4x4096x5632, .f32⟩
  | .hbm, ⟨27, _⟩ => ⟨S4x4096x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S4x4096x5632, .f32⟩
  | .hbm, ⟨32, _⟩ => ⟨S4x4096x5632, .f32⟩
  | .hbm, ⟨33, _⟩ => ⟨S4x4096x5632, .f32⟩
  | .hbm, ⟨34, _⟩ => ⟨S1x1x5632, .f32⟩
  | .hbm, ⟨35, _⟩ => ⟨S4x4096x5632, .f32⟩
  | .hbm, ⟨36, _⟩ => ⟨S4x4096x5632, .f32⟩
  | .hbm, ⟨37, _⟩ => ⟨S4x4096x2816, .f32⟩
  | .hbm, ⟨38, _⟩ => ⟨S4x4096x2816, .f32⟩
  | .hbm, ⟨39, _⟩ => ⟨S_, .f32⟩
  | .hbm, ⟨40, _⟩ => ⟨S4x4096x2816, .f32⟩
  | .hbm, ⟨41, _⟩ => ⟨S4x4096x2816, .f32⟩
  | .hbm, ⟨42, _⟩ => ⟨S4x4096x2816, .f32⟩
  | .hbm, ⟨43, _⟩ => ⟨S_, .f32⟩
  | .hbm, ⟨44, _⟩ => ⟨S4x4096x2816, .f32⟩
  | .hbm, ⟨45, _⟩ => ⟨S4x4096x2816, .f32⟩
  | .hbm, ⟨46, _⟩ => ⟨S4x4096x2816, .f32⟩
  | .hbm, ⟨47, _⟩ => ⟨S4x4096x2816, .f32⟩
  | .hbm, ⟨48, _⟩ => ⟨S4x4096x2816, .f32⟩
  | .hbm, ⟨49, _⟩ => ⟨S4x4096x1024, .f32⟩
  | .hbm, ⟨50, _⟩ => ⟨S_, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096, .f32⟩
  | .hbm, ⟨65, _⟩ => ⟨S4x4096x1, .f32⟩
  | .hbm, ⟨66, _⟩ => ⟨S_, .f32⟩
  | .hbm, ⟨67, _⟩ => ⟨S4x4096x1, .f32⟩
  | .hbm, ⟨68, _⟩ => ⟨S4x4096x1, .f32⟩
  | .hbm, ⟨69, _⟩ => ⟨S4x4096x1024, .f32⟩
  | .hbm, ⟨70, _⟩ => ⟨S4x4096x1024, .f32⟩
  | .hbm, ⟨71, _⟩ => ⟨S_, .f32⟩
  | .hbm, ⟨72, _⟩ => ⟨S4x4096x1, .f32⟩
  | .hbm, ⟨73, _⟩ => ⟨S4x4096x1, .f32⟩
  | .hbm, ⟨74, _⟩ => ⟨S4x4096x1, .f32⟩
  | .hbm, ⟨75, _⟩ => ⟨S4x4096x1024, .f32⟩
  | .hbm, ⟨76, _⟩ => ⟨S4x4096x1024, .f32⟩
  | .hbm, ⟨77, _⟩ => ⟨S1x1x1024, .f32⟩
  | .hbm, ⟨78, _⟩ => ⟨S4x4096x1024, .f32⟩
  | .hbm, ⟨79, _⟩ => ⟨S4x4096x1024, .f32⟩
  | .hbm, ⟨80, _⟩ => ⟨S1x1x1024, .f32⟩
  | .hbm, ⟨81, _⟩ => ⟨S4x4096x1024, .f32⟩
  | .hbm, ⟨82, _⟩ => ⟨S4x4096x1024, .f32⟩
  | .hbm, ⟨83, _⟩ => ⟨S4x4096x5632, .f32⟩
  | .hbm, ⟨84, _⟩ => ⟨S4x8x512x5632, .f32⟩
  | .hbm, ⟨85, _⟩ => ⟨S4x8x8x5632, .f32⟩
  | .hbm, ⟨86, _⟩ => ⟨S4x8x8x2816, .f32⟩
  | .hbm, ⟨87, _⟩ => ⟨S4x8x8x2816, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_1 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Proof.Blocks.lean ====
module

public import proofs.«01_k».proof.Proof.Gen.KernelIdeal.Value
public import Idealize.ShloMosaic.Lib.Pointwise
public import Idealize.ShloMosaic.Lib.Pipeline.ValueKit

/-!
# The blocks of the call

Which part of its array each grid point is given, and where its output block lies.
-/

set_option maxRecDepth 16384

@[expose] public section

noncomputable section

namespace Cert.KernelIdeal.Gen

open Idealize.ShloMosaic Idealize.ShloMosaic.TcCoe Idealize.SL.Sem

variable (m : (ℓ : Loc nD τ sig) → Buf (Elt Ideal) ℓ)

theorem idx : ∀ t : Fin cfg0.N, win0_0.index t = ![t.val / 8, t.val % 8, 0] ∧ win0_1.index t = ![t.val / 8, 0, 0] ∧ win0_2.index t = ![t.val / 8, 0, 0]
    ∧ win0_3.index t = ![0, 0, 0, 0] ∧ win0_4.index t = ![0, 0] ∧ win0_5.index t = ![0, 0] ∧ win0_6.index t = ![0, 0] ∧ win0_7.index t = ![0, 0] ∧ win0_8.index t = ![0, 0]
    ∧ win0_9.index t = ![t.val / 8, t.val % 8, 0] :=
  (by decide +kernel : ∀ t : Fin grid0.N, _)

theorem coords_val : ∀ t : Fin cfg0.N, (grid0.coords t 0).val = t.val / 8 ∧ (grid0.coords t 2).val = t.val % 8 :=
  (by decide +kernel : ∀ t : Fin grid0.N, _)

theorem blk0 (c : Dev nD) (t : Fin cfg0.N) (b : Fin 4) (a : Fin 8) (hb : t.val / 8 = b.val) (ha : t.val % 8 = a.val) (r : Fin 512) (x : Fin 512) :
    iblk m c 0 t (ix3 0 r x) = V m c main_v5 (ix3 b ⟨512 * a.val + r.val, by omega⟩ x) := by
  blk_ext [iblk, idx t]
theorem blk1 (c : Dev nD) (t : Fin cfg0.N) (b : Fin 4) (hb : t.val / 8 = b.val) (s : Fin 4096) (x : Fin 512) :
    iblk m c 1 t (ix3 0 s x) = V m c main_v7 (ix3 b s x) := by
  blk_ext [iblk, idx t]
theorem blk2 (c : Dev nD) (t : Fin cfg0.N) (b : Fin 4) (hb : t.val / 8 = b.val) (s : Fin 4096) (x : Fin 512) :
    iblk m c 2 t (ix3 0 s x) = V m c main_v9 (ix3 b s x) := by
  blk_ext [iblk, idx t]
theorem blk3 (c : Dev nD) (t : Fin cfg0.N) (h : Fin 4) (d : Fin 2) (r x : Fin 512) :
    iblk m c 3 t (ix4 h d r x) = V m c main_v69 (ix4 h d r x) := by
  blk_ext [iblk, idx t]
theorem blk4 (c : Dev nD) (t : Fin cfg0.N) (x : Fin 64) : iblk m c 4 t (ix2 0 x) = V m c main_v10 (ix2 0 x) := by
  blk_ext [iblk, idx t]
theorem blk5 (c : Dev nD) (t : Fin cfg0.N) (x : Fin 64) : iblk m c 5 t (ix2 0 x) = V m c main_v11 (ix2 0 x) := by
  blk_ext [iblk, idx t]
theorem blk6 (c : Dev nD) (t : Fin cfg0.N) (x : Fin 64) : iblk m c 6 t (ix2 0 x) = V m c main_v12 (ix2 0 x) := by
  blk_ext [iblk, idx t]
theorem blk7 (c : Dev nD) (t : Fin cfg0.N) (x : Fin 64) : iblk m c 7 t (ix2 0 x) = V m c main_v13 (ix2 0 x) := by
  blk_ext [iblk, idx t]
theorem blk8 (c : Dev nD) (t : Fin cfg0.N) (x : Fin 128) : iblk m c 8 t (ix2 0 x) = V m c main_v70 (ix2 0 x) := by
  blk_ext [iblk, idx t]

theorem emb9 (t : Fin cfg0.N) (b : Fin 4) (a : Fin 8) (hb : t.val / 8 = b.val) (ha : t.val % 8 = a.val) (y : S1x512x512.Idx) :
    (((cfg0.win 9).blk t).view.emb y : S4x4096x512.Idx) = ix3 b ⟨512 * a.val + (y 1).val, by have := (y 1).isLt; change (y 1).val < 512 at this; omega⟩ (y 2) := by
  blk_ext [idx t]

end Cert.KernelIdeal.Gen

end
-- ==== Proof.Bias.lean ====
module

public import Idealize.ShloMosaic.Lib.Pointwise

/-!
# The bucket of a distance

The relative bias is a row of a table, chosen by a bucket of the distance between a query and a key.
From 513 positions on the bucket is the last one.
-/

@[expose] public section

open Idealize.ShloMosaic

namespace Cert.Bias

noncomputable section

/-- The bucket of a distance, as the programs compute it. -/
def bword (w : BitVec 32) : BitVec 32 :=
  Scalar.select (IntOp.cmpi CmpIPredicate.slt w 16#32) w
    (IntOp.minsi
      (IntOp.addi 16#32
        (FloatOps.fptosi (F := Ideal) (φ := .f32) 32
          (Ideal.div
              (Ideal.log
                (Ideal.div (FloatOps.sitofp (F := Ideal) FTy.f32 (IntOp.maxsi w 1#32)) (Ideal.ofBits FTy.f32 1098907648#32)))
              (Ideal.ofBits FTy.f32 1074075026#32) *
            Ideal.ofBits FTy.f32 1098907648#32)))
      31#32)

/-- The table's row an index word reads: wrapped when negative, then clamped. -/
def clampRow (v : BitVec 32) : Fin 32 :=
  ⟨min (Scalar.select (IntOp.cmpi CmpIPredicate.slt v 0#32) (IntOp.addi v 32#32) v).toInt.toNat 31, by omega⟩

/-- The table's row of a distance. -/
def row (n : ℕ) : Fin 32 := clampRow (bword (BitVec.ofNat 32 n))

theorem ofBits_16 : Ideal.ofBits .f32 1098907648#32 = ((16 : ℝ) : EReal) := by
  simp only [Ideal.ofBits, Ideal.ieee]
  norm_num [BitVec.extractLsb', Nat.shiftRight_eq_div_pow]

theorem ofBits_log8 : Ideal.ofBits .f32 1074075026#32 = ((8721810 * (2 : ℝ) ^ (-22 : ℤ) : ℝ) : EReal) := by
  simp only [Ideal.ofBits, Ideal.ieee]
  norm_num [BitVec.extractLsb', Nat.shiftRight_eq_div_pow]

theorem toInt_small (n : ℕ) (h : n < 16384) : (BitVec.ofNat 32 n).toInt = n := by
  rw [BitVec.toInt_eq_toNat_of_lt (by rw [BitVec.toNat_ofNat]; omega), BitVec.toNat_ofNat]
  omega

theorem bword_31 (x : ℤ) (h : 15 ≤ x) (h' : x ≤ 4096) :
    IntOp.minsi (IntOp.addi 16#32 (BitVec.ofInt 32 x)) 31#32 = 31#32 := by
  obtain ⟨n, rfl⟩ := Int.eq_ofNat_of_zero_le (by omega : 0 ≤ x)
  unfold IntOp.minsi IntOp.addi
  rw [if_neg]
  intro hh
  rw [BitVec.slt_iff_toInt_lt] at hh
  have : (16#32 + BitVec.ofInt 32 (n : ℤ)) = BitVec.ofNat 32 (16 + n) := by
    rw [BitVec.ofNat_add]; rfl
  rw [this, toInt_small _ (by omega)] at hh
  have h2 : (31#32 : BitVec 32).toInt = 31 := by decide
  rw [h2] at hh
  omega

theorem row_far (n : ℕ) (h : 513 ≤ n) (h' : n < 4096) : row n = 31 := by
  have hw : (BitVec.ofNat 32 n).toInt = n := toInt_small n (by omega)
  have h16 : (16#32 : BitVec 32).toInt = 16 := by decide
  have h1 : (1#32 : BitVec 32).toInt = 1 := by decide
  have hb : bword (BitVec.ofNat 32 n) = 31#32 := by
    unfold bword
    have hc : IntOp.cmpi CmpIPredicate.slt (BitVec.ofNat 32 n) 16#32 = 0#1 := by
      have : (BitVec.ofNat 32 n).slt 16#32 = false := by
        rw [Bool.eq_false_iff]
        intro hh
        rw [BitVec.slt_iff_toInt_lt, hw, h16] at hh
        omega
      show BitVec.ofBool ((BitVec.ofNat 32 n).slt 16#32) = _
      rw [this]; rfl
    have hm : IntOp.maxsi (BitVec.ofNat 32 n) 1#32 = BitVec.ofNat 32 n := by
      unfold IntOp.maxsi
      rw [if_pos]
      rw [BitVec.slt_iff_toInt_lt, hw, h1]
      omega
    rw [hc, hm]
    show IntOp.minsi (IntOp.addi 16#32 (Ideal.fptosi 32 (Ideal.div (Ideal.log (Ideal.div (((BitVec.ofNat 32 n).toInt : ℝ) : EReal) _)) _ * _))) 31#32 = 31#32
    have hn : (513 : ℝ) ≤ n := by exact_mod_cast h
    have hn' : (n : ℝ) ≤ 4096 := by exact_mod_cast h'.le
    have hx : ¬ ((n : ℝ) * (1 / 16) ≤ 0) := by linarith
    rw [hw, ofBits_16, ofBits_log8, Ideal.div_coe (show (16 : ℝ) ≠ 0 by norm_num), Int.cast_natCast, ← EReal.coe_mul, Ideal.log_coe, if_neg hx,
      Ideal.div_coe (by positivity), ← EReal.coe_mul, ← EReal.coe_mul]
    set y : ℝ := Real.log ((n : ℝ) * (1 / 16)) * (1 / (8721810 * (2 : ℝ) ^ (-22 : ℤ))) * 16 with hy
    have hlo : (5 : ℝ) * (1 / 2) ≤ Real.log ((n : ℝ) * (1 / 16)) := by
      have h2 := Real.one_sub_inv_le_log_of_pos (x := 2) (by norm_num)
      have h32 : Real.log ((2 : ℝ) ^ 5) ≤ Real.log ((n : ℝ) * (1 / 16)) := Real.log_le_log (by norm_num) (by linarith)
      rw [Real.log_pow] at h32
      push_cast at h32
      norm_num at h2
      linarith
    have hhi : Real.log ((n : ℝ) * (1 / 16)) ≤ 256 := by
      have := Real.log_le_sub_one_of_pos (x := (n : ℝ) * (1 / 16)) (by linarith)
      linarith
    have hc2 : (1 / (8721810 * (2 : ℝ) ^ (-22 : ℤ))) * 16 = 4194304 * 16 / 8721810 := by
      rw [show ((2 : ℝ) ^ (-22 : ℤ)) = 1 / 4194304 by norm_num]; norm_num
    have hy15 : 15 ≤ y := by rw [hy, mul_assoc, hc2]; linarith
    have hyhi : y ≤ 4096 := by rw [hy, mul_assoc, hc2]; linarith
    have hf : 15 ≤ ⌊y⌋ := Int.le_floor.2 (by exact_mod_cast hy15)
    have hf' : ⌊y⌋ ≤ 4096 := by
      have := (Int.floor_le y).trans hyhi
      exact_mod_cast this
    have ht : Ideal.toIntClamped (-(2 ^ (32 - 1) : Nat)) ((2 ^ (32 - 1) : Nat) - 1) (y : EReal) = ⌊y⌋ := by
      show max _ (min _ (if 0 ≤ y then ⌊y⌋ else ⌈y⌉)) = _
      rw [if_pos (by linarith)]
      norm_num
      omega
    unfold Ideal.fptosi
    rw [ht]
    exact bword_31 _ hf hf'
  unfold row
  rw [hb]
  decide +kernel

/-- The distance word of two positions: nonnegative part of their difference. -/
theorem dist_word (a b : ℕ) (ha : a < 8192) (hb : b < 8192) :
    IntOp.maxsi (IntOp.subi (BitVec.ofNat 32 a) (BitVec.ofNat 32 b)) 0#32 = BitVec.ofNat 32 (a - b) := by
  have ht : (BitVec.ofNat 32 a - BitVec.ofNat 32 b).toInt = (a : ℤ) - b := by
    rw [BitVec.toInt_sub, toInt_small _ (by omega), toInt_small _ (by omega), Int.bmod_eq_of_le (by omega) (by omega)]
  have h0 : (0#32 : BitVec 32).toInt = 0 := by decide
  refine BitVec.eq_of_toInt_eq ?_
  unfold IntOp.maxsi IntOp.subi
  split
  · rename_i hh
    rw [BitVec.slt_iff_toInt_lt, h0, ht] at hh
    rw [ht, toInt_small _ (by omega)]
    omega
  · rename_i hh
    rw [BitVec.slt_iff_toInt_lt, h0, ht] at hh
    rw [h0, toInt_small _ (by omega)]
    omega

/-- The order of two positions. -/
theorem sle_word (a b : ℕ) (ha : a < 8192) (hb : b < 8192) :
    IntOp.cmpi CmpIPredicate.sle (BitVec.ofNat 32 a) (BitVec.ofNat 32 b) = if a ≤ b then 1#1 else 0#1 := by
  show BitVec.ofBool ((BitVec.ofNat 32 a).sle (BitVec.ofNat 32 b)) = _
  have : (BitVec.ofNat 32 a).sle (BitVec.ofNat 32 b) = decide (a ≤ b) := by
    rw [BitVec.sle_eq_decide, toInt_small _ (by omega), toInt_small _ (by omega)]
    simp
  rw [this]
  by_cases h : a ≤ b <;> simp [h]

/-- Whether a difference of positions is nonnegative. -/
theorem sge_word (a b : ℕ) (ha : a < 8192) (hb : b < 8192) :
    IntOp.cmpi CmpIPredicate.sge (IntOp.subi (BitVec.ofNat 32 a) (BitVec.ofNat 32 b)) 0#32 = if b ≤ a then 1#1 else 0#1 := by
  show BitVec.ofBool ((0#32).sle (BitVec.ofNat 32 a - BitVec.ofNat 32 b)) = _
  have h0 : (0#32 : BitVec 32).toInt = 0 := by decide
  have : (0#32).sle (BitVec.ofNat 32 a - BitVec.ofNat 32 b) = decide (b ≤ a) := by
    rw [BitVec.sle_eq_decide, h0, BitVec.toInt_sub, toInt_small _ (by omega), toInt_small _ (by omega), Int.bmod_eq_of_le (by omega) (by omega)]
    simp
  rw [this]
  by_cases h : b ≤ a <;> simp [h]

/-- A query's position within two tiles. -/
theorem tile_word (i r : ℕ) (hi : i < 2) (hr : r < 512) :
    IntOp.addi (IntOp.muli (IntOp.subi 1#32 (BitVec.ofNat 32 i)) 512#32) (BitVec.ofNat 32 r)
      = BitVec.ofNat 32 ((1 - i) * 512 + r) := by
  interval_cases i
  · show (1#32 - BitVec.ofNat 32 0) * 512#32 + BitVec.ofNat 32 r = _
    rw [BitVec.ofNat_add]; rfl
  · show (1#32 - BitVec.ofNat 32 1) * 512#32 + BitVec.ofNat 32 r = _
    rw [BitVec.ofNat_add]; rfl

end

end Cert.Bias
-- ==== Proof.Online.lean ====
module

public import Idealize.ShloMosaic.Lib.Pointwise

/-!
# A softmax accumulated tile by tile

One row of a softmax, base two, over scores in the extended reals where a masked score is `⊥`.
A score's weight is `2 ^ score`, a masked score's is zero.  The running maximum `m`, running total
`l` and running weighted sum `a` stand for the total weight `W` and the weighted sum `U` seen so
far, both scaled by `2 ^ (-m)`.
-/

@[expose] public section

open Idealize.ShloMosaic

namespace Cert.Online

/-- The weight of a score: `2 ^ s`, and zero of a masked one. -/
noncomputable def wt (s : EReal) : ℝ := if s = ⊥ then 0 else (2 : ℝ) ^ s.toReal

@[simp] theorem wt_bot : wt ⊥ = 0 := by simp [wt]

@[simp] theorem wt_coe (r : ℝ) : wt (r : EReal) = (2 : ℝ) ^ r := by simp [wt]

theorem wt_nonneg (s : EReal) : 0 ≤ wt s := by
  unfold wt; split <;> positivity

/-- A running maximum, total and weighted sum stand for `W` and `U`. -/
def Inv (W U : ℝ) (m l a : EReal) : Prop :=
  (m = ⊥ ∧ l = 0 ∧ a = 0 ∧ W = 0 ∧ U = 0) ∨
    ∃ M : ℝ, m = (M : EReal) ∧ l = (((2 : ℝ) ^ (-M) * W : ℝ) : EReal) ∧
      a = (((2 : ℝ) ^ (-M) * U : ℝ) : EReal)

theorem inv_start : Inv 0 0 ⊥ 0 0 := Or.inl ⟨rfl, rfl, rfl, rfl, rfl⟩

theorem exp2_sub (s : EReal) (hs : s ≠ ⊤) (M : ℝ) :
    Ideal.exp2 (s - (M : EReal)) = (((2 : ℝ) ^ (-M) * wt s : ℝ) : EReal) := by
  induction s with
  | bot => simp
  | top => exact absurd rfl hs
  | coe r =>
    rw [← EReal.coe_sub, Ideal.exp2_coe, wt_coe, ← Real.rpow_add (by norm_num)]
    congr 1
    show (2 : ℝ) ^ (r - M) = _
    congr 1; ring

theorem coe_sum {ι : Type*} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem le_fold {ι : Type*} (t : Finset ι) (b : EReal) (f : ι → EReal) (k : ι) (hk : k ∈ t) :
    f k ≤ t.fold max b f := (Finset.le_fold_max _).2 (Or.inr ⟨k, hk, le_rfl⟩)

theorem fold_ne_top {ι : Type*} (t : Finset ι) (f : ι → EReal) (hf : ∀ k, f k ≠ ⊤) :
    t.fold max ⊥ f ≠ ⊤ :=
  ((Finset.fold_max_lt _).2 ⟨bot_lt_top, fun k _ => lt_top_iff_ne_top.2 (hf k)⟩).ne

/-- One tile more. -/
theorem inv_step {ι : Type*} [Fintype ι] (s : ι → EReal) (hs : ∀ k, s k ≠ ⊤) (v : ι → ℝ)
    {W U : ℝ} {m l a : EReal} (h : Inv W U m l a) (m' : EReal)
    (hm' : m' = max m (Finset.univ.fold max ⊥ s)) :
    Inv (W + ∑ k, wt (s k)) (U + ∑ k, wt (s k) * v k) m'
      (Ideal.exp2 (m - m') * l + ∑ k, Ideal.exp2 (s k - m'))
      (Ideal.exp2 (m - m') * a + ∑ k, Ideal.exp2 (s k - m') * (v k : EReal)) := by
  have hm : m ≠ ⊤ := by
    rcases h with ⟨h, -⟩ | ⟨M, h, -⟩ <;> simp [h]
  have htop : m' ≠ ⊤ := by
    rw [hm']; exact (max_lt (lt_top_iff_ne_top.2 hm) (lt_top_iff_ne_top.2 (fold_ne_top _ s hs))).ne
  induction m' with
  | top => exact absurd rfl htop
  | bot =>
    have hmb : m = ⊥ := le_bot_iff.1 (hm' ▸ le_max_left _ _)
    have hsb : ∀ k, s k = ⊥ := fun k =>
      le_bot_iff.1 (hm' ▸ (le_fold _ ⊥ s k (Finset.mem_univ k)).trans (le_max_right _ _))
    rcases h with ⟨-, hl, ha, hW, hU⟩ | ⟨M, h, -⟩
    · left
      simp [hmb, hsb, hl, ha, hW, hU]
    · exact absurd (h.symm.trans hmb) (EReal.coe_ne_bot M)
  | coe M' =>
    right
    refine ⟨M', rfl, ?_, ?_⟩
    · have e : ∑ k, Ideal.exp2 (s k - (M' : EReal)) =
          (((2 : ℝ) ^ (-M') * ∑ k, wt (s k) : ℝ) : EReal) := by
        rw [Finset.mul_sum, coe_sum]
        exact Finset.sum_congr rfl fun k _ => exp2_sub _ (hs k) M'
      rw [e, exp2_sub m hm M']
      rcases h with ⟨hb, hl, -, hW, -⟩ | ⟨M, hb, hl, -⟩
      · rw [hl, hW, hb]; simp
      · rw [hl, hb, wt_coe, ← EReal.coe_mul, ← EReal.coe_add]
        congr 1
        have : (2 : ℝ) ^ M * (2 : ℝ) ^ (-M) = 1 := by
          rw [← Real.rpow_add (by norm_num)]; simp
        linear_combination ((2 : ℝ) ^ (-M') * W) * this
    · have e : ∑ k, Ideal.exp2 (s k - (M' : EReal)) * (v k : EReal) =
          (((2 : ℝ) ^ (-M') * ∑ k, wt (s k) * v k : ℝ) : EReal) := by
        rw [Finset.mul_sum, coe_sum]
        refine Finset.sum_congr rfl fun k _ => ?_
        rw [exp2_sub _ (hs k) M', ← EReal.coe_mul, mul_assoc]
      rw [e, exp2_sub m hm M']
      rcases h with ⟨hb, -, ha, -, hU⟩ | ⟨M, hb, -, ha⟩
      · rw [ha, hU, hb]; simp
      · rw [ha, hb, wt_coe, ← EReal.coe_mul, ← EReal.coe_add]
        congr 1
        have : (2 : ℝ) ^ M * (2 : ℝ) ^ (-M) = 1 := by
          rw [← Real.rpow_add (by norm_num)]; simp
        linear_combination ((2 : ℝ) ^ (-M') * U) * this

/-- The weighted sum over the total, at the end: the quotient of what they stand for. -/
theorem inv_div {W U : ℝ} {m l a : EReal} (h : Inv W U m l a) (hW : 0 < W) (c : ℝ) :
    a * Ideal.div (c : EReal) l = ((c * (U / W) : ℝ) : EReal) := by
  rcases h with ⟨-, -, -, h0, -⟩ | ⟨M, -, hl, ha⟩
  · exact absurd h0 hW.ne'
  · have h2 : (0 : ℝ) < (2 : ℝ) ^ (-M) := by positivity
    rw [hl, ha, Ideal.div_coe (by positivity), ← EReal.coe_mul, ← EReal.coe_mul]
    congr 1
    field_simp

end Cert.Online
-- ==== Proof.Ref.lean ====
module

public import proofs.«01_k».proof.Proof.Gen.ReferenceIdeal.Run
public import proofs.«01_k».proof.Proof.Bias
public import proofs.«01_k».proof.Proof.Online

/-!
# What the reference computes

Each of the reference's values read at an index, as a real number.
-/

set_option maxRecDepth 16384

@[expose] public section

noncomputable section

namespace Cert.Rows

open Idealize.ShloMosaic

/-- The weight of a score: its exponential, and zero of a masked one. -/
def ex (s : EReal) : ℝ := if s = ⊥ then 0 else Real.exp s.toReal

@[simp] theorem ex_bot : ex ⊥ = 0 := by simp [ex]
@[simp] theorem ex_coe (r : ℝ) : ex (r : EReal) = Real.exp r := by simp [ex]
theorem ex_nonneg (s : EReal) : 0 ≤ ex s := by unfold ex; split <;> positivity

theorem exp_sub (s : EReal) (hs : s ≠ ⊤) (M : ℝ) :
    Ideal.exp (s - (M : EReal)) = ((ex s * Real.exp (-M) : ℝ) : EReal) := by
  induction s with
  | bot => simp
  | top => exact absurd rfl hs
  | coe r =>
    rw [← EReal.coe_sub, Ideal.exp_coe, ex_coe, ← Real.exp_add]
    congr 1

/-- The score of a query row and a key row: masked after the query. -/
def score (n : ℕ) (q k : Fin n → ℝ) (t : ℝ) (r s : ℕ) : EReal :=
  if s ≤ r then (((∑ x, q x * k x) * (1 / 8) + t : ℝ) : EReal) else ⊥

theorem score_ne_top (n : ℕ) (q k : Fin n → ℝ) (t : ℝ) (r s : ℕ) : score n q k t r s ≠ ⊤ := by
  unfold score; split
  · exact EReal.coe_ne_top _
  · exact bot_ne_top

theorem score_ne_bot (n : ℕ) (q k : Fin n → ℝ) (t : ℝ) (r s : ℕ) (h : s ≤ r) : score n q k t r s ≠ ⊥ := by
  unfold score; rw [if_pos h]; exact EReal.coe_ne_bot _

theorem ofBits_8th : Ideal.ofBits .f32 1040187392#32 = ((1 / 8 : ℝ) : EReal) := by
  simp only [Ideal.ofBits, Ideal.ieee]
  norm_num [BitVec.extractLsb', Nat.shiftRight_eq_div_pow]

theorem ofBits_128 : Ideal.ofBits .f32 0x43000000#32 = ((128 : ℝ) : EReal) := by
  simp only [Ideal.ofBits, Ideal.ieee]
  norm_num [BitVec.extractLsb', Nat.shiftRight_eq_div_pow]

theorem ofBits_128th : Ideal.ofBits .f32 0x3C000000#32 = ((1 / 128 : ℝ) : EReal) := by
  simp only [Ideal.ofBits, Ideal.ieee]
  norm_num [BitVec.extractLsb', Nat.shiftRight_eq_div_pow]

theorem ofBits_bot : Ideal.ofBits .f32 4286578688#32 = ⊥ := by
  simp only [Ideal.ofBits, Ideal.ieee]
  norm_num [BitVec.extractLsb', Nat.shiftRight_eq_div_pow]

end Cert.Rows

namespace Cert.ReferenceIdeal.Value

open Cert.ReferenceIdeal Cert.ReferenceIdeal.Gen Idealize.ShloMosaic Idealize.ShloMosaic.TcCoe Idealize.SL.Sem Idealize.ShloMosaic.StableHlo
open Cert.Bias Cert.Rows

variable (V0 : Valuation τ sig (Elt Ideal))

/-- The reference's result. -/
def REF : FVec Ideal S4x4096x512 .f32 := shapeCast _ (mulf (mulf (mulf (res_main_v73 V0) (broadcastInDim S4x4096x4x128 ![0, 1, 2, 3] bcast_S4x4096x4x1_S4x4096x4x128_0_1_2_3 (Host.rsqrt (addf (Host.divf (broadcastInDim S4x4096x4x1 ![0, 1, 2] bcast_S4x4096x4_S4x4096x4x1_0_1_2 (Host.reduceAdd (mulf (res_main_v73 V0) (res_main_v73 V0)) (constant S_ .f32 0x00000000#32) reducesTo_S4x4096x4x128_S4x4096x4_d3 h_S_)) (broadcastInDim S4x4096x4x1 ![] bcast_S_S4x4096x4x1 (constant S_ .f32 0x43000000#32))) (broadcastInDim S4x4096x4x1 ![] bcast_S_S4x4096x4x1 (constant S_ .f32 0x3727C5AC#32)))))) (broadcastInDim S4x4096x4x128 ![0, 1, 2, 3] bcast_S1x1x1x128_S4x4096x4x128_0_1_2_3 (broadcastInDim S1x1x1x128 ![3] bcast_S128_S1x1x1x128_3 (V0 (Proc.devRef .tc main_arg8))))) (broadcastInDim S4x4096x4x128 ![] bcast_S_S4x4096x4x128 (constant S_ .f32 0x3F4CCCCD#32))) shapeCasts_S4x4096x4x128_S4x4096x512

theorem v7_apply (r s : Fin 4096) :
    (res_main_v7 (F := Ideal) V0 : IVec S4096x4096 32) (ix2 r s) = BitVec.ofNat 32 (r.val - s.val) := by
  unfold res_main_v7 res_main_v0
  pointwise
  exact dist_word _ _ (by omega) (by omega)

theorem v25_apply (r s : Fin 4096) :
    (res_main_v25 (F := Ideal) V0 : IVec S4096x4096 32) (ix2 r s) = bword (BitVec.ofNat 32 (r.val - s.val)) := by
  rw [← v7_apply V0 r s]
  unfold res_main_v25
  pointwise
  rfl

/-- The table gathered at an array of rows. -/
theorem gather_apply (T : FVec Ideal S32x4 .f32) (I : IVec S4096x4096x1 32) (r s : Fin 4096) (h : Fin 4) :
    Host.gather gather_S32x4_S4096x4096x1_S4096x4096x4_2_0_n_n_0_2_14 T I (ix3 r s h)
      = T (ix2 ⟨min (I (ix3 r s 0)).toInt.toNat 31, by omega⟩ h) := by
  unfold Host.gather
  congr 1
  funext a
  refine Fin.ext ?_
  set d := gather_S32x4_S4096x4096x1_S4096x4096x4_2_0_n_n_0_2_14 with hd
  show d.start (ix3 r s h) I a + d.batchCoord (ix3 r s h) a + d.offCoord (ix3 r s h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 r s h) ⟨List.idxOf (0 : Fin 2) d.startIndexMap,
        List.idxOf_lt_length_iff.2 (List.mem_singleton.mpr rfl)⟩ = ix3 r s 0 := by
      funext b; refine Fin.ext ?_
      match b with
      | ⟨0, _⟩ => rfl
      | ⟨1, _⟩ => rfl
      | ⟨2, _⟩ => rfl
    rw [hsi]
    rfl
  · rw [GatherDims.batchCoord_eq_zero _ _ _ List.not_mem_nil]
    unfold GatherDims.start
    rw [dif_neg (show ¬ (1 : Fin 2) ∈ d.startIndexMap by decide)]
    simp only [Nat.zero_add]
    rfl

theorem gather_row (T : FVec Ideal S32x4 .f32) (w : IVec S4096x4096 32) (r s : Fin 4096) (h : Fin 4) :
    Host.gather gather_S32x4_S4096x4096x1_S4096x4096x4_2_0_n_n_0_2_14 T
        (broadcastInDim S4096x4096x1 ![0, 1] bcast_S4096x4096_S4096x4096x1_0_1
          (select (cmpi CmpIPredicate.slt w (broadcastInDim S4096x4096 ![] bcast_S_S4096x4096 (constantI S_ 32 0#32)))
            (addi w (broadcastInDim S4096x4096 ![] bcast_S_S4096x4096 (constantI S_ 32 32#32))) w)) (ix3 r s h)
      = T (ix2 (clampRow (w (ix2 r s))) h) := by
  rw [gather_apply]
  refine congrArg (fun n => T (ix2 n h)) (Fin.ext ?_)
  show min (BitVec.toInt _).toNat 31 = min (BitVec.toInt _).toNat 31
  refine congrArg (fun v : BitVec 32 => min v.toInt.toNat 31) ?_
  pointwise

theorem dot_real (X Y : FVec Ideal S4x4096x4x2x64 .f32) (q k : Fin 4 → Fin 4096 → Fin 4 → Fin 2 → Fin 64 → ℝ)
    (hq : ∀ b r h c x, X (ix5 b r h c x) = ((q b r h c x : ℝ) : EReal))
    (hk : ∀ b r h c x, Y (ix5 b r h c x) = ((k b r h c x : ℝ) : EReal)) (b h : Fin 4) (c : Fin 2) (r s : Fin 4096) :
    (∑ x, X (ix5 b r h c x) * Y (ix5 b s h c x)) = ((∑ x, q b r h c x * k b s h c x : ℝ) : EReal) := by
  rw [Cert.Online.coe_sum]
  exact Finset.sum_congr rfl fun x _ => by rw [hq, hk, EReal.coe_mul]

theorem v53_apply (q k : Fin 4 → Fin 4096 → Fin 4 → Fin 2 → Fin 64 → ℝ) (T : Fin 32 → Fin 4 → ℝ)
    (hq : ∀ b r h c x, (V0 (Proc.devRef .tc main_arg0) : FVec Ideal S4x4096x4x2x64 .f32) (ix5 b r h c x) = ((q b r h c x : ℝ) : EReal))
    (hk : ∀ b r h c x, (V0 (Proc.devRef .tc main_arg1) : FVec Ideal S4x4096x4x2x64 .f32) (ix5 b r h c x) = ((k b r h c x : ℝ) : EReal))
    (hT : ∀ n h, (V0 (Proc.devRef .tc main_arg3) : FVec Ideal S32x4 .f32) (ix2 n h) = ((T n h : ℝ) : EReal))
    (b h : Fin 4) (c : Fin 2) (r s : Fin 4096) :
    (res_main_v53 (F := Ideal) V0 : FVec Ideal S4x4x2x4096x4096 .f32) (ix5 b h c r s)
      = score 64 (q b r h c) (k b s h c) (T (row (r.val - s.val)) h) r.val s.val := by
  unfold res_main_v53 res_main_v0
  have e25 := v25_apply V0 r s
  generalize (res_main_v25 (F := Ideal) V0 : IVec S4096x4096 32) = w25 at e25 ⊢
  pointwise
  rw [gather_row, sle_word _ _ (by omega) (by omega), e25]
  unfold score
  have hs := dot_real (V0 (Proc.devRef .tc main_arg0)) (V0 (Proc.devRef .tc main_arg1)) q k hq hk b h c r s
  by_cases hle : s.val ≤ r.val
  · rw [if_pos hle, if_pos hle, ValueIdx.select_one, EReal.coe_add, EReal.coe_mul, ← ofBits_8th, ← hs, ← hT]
    rfl
  · rw [if_neg hle, if_neg hle, ValueIdx.select_zero]
    exact ofBits_bot

end Cert.ReferenceIdeal.Value

end
-- ==== Proof.Chain.lean ====
module

public import proofs.«01_k».proof.Proof.Gen.KernelIdeal.Loops
public import Idealize.ShloMosaic.Lib.Pointwise
public import Idealize.ShloMosaic.Lib.WritesUnit

/-!
# One chain of the attention

The kernel carries eight chains: four heads, two score maps each.  A trip of a loop takes one tile of
keys and values and does the same to each chain: the running maximum, the running total and the
accumulator are brought to the new maximum and the tile is added.
-/

set_option maxRecDepth 16384

@[expose] public section

noncomputable section

namespace Cert.KernelIdeal.Gen

open Idealize.ShloMosaic Idealize.ShloMosaic.TcCoe Idealize.SL.Sem

variable {F : FTy → Type} [FloatOps F] [Named F]

/-- What a loop carries: eight running maxima, then eight running totals. -/
abbrev Carried (F : FTy → Type) : Type := FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32 × FVec F S512x1 .f32

/-- Chain `n`'s running maximum. -/
def getM (n : Fin 8) (a : Carried F) : FVec F S512x1 .f32 :=
  ![a.1, a.2.1, a.2.2.1, a.2.2.2.1, a.2.2.2.2.1, a.2.2.2.2.2.1, a.2.2.2.2.2.2.1, a.2.2.2.2.2.2.2.1] n

/-- Chain `n`'s running total. -/
def getL (n : Fin 8) (a : Carried F) : FVec F S512x1 .f32 :=
  ![a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2] n

/-- The head of chain `n`. -/
def head8 : Fin 8 → Fin 4 := ![0, 0, 1, 1, 2, 2, 3, 3]

/-- The scores of a query tile against a key tile. -/
def chS (q : FVec F S512x128 .bf16) (kt : Vec F S1x512x128 .bf16) : FVec F S512x512 .f32 := k0_pay10 q kt

/-- … with a bias tile added. -/
def chSb (q : FVec F S512x128 .bf16) (kt : Vec F S1x512x128 .bf16) (b : Vec F S1x1x512x512 .f32) :
    FVec F S512x512 .f32 := k0_pay138 (chS q kt) b

/-- The new maximum. -/
def chM (m : FVec F S512x1 .f32) (s : FVec F S512x512 .f32) : FVec F S512x1 .f32 := k0_pay18 m s

/-- The new total. -/
def chL (m l : FVec F S512x1 .f32) (s : FVec F S512x512 .f32) : FVec F S512x1 .f32 :=
  k0_pay42 l (k0_pay26 m s) (k0_pay34 m s)

/-- The new accumulator. -/
def chO (m : FVec F S512x1 .f32) (s : FVec F S512x512 .f32) (acc : Vec F S1x512x128 .f32)
    (vt : Vec F S1x512x128 .bf16) : Vec F S1x512x128 .f32 :=
  k0_pay52 (k0_pay6 vt) (k0_pay50 (k0_pay34 m s) acc) (k0_pay51 (k0_pay26 m s))

theorem slot_inb (n : Fin 8) : ∀ a, (![n.val, 0, 0] : Fin 3 → ℕ) a + S1x512x128.size a ≤ S8x512x128.size a := by
  revert n; decide +kernel

/-- Chain `n`'s accumulator in the scratch buffer. -/
def slot (arg13 : Memref sig .tc .vmem S8x512x128 .f32) (n : Fin 8) (f : BufTy.Contents (Elt F) arg13.view.ty) :
    Vec F S1x512x128 .f32 :=
  View.readAt (Elt F) arg13.view
    (Rect.unit (s := S8x512x128) ![n.val, 0, 0] S1x512x128.size (slot_inb n)).toLoadRect f

/-- The key (or value) tile of head `h` at trip `k` of loop 1. -/
def tile1 (i : grid0.Coords) (arg4 : Memref sig .tc .vmem S1x4096x512 .bf16) (X : BufTy.Contents (Elt F) arg4.view.ty)
    (k : Fin (k0_t1_loop i).trips) (h : Fin 4) : Vec F S1x512x128 .bf16 :=
  ![View.readAt (Elt F) arg4.view (Rect.unit (s := S1x4096x512) (k0_off1 i k) S1x512x128.size (k0_off1_inb i k)).toLoadRect X,
    View.readAt (Elt F) arg4.view (Rect.unit (s := S1x4096x512) (k0_off2 i k) S1x512x128.size (k0_off2_inb i k)).toLoadRect X,
    View.readAt (Elt F) arg4.view (Rect.unit (s := S1x4096x512) (k0_off3 i k) S1x512x128.size (k0_off3_inb i k)).toLoadRect X,
    View.readAt (Elt F) arg4.view (Rect.unit (s := S1x4096x512) (k0_off4 i k) S1x512x128.size (k0_off4_inb i k)).toLoadRect X] h

/-- The key (or value) tile of head `h` at trip `k` of loop 3. -/
def tile3 (i : grid0.Coords) (arg4 : Memref sig .tc .vmem S1x4096x512 .bf16) (X : BufTy.Contents (Elt F) arg4.view.ty)
    (k : Fin (k0_t3_loop i).trips) (h : Fin 4) : Vec F S1x512x128 .bf16 :=
  ![View.readAt (Elt F) arg4.view (Rect.unit (s := S1x4096x512) (k0_off9 i k) S1x512x128.size (k0_off9_inb i k)).toLoadRect X,
    View.readAt (Elt F) arg4.view (Rect.unit (s := S1x4096x512) (k0_off10 i k) S1x512x128.size (k0_off10_inb i k)).toLoadRect X,
    View.readAt (Elt F) arg4.view (Rect.unit (s := S1x4096x512) (k0_off11 i k) S1x512x128.size (k0_off11_inb i k)).toLoadRect X,
    View.readAt (Elt F) arg4.view (Rect.unit (s := S1x4096x512) (k0_off12 i k) S1x512x128.size (k0_off12_inb i k)).toLoadRect X] h

/-- The bias tile of head `h` at trip `k` of loop 3. -/
def bias3 (i : grid0.Coords) (arg6 : Memref sig .tc .vmem S4x2x512x512 .f32) (X : BufTy.Contents (Elt F) arg6.view.ty)
    (k : Fin (k0_t3_loop i).trips) (h : Fin 4) : Vec F S1x1x512x512 .f32 :=
  ![View.readAt (Elt F) arg6.view (Rect.unit (s := S4x2x512x512) (k0_off13 i k) S1x1x512x512.size (k0_off13_inb i k)).toLoadRect X,
    View.readAt (Elt F) arg6.view (Rect.unit (s := S4x2x512x512) (k0_off14 i k) S1x1x512x512.size (k0_off14_inb i k)).toLoadRect X,
    View.readAt (Elt F) arg6.view (Rect.unit (s := S4x2x512x512) (k0_off15 i k) S1x1x512x512.size (k0_off15_inb i k)).toLoadRect X,
    View.readAt (Elt F) arg6.view (Rect.unit (s := S4x2x512x512) (k0_off16 i k) S1x1x512x512.size (k0_off16_inb i k)).toLoadRect X] h

theorem trip1_m (n : Fin 8) (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec F S512x128 .bf16) (v16 : FVec F S512x128 .bf16) (v23 : FVec F S512x128 .bf16) (v30 : FVec F S512x128 .bf16) (v37 : FVec F S512x128 .bf16) (v44 : FVec F S512x128 .bf16) (v51 : FVec F S512x128 .bf16) (v58 : FVec F S512x128 .bf16) (v63 : FVec F S512x1 .f32) (v64 : FVec F S512x1 .f32) (v65 : FVec F S512x1 .f32) (v66 : FVec F S512x1 .f32) (v67 : FVec F S512x1 .f32) (v68 : FVec F S512x1 .f32) (v69 : FVec F S512x1 .f32) (v70 : FVec F S512x1 .f32) (X_arg4 : BufTy.Contents (Elt F) arg4.view.ty) (X_arg5 : BufTy.Contents (Elt F) arg5.view.ty) (k : Fin (k0_t1_loop i).trips)
    (acc : Carried F) (f : BufTy.Contents (Elt F) arg13.view.ty) :
    getM n (tripR_k0_t1 (F := F) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 k acc f) = chM (getM n acc) (chS (![v9, v16, v23, v30, v37, v44, v51, v58] n) (tile1 i arg4 X_arg4 k (head8 n))) := by
  unfold tripR_k0_t1 trip_k0_t1
  fin_cases n <;> rfl

theorem trip1_l (n : Fin 8) (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec F S512x128 .bf16) (v16 : FVec F S512x128 .bf16) (v23 : FVec F S512x128 .bf16) (v30 : FVec F S512x128 .bf16) (v37 : FVec F S512x128 .bf16) (v44 : FVec F S512x128 .bf16) (v51 : FVec F S512x128 .bf16) (v58 : FVec F S512x128 .bf16) (v63 : FVec F S512x1 .f32) (v64 : FVec F S512x1 .f32) (v65 : FVec F S512x1 .f32) (v66 : FVec F S512x1 .f32) (v67 : FVec F S512x1 .f32) (v68 : FVec F S512x1 .f32) (v69 : FVec F S512x1 .f32) (v70 : FVec F S512x1 .f32) (X_arg4 : BufTy.Contents (Elt F) arg4.view.ty) (X_arg5 : BufTy.Contents (Elt F) arg5.view.ty) (k : Fin (k0_t1_loop i).trips)
    (acc : Carried F) (f : BufTy.Contents (Elt F) arg13.view.ty) :
    getL n (tripR_k0_t1 (F := F) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 k acc f) = chL (getM n acc) (getL n acc) (chS (![v9, v16, v23, v30, v37, v44, v51, v58] n) (tile1 i arg4 X_arg4 k (head8 n))) := by
  unfold tripR_k0_t1 trip_k0_t1
  fin_cases n <;> rfl

theorem trip1_L (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec F S512x128 .bf16) (v16 : FVec F S512x128 .bf16) (v23 : FVec F S512x128 .bf16) (v30 : FVec F S512x128 .bf16) (v37 : FVec F S512x128 .bf16) (v44 : FVec F S512x128 .bf16) (v51 : FVec F S512x128 .bf16) (v58 : FVec F S512x128 .bf16) (v63 : FVec F S512x1 .f32) (v64 : FVec F S512x1 .f32) (v65 : FVec F S512x1 .f32) (v66 : FVec F S512x1 .f32) (v67 : FVec F S512x1 .f32) (v68 : FVec F S512x1 .f32) (v69 : FVec F S512x1 .f32) (v70 : FVec F S512x1 .f32) (X_arg4 : BufTy.Contents (Elt F) arg4.view.ty) (X_arg5 : BufTy.Contents (Elt F) arg5.view.ty) (k : Fin (k0_t1_loop i).trips)
    (acc : Carried F) (f : BufTy.Contents (Elt F) arg13.view.ty) :
    tripL_k0_t1 (F := F) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 k acc f = [⟨Rect.unit (s := S8x512x128) ![7, 0, 0] ![1, 512, 128] (slot_inb 7), chO (getM 7 acc) (chS (![v9, v16, v23, v30, v37, v44, v51, v58] 7) (tile1 i arg4 X_arg4 k (head8 7))) (slot arg13 7 f) (tile1 i arg5 X_arg5 k (head8 7))⟩,
      ⟨Rect.unit (s := S8x512x128) ![6, 0, 0] ![1, 512, 128] (slot_inb 6), chO (getM 6 acc) (chS (![v9, v16, v23, v30, v37, v44, v51, v58] 6) (tile1 i arg4 X_arg4 k (head8 6))) (slot arg13 6 f) (tile1 i arg5 X_arg5 k (head8 6))⟩,
      ⟨Rect.unit (s := S8x512x128) ![5, 0, 0] ![1, 512, 128] (slot_inb 5), chO (getM 5 acc) (chS (![v9, v16, v23, v30, v37, v44, v51, v58] 5) (tile1 i arg4 X_arg4 k (head8 5))) (slot arg13 5 f) (tile1 i arg5 X_arg5 k (head8 5))⟩,
      ⟨Rect.unit (s := S8x512x128) ![4, 0, 0] ![1, 512, 128] (slot_inb 4), chO (getM 4 acc) (chS (![v9, v16, v23, v30, v37, v44, v51, v58] 4) (tile1 i arg4 X_arg4 k (head8 4))) (slot arg13 4 f) (tile1 i arg5 X_arg5 k (head8 4))⟩,
      ⟨Rect.unit (s := S8x512x128) ![3, 0, 0] ![1, 512, 128] (slot_inb 3), chO (getM 3 acc) (chS (![v9, v16, v23, v30, v37, v44, v51, v58] 3) (tile1 i arg4 X_arg4 k (head8 3))) (slot arg13 3 f) (tile1 i arg5 X_arg5 k (head8 3))⟩,
      ⟨Rect.unit (s := S8x512x128) ![2, 0, 0] ![1, 512, 128] (slot_inb 2), chO (getM 2 acc) (chS (![v9, v16, v23, v30, v37, v44, v51, v58] 2) (tile1 i arg4 X_arg4 k (head8 2))) (slot arg13 2 f) (tile1 i arg5 X_arg5 k (head8 2))⟩,
      ⟨Rect.unit (s := S8x512x128) ![1, 0, 0] ![1, 512, 128] (slot_inb 1), chO (getM 1 acc) (chS (![v9, v16, v23, v30, v37, v44, v51, v58] 1) (tile1 i arg4 X_arg4 k (head8 1))) (slot arg13 1 f) (tile1 i arg5 X_arg5 k (head8 1))⟩,
      ⟨Rect.unit (s := S8x512x128) ![0, 0, 0] ![1, 512, 128] (slot_inb 0), chO (getM 0 acc) (chS (![v9, v16, v23, v30, v37, v44, v51, v58] 0) (tile1 i arg4 X_arg4 k (head8 0))) (slot arg13 0 f) (tile1 i arg5 X_arg5 k (head8 0))⟩] := by
  unfold tripL_k0_t1 trip_k0_t1
  rfl

theorem trip3_m (n : Fin 8) (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec F S512x128 .bf16) (v16 : FVec F S512x128 .bf16) (v23 : FVec F S512x128 .bf16) (v30 : FVec F S512x128 .bf16) (v37 : FVec F S512x128 .bf16) (v44 : FVec F S512x128 .bf16) (v51 : FVec F S512x128 .bf16) (v58 : FVec F S512x128 .bf16) (v63 : FVec F S512x1 .f32) (v64 : FVec F S512x1 .f32) (v65 : FVec F S512x1 .f32) (v66 : FVec F S512x1 .f32) (v67 : FVec F S512x1 .f32) (v68 : FVec F S512x1 .f32) (v69 : FVec F S512x1 .f32) (v70 : FVec F S512x1 .f32) (v80 : BitVec 32) (X_arg4 : BufTy.Contents (Elt F) arg4.view.ty) (X_arg5 : BufTy.Contents (Elt F) arg5.view.ty) (X_arg6 : BufTy.Contents (Elt F) arg6.view.ty) (k : Fin (k0_t3_loop i).trips)
    (acc : Carried F) (f : BufTy.Contents (Elt F) arg13.view.ty) :
    getM n (tripR_k0_t3 (F := F) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 k acc f) = chM (getM n acc) (chSb (![v9, v16, v23, v30, v37, v44, v51, v58] n) (tile3 i arg4 X_arg4 k (head8 n)) (bias3 i arg6 X_arg6 k (head8 n))) := by
  unfold tripR_k0_t3 trip_k0_t3
  fin_cases n <;> rfl

theorem trip3_l (n : Fin 8) (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec F S512x128 .bf16) (v16 : FVec F S512x128 .bf16) (v23 : FVec F S512x128 .bf16) (v30 : FVec F S512x128 .bf16) (v37 : FVec F S512x128 .bf16) (v44 : FVec F S512x128 .bf16) (v51 : FVec F S512x128 .bf16) (v58 : FVec F S512x128 .bf16) (v63 : FVec F S512x1 .f32) (v64 : FVec F S512x1 .f32) (v65 : FVec F S512x1 .f32) (v66 : FVec F S512x1 .f32) (v67 : FVec F S512x1 .f32) (v68 : FVec F S512x1 .f32) (v69 : FVec F S512x1 .f32) (v70 : FVec F S512x1 .f32) (v80 : BitVec 32) (X_arg4 : BufTy.Contents (Elt F) arg4.view.ty) (X_arg5 : BufTy.Contents (Elt F) arg5.view.ty) (X_arg6 : BufTy.Contents (Elt F) arg6.view.ty) (k : Fin (k0_t3_loop i).trips)
    (acc : Carried F) (f : BufTy.Contents (Elt F) arg13.view.ty) :
    getL n (tripR_k0_t3 (F := F) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 k acc f) = chL (getM n acc) (getL n acc) (chSb (![v9, v16, v23, v30, v37, v44, v51, v58] n) (tile3 i arg4 X_arg4 k (head8 n)) (bias3 i arg6 X_arg6 k (head8 n))) := by
  unfold tripR_k0_t3 trip_k0_t3
  fin_cases n <;> rfl

theorem trip3_L (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec F S512x128 .bf16) (v16 : FVec F S512x128 .bf16) (v23 : FVec F S512x128 .bf16) (v30 : FVec F S512x128 .bf16) (v37 : FVec F S512x128 .bf16) (v44 : FVec F S512x128 .bf16) (v51 : FVec F S512x128 .bf16) (v58 : FVec F S512x128 .bf16) (v63 : FVec F S512x1 .f32) (v64 : FVec F S512x1 .f32) (v65 : FVec F S512x1 .f32) (v66 : FVec F S512x1 .f32) (v67 : FVec F S512x1 .f32) (v68 : FVec F S512x1 .f32) (v69 : FVec F S512x1 .f32) (v70 : FVec F S512x1 .f32) (v80 : BitVec 32) (X_arg4 : BufTy.Contents (Elt F) arg4.view.ty) (X_arg5 : BufTy.Contents (Elt F) arg5.view.ty) (X_arg6 : BufTy.Contents (Elt F) arg6.view.ty) (k : Fin (k0_t3_loop i).trips)
    (acc : Carried F) (f : BufTy.Contents (Elt F) arg13.view.ty) :
    tripL_k0_t3 (F := F) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 k acc f = [⟨Rect.unit (s := S8x512x128) ![7, 0, 0] ![1, 512, 128] (slot_inb 7), chO (getM 7 acc) (chSb (![v9, v16, v23, v30, v37, v44, v51, v58] 7) (tile3 i arg4 X_arg4 k (head8 7)) (bias3 i arg6 X_arg6 k (head8 7))) (slot arg13 7 f) (tile3 i arg5 X_arg5 k (head8 7))⟩,
      ⟨Rect.unit (s := S8x512x128) ![6, 0, 0] ![1, 512, 128] (slot_inb 6), chO (getM 6 acc) (chSb (![v9, v16, v23, v30, v37, v44, v51, v58] 6) (tile3 i arg4 X_arg4 k (head8 6)) (bias3 i arg6 X_arg6 k (head8 6))) (slot arg13 6 f) (tile3 i arg5 X_arg5 k (head8 6))⟩,
      ⟨Rect.unit (s := S8x512x128) ![5, 0, 0] ![1, 512, 128] (slot_inb 5), chO (getM 5 acc) (chSb (![v9, v16, v23, v30, v37, v44, v51, v58] 5) (tile3 i arg4 X_arg4 k (head8 5)) (bias3 i arg6 X_arg6 k (head8 5))) (slot arg13 5 f) (tile3 i arg5 X_arg5 k (head8 5))⟩,
      ⟨Rect.unit (s := S8x512x128) ![4, 0, 0] ![1, 512, 128] (slot_inb 4), chO (getM 4 acc) (chSb (![v9, v16, v23, v30, v37, v44, v51, v58] 4) (tile3 i arg4 X_arg4 k (head8 4)) (bias3 i arg6 X_arg6 k (head8 4))) (slot arg13 4 f) (tile3 i arg5 X_arg5 k (head8 4))⟩,
      ⟨Rect.unit (s := S8x512x128) ![3, 0, 0] ![1, 512, 128] (slot_inb 3), chO (getM 3 acc) (chSb (![v9, v16, v23, v30, v37, v44, v51, v58] 3) (tile3 i arg4 X_arg4 k (head8 3)) (bias3 i arg6 X_arg6 k (head8 3))) (slot arg13 3 f) (tile3 i arg5 X_arg5 k (head8 3))⟩,
      ⟨Rect.unit (s := S8x512x128) ![2, 0, 0] ![1, 512, 128] (slot_inb 2), chO (getM 2 acc) (chSb (![v9, v16, v23, v30, v37, v44, v51, v58] 2) (tile3 i arg4 X_arg4 k (head8 2)) (bias3 i arg6 X_arg6 k (head8 2))) (slot arg13 2 f) (tile3 i arg5 X_arg5 k (head8 2))⟩,
      ⟨Rect.unit (s := S8x512x128) ![1, 0, 0] ![1, 512, 128] (slot_inb 1), chO (getM 1 acc) (chSb (![v9, v16, v23, v30, v37, v44, v51, v58] 1) (tile3 i arg4 X_arg4 k (head8 1)) (bias3 i arg6 X_arg6 k (head8 1))) (slot arg13 1 f) (tile3 i arg5 X_arg5 k (head8 1))⟩,
      ⟨Rect.unit (s := S8x512x128) ![0, 0, 0] ![1, 512, 128] (slot_inb 0), chO (getM 0 acc) (chSb (![v9, v16, v23, v30, v37, v44, v51, v58] 0) (tile3 i arg4 X_arg4 k (head8 0)) (bias3 i arg6 X_arg6 k (head8 0))) (slot arg13 0 f) (tile3 i arg5 X_arg5 k (head8 0))⟩] := by
  unfold tripL_k0_t3 trip_k0_t3
  rfl

end Cert.KernelIdeal.Gen

end
-- ==== Proof.Row.lean ====
module

public import proofs.«01_k».proof.Proof.Chain
public import proofs.«01_k».proof.Proof.Online

/-!
# A chain, one row at a time

A chain's scores, maximum, total and accumulator read at one query row, over the extended reals, and
the invariant of `Online` kept by a trip.
-/

set_option maxRecDepth 16384

@[expose] public section

noncomputable section

namespace Cert.KernelIdeal.Gen

open Idealize.ShloMosaic Idealize.ShloMosaic.TcCoe Idealize.SL.Sem
open Cert.Online

theorem chS_apply (q : FVec Ideal S512x128 .bf16) (kt : Vec Ideal S1x512x128 .bf16) (r x : Fin 512) :
    chS q kt (ix2 r x) = ∑ e : Fin 128, (q (ix2 r e) : EReal) * (kt (ix3 0 x e) : EReal) := by
  unfold chS k0_pay10 k0_pay2
  pointwise []

theorem chSb_apply (q : FVec Ideal S512x128 .bf16) (kt : Vec Ideal S1x512x128 .bf16)
    (b : Vec Ideal S1x1x512x512 .f32) (r x : Fin 512) :
    chSb q kt b (ix2 r x) = ((∑ e : Fin 128, (q (ix2 r e) : EReal) * (kt (ix3 0 x e) : EReal)) + (b (ix4 0 0 r x) : EReal)) := by
  rw [← chS_apply]
  unfold chSb k0_pay138 k0_pay134
  pointwise []

theorem ofBits_ninf : Ideal.ofBits .f32 0xFF800000#32 = ⊥ := by
  simp [Ideal.ofBits, Ideal.ieee]

theorem chM_apply (m : FVec Ideal S512x1 .f32) (s : FVec Ideal S512x512 .f32) (r : Fin 512) :
    chM m s (ix2 r 0) = max (m (ix2 r 0) : EReal) (Finset.univ.fold max ⊥ fun x : Fin 512 => (s (ix2 r x) : EReal)) := by
  unfold chM k0_pay18
  pointwise []
  rw [ofBits_ninf]

theorem chL_apply (m l : FVec Ideal S512x1 .f32) (s : FVec Ideal S512x512 .f32) (r : Fin 512) :
    chL m l s (ix2 r 0) = Ideal.exp2 ((m (ix2 r 0) : EReal) - chM m s (ix2 r 0)) * (l (ix2 r 0) : EReal)
      + ∑ x : Fin 512, Ideal.exp2 ((s (ix2 r x) : EReal) - chM m s (ix2 r 0)) := by
  unfold chL k0_pay42 k0_pay26 k0_pay34 chM
  pointwise []
  rfl

theorem chO_apply (m : FVec Ideal S512x1 .f32) (s : FVec Ideal S512x512 .f32) (acc : Vec Ideal S1x512x128 .f32)
    (vt : Vec Ideal S1x512x128 .bf16) (r : Fin 512) (e : Fin 128) :
    chO m s acc vt (ix3 0 r e) = Ideal.exp2 ((m (ix2 r 0) : EReal) - chM m s (ix2 r 0)) * (acc (ix3 0 r e) : EReal)
      + ∑ x : Fin 512, Ideal.exp2 ((s (ix2 r x) : EReal) - chM m s (ix2 r 0)) * (vt (ix3 0 x e) : EReal) := by
  unfold chO k0_pay52 k0_pay50 k0_pay51 k0_pay6 k0_pay26 k0_pay34 chM
  pointwise []
  rfl

/-- A tile more, at one row and one column. -/
theorem ch_step (m l : FVec Ideal S512x1 .f32) (s : FVec Ideal S512x512 .f32) (acc : Vec Ideal S1x512x128 .f32)
    (vt : Vec Ideal S1x512x128 .bf16) (r : Fin 512) (e : Fin 128) {W U : ℝ}
    (h : Inv W U (m (ix2 r 0)) (l (ix2 r 0)) (acc (ix3 0 r e)))
    (hs : ∀ x : Fin 512, (s (ix2 r x) : EReal) ≠ ⊤) (v : Fin 512 → ℝ)
    (hv : ∀ x, vt (ix3 0 x e) = ((v x : ℝ) : EReal)) :
    Inv (W + ∑ x, wt (s (ix2 r x))) (U + ∑ x, wt (s (ix2 r x)) * v x) (chM m s (ix2 r 0))
      (chL m l s (ix2 r 0)) (chO m s acc vt (ix3 0 r e)) := by
  have := inv_step (fun x : Fin 512 => (s (ix2 r x) : EReal)) hs v h _ (chM_apply m s r)
  rw [chL_apply, chO_apply]
  simp only [hv]
  exact this

variable {F : FTy → Type} [FloatOps F] [Named F]

theorem slot_apply (arg13 : Memref sig .tc .vmem S8x512x128 .f32) (n : Fin 8) (f : BufTy.Contents (Elt F) arg13.view.ty)
    (r : Fin 512) (e : Fin 128) : slot arg13 n f (ix3 0 r e) = arg13.view.read (Elt F) f (ix3 n r e) := by
  unfold slot
  rw [View.readAt_rect]
  show arg13.view.read (Elt F) f _ = _
  congr 1
  funext a
  apply Fin.ext
  show (![n.val, 0, 0] : Fin 3 → ℕ) a + 1 * ((ix3 (0 : Fin 1) r e : S1x512x128.Idx) a).val = _
  rw [one_mul]
  fin_cases a <;> simp [ix3]

end Cert.KernelIdeal.Gen

end
-- ==== Proof.Fold.lean ====
module

public import proofs.«01_k».proof.Proof.Row

/-!
# The loops over the key tiles

The invariant of `Online`, carried by induction through the two loops of the attention: the first runs
over the far key tiles, the second over the near ones.
-/

set_option maxRecDepth 16384

@[expose] public section

noncomputable section

namespace Cert.KernelIdeal.Gen

open Idealize.ShloMosaic Idealize.ShloMosaic.TcCoe Idealize.SL.Sem
open Cert.Online

/-- The list of pieces one trip writes: one for each chain, the last first. -/
abbrev eight {F : FTy → Type} [FloatOps F] [Named F] (P : Fin 8 → Vec F S1x512x128 .f32) : List (View.Piece (Elt F) S8x512x128 .f32) :=
  [⟨Rect.unit (s := S8x512x128) ![7, 0, 0] ![1, 512, 128] (slot_inb 7), P 7⟩,
    ⟨Rect.unit (s := S8x512x128) ![6, 0, 0] ![1, 512, 128] (slot_inb 6), P 6⟩,
    ⟨Rect.unit (s := S8x512x128) ![5, 0, 0] ![1, 512, 128] (slot_inb 5), P 5⟩,
    ⟨Rect.unit (s := S8x512x128) ![4, 0, 0] ![1, 512, 128] (slot_inb 4), P 4⟩,
    ⟨Rect.unit (s := S8x512x128) ![3, 0, 0] ![1, 512, 128] (slot_inb 3), P 3⟩,
    ⟨Rect.unit (s := S8x512x128) ![2, 0, 0] ![1, 512, 128] (slot_inb 2), P 2⟩,
    ⟨Rect.unit (s := S8x512x128) ![1, 0, 0] ![1, 512, 128] (slot_inb 1), P 1⟩,
    ⟨Rect.unit (s := S8x512x128) ![0, 0, 0] ![1, 512, 128] (slot_inb 0), P 0⟩]

theorem slot_eight {F : FTy → Type} [FloatOps F] [Named F] (arg13 : Memref sig .tc .vmem S8x512x128 .f32)
    (P : Fin 8 → Vec F S1x512x128 .f32) (n : Fin 8) (f : BufTy.Contents (Elt F) arg13.view.ty) (r : Fin 512) (e : Fin 128) :
    slot arg13 n (arg13.view.writes (Elt F) f (eight P)) (ix3 0 r e) = P n (ix3 0 r e) := by
  rw [slot_apply]
  have hit : ∀ (n' : Fin 8) (L : List (View.Piece (Elt F) S8x512x128 .f32)),
      arg13.view.read (Elt F) (arg13.view.writes (Elt F) f
        ((⟨Rect.unit (s := S8x512x128) ![n'.val, 0, 0] ![1, 512, 128] (slot_inb n'), P n'⟩ : View.Piece (Elt F) S8x512x128 .f32) :: L))
        (ix3 n' r e) = P n' (ix3 0 r e) := fun n' L =>
    View.read_writes_cons_unit_of_mem _ f (slot_inb n') (P n') L _ (ix3 0 r e) rfl (by
      intro a; fin_cases a <;> simp [ix3])
  have miss : ∀ (n' : Fin 8) (L : List (View.Piece (Elt F) S8x512x128 .f32)), n' ≠ n →
      arg13.view.read (Elt F) (arg13.view.writes (Elt F) f
        ((⟨Rect.unit (s := S8x512x128) ![n'.val, 0, 0] ![1, 512, 128] (slot_inb n'), P n'⟩ : View.Piece (Elt F) S8x512x128 .f32) :: L))
        (ix3 n r e) = arg13.view.read (Elt F) (arg13.view.writes (Elt F) f L) (ix3 n r e) := fun n' L h =>
    View.read_writes_cons_unit_of_not_mem _ f (slot_inb n') (P n') L _ rfl 0 (by
      have : n'.val ≠ n.val := fun h' => h (Fin.ext h')
      show n.val < n'.val ∨ n'.val + 1 ≤ n.val
      omega)
  by_cases h7 : (7 : Fin 8) = n
  · subst h7; exact hit 7 _
  refine (miss 7 _ h7).trans ?_
  by_cases h6 : (6 : Fin 8) = n
  · subst h6; exact hit 6 _
  refine (miss 6 _ h6).trans ?_
  by_cases h5 : (5 : Fin 8) = n
  · subst h5; exact hit 5 _
  refine (miss 5 _ h5).trans ?_
  by_cases h4 : (4 : Fin 8) = n
  · subst h4; exact hit 4 _
  refine (miss 4 _ h4).trans ?_
  by_cases h3 : (3 : Fin 8) = n
  · subst h3; exact hit 3 _
  refine (miss 3 _ h3).trans ?_
  by_cases h2 : (2 : Fin 8) = n
  · subst h2; exact hit 2 _
  refine (miss 2 _ h2).trans ?_
  by_cases h1 : (1 : Fin 8) = n
  · subst h1; exact hit 1 _
  refine (miss 1 _ h1).trans ?_
  obtain rfl : (0 : Fin 8) = n := by clear hit miss; omega
  exact hit 0 _

theorem fold1 (n : Fin 8) (r : Fin 512) (e : Fin 128) (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec Ideal S512x128 .bf16) (v16 : FVec Ideal S512x128 .bf16) (v23 : FVec Ideal S512x128 .bf16) (v30 : FVec Ideal S512x128 .bf16) (v37 : FVec Ideal S512x128 .bf16) (v44 : FVec Ideal S512x128 .bf16) (v51 : FVec Ideal S512x128 .bf16) (v58 : FVec Ideal S512x128 .bf16) (v63 : FVec Ideal S512x1 .f32) (v64 : FVec Ideal S512x1 .f32) (v65 : FVec Ideal S512x1 .f32) (v66 : FVec Ideal S512x1 .f32) (v67 : FVec Ideal S512x1 .f32) (v68 : FVec Ideal S512x1 .f32) (v69 : FVec Ideal S512x1 .f32) (v70 : FVec Ideal S512x1 .f32) (X_arg4 : BufTy.Contents (Elt Ideal) arg4.view.ty) (X_arg5 : BufTy.Contents (Elt Ideal) arg5.view.ty) (G_arg13 : BufTy.Contents (Elt Ideal) arg13.view.ty) (init : Carried Ideal)
    (sc : ℕ → Fin 512 → EReal) (vv : ℕ → Fin 512 → ℝ)
    (hsc : ∀ (k : Fin (k0_t1_loop i).trips) (x : Fin 512), (chS (![v9, v16, v23, v30, v37, v44, v51, v58] n) (tile1 i arg4 X_arg4 k (head8 n))) (ix2 r x) = sc k.val x)
    (hst : ∀ (k : Fin (k0_t1_loop i).trips) (x : Fin 512), sc k.val x ≠ ⊤)
    (hvv : ∀ (k : Fin (k0_t1_loop i).trips) (x : Fin 512), tile1 i arg5 X_arg5 k (head8 n) (ix3 0 x e) = ((vv k.val x : ℝ) : EReal))
    {W U : ℝ} (h0 : Inv W U (getM n init (ix2 r 0)) (getL n init (ix2 r 0)) (slot arg13 n G_arg13 (ix3 0 r e)))
    (k : ℕ) (hk : k ≤ (k0_t1_loop i).trips) :
    Inv (W + ∑ j ∈ Finset.range k, ∑ x, wt (sc j x)) (U + ∑ j ∈ Finset.range k, ∑ x, wt (sc j x) * vv j x)
      (getM n (st_k0_t1 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 G_arg13 init k).1 (ix2 r 0)) (getL n (st_k0_t1 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 G_arg13 init k).1 (ix2 r 0))
      (slot arg13 n (arg13.view.writes (Elt Ideal) G_arg13 (st_k0_t1 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 G_arg13 init k).2) (ix3 0 r e)) := by
  induction k with
  | zero =>
    simp only [Finset.range_zero, Finset.sum_empty, add_zero]
    exact h0
  | succ k ih =>
    have ih' := ih (Nat.le_of_succ_le hk)
    have hs := st_k0_t1_succ (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 G_arg13 init ⟨k, hk⟩
    generalize (st_k0_t1 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 X_arg4 X_arg5 G_arg13 init k) = prev at ih' hs
    dsimp only at hs
    rw [hs]
    dsimp only
    rw [View.writes_append, trip1_m, trip1_l, trip1_L]
    have step := ch_step (getM n prev.1) (getL n prev.1) (chS (![v9, v16, v23, v30, v37, v44, v51, v58] n) (tile1 i arg4 X_arg4 ⟨k, hk⟩ (head8 n))) (slot arg13 n (arg13.view.writes (Elt Ideal) G_arg13 prev.2))
      (tile1 i arg5 X_arg5 ⟨k, hk⟩ (head8 n)) r e ih' (fun x => by rw [hsc ⟨k, hk⟩ x]; exact hst ⟨k, hk⟩ x) (vv k) (hvv ⟨k, hk⟩)
    simp only [hsc ⟨k, hk⟩] at step
    rw [Finset.sum_range_succ, Finset.sum_range_succ, ← add_assoc, ← add_assoc]
    refine Eq.mp (congrArg _ ?_) step
    exact (slot_eight arg13 (fun n => chO (getM n prev.1) (chS (![v9, v16, v23, v30, v37, v44, v51, v58] n) (tile1 i arg4 X_arg4 ⟨k, hk⟩ (head8 n))) (slot arg13 n (arg13.view.writes (Elt Ideal) G_arg13 prev.2))
      (tile1 i arg5 X_arg5 ⟨k, hk⟩ (head8 n))) n (arg13.view.writes (Elt Ideal) G_arg13 prev.2) r e).symm

theorem fold3 (n : Fin 8) (r : Fin 512) (e : Fin 128) (𝒱 : Variants) (c : Dev nD) (bd : Option 𝒱.V) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (arg2 : BitVec 32) (v9 : FVec Ideal S512x128 .bf16) (v16 : FVec Ideal S512x128 .bf16) (v23 : FVec Ideal S512x128 .bf16) (v30 : FVec Ideal S512x128 .bf16) (v37 : FVec Ideal S512x128 .bf16) (v44 : FVec Ideal S512x128 .bf16) (v51 : FVec Ideal S512x128 .bf16) (v58 : FVec Ideal S512x128 .bf16) (v63 : FVec Ideal S512x1 .f32) (v64 : FVec Ideal S512x1 .f32) (v65 : FVec Ideal S512x1 .f32) (v66 : FVec Ideal S512x1 .f32) (v67 : FVec Ideal S512x1 .f32) (v68 : FVec Ideal S512x1 .f32) (v69 : FVec Ideal S512x1 .f32) (v70 : FVec Ideal S512x1 .f32) (v80 : BitVec 32) (X_arg4 : BufTy.Contents (Elt Ideal) arg4.view.ty) (X_arg5 : BufTy.Contents (Elt Ideal) arg5.view.ty) (X_arg6 : BufTy.Contents (Elt Ideal) arg6.view.ty) (G_arg13 : BufTy.Contents (Elt Ideal) arg13.view.ty) (init : Carried Ideal)
    (sc : ℕ → Fin 512 → EReal) (vv : ℕ → Fin 512 → ℝ)
    (hsc : ∀ (k : Fin (k0_t3_loop i).trips) (x : Fin 512), (chSb (![v9, v16, v23, v30, v37, v44, v51, v58] n) (tile3 i arg4 X_arg4 k (head8 n)) (bias3 i arg6 X_arg6 k (head8 n))) (ix2 r x) = sc k.val x)
    (hst : ∀ (k : Fin (k0_t3_loop i).trips) (x : Fin 512), sc k.val x ≠ ⊤)
    (hvv : ∀ (k : Fin (k0_t3_loop i).trips) (x : Fin 512), tile3 i arg5 X_arg5 k (head8 n) (ix3 0 x e) = ((vv k.val x : ℝ) : EReal))
    {W U : ℝ} (h0 : Inv W U (getM n init (ix2 r 0)) (getL n init (ix2 r 0)) (slot arg13 n G_arg13 (ix3 0 r e)))
    (k : ℕ) (hk : k ≤ (k0_t3_loop i).trips) :
    Inv (W + ∑ j ∈ Finset.range k, ∑ x, wt (sc j x)) (U + ∑ j ∈ Finset.range k, ∑ x, wt (sc j x) * vv j x)
      (getM n (st_k0_t3 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 G_arg13 init k).1 (ix2 r 0)) (getL n (st_k0_t3 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 G_arg13 init k).1 (ix2 r 0))
      (slot arg13 n (arg13.view.writes (Elt Ideal) G_arg13 (st_k0_t3 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 G_arg13 init k).2) (ix3 0 r e)) := by
  induction k with
  | zero =>
    simp only [Finset.range_zero, Finset.sum_empty, add_zero]
    exact h0
  | succ k ih =>
    have ih' := ih (Nat.le_of_succ_le hk)
    have hs := st_k0_t3_succ (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 G_arg13 init ⟨k, hk⟩
    generalize (st_k0_t3 (F := Ideal) 𝒱 c bd i arg3 harg3 arg4 harg4 arg5 harg5 arg6 harg6 arg7 harg7 arg8 harg8 arg9 harg9 arg10 harg10 arg11 harg11 arg12 harg12 arg13 harg13 arg2 v9 v16 v23 v30 v37 v44 v51 v58 v63 v64 v65 v66 v67 v68 v69 v70 v80 X_arg4 X_arg5 X_arg6 G_arg13 init k) = prev at ih' hs
    dsimp only at hs
    rw [hs]
    dsimp only
    rw [View.writes_append, trip3_m, trip3_l, trip3_L]
    have step := ch_step (getM n prev.1) (getL n prev.1) (chSb (![v9, v16, v23, v30, v37, v44, v51, v58] n) (tile3 i arg4 X_arg4 ⟨k, hk⟩ (head8 n)) (bias3 i arg6 X_arg6 ⟨k, hk⟩ (head8 n))) (slot arg13 n (arg13.view.writes (Elt Ideal) G_arg13 prev.2))
      (tile3 i arg5 X_arg5 ⟨k, hk⟩ (head8 n)) r e ih' (fun x => by rw [hsc ⟨k, hk⟩ x]; exact hst ⟨k, hk⟩ x) (vv k) (hvv ⟨k, hk⟩)
    simp only [hsc ⟨k, hk⟩] at step
    rw [Finset.sum_range_succ, Finset.sum_range_succ, ← add_assoc, ← add_assoc]
    refine Eq.mp (congrArg _ ?_) step
    exact (slot_eight arg13 (fun n => chO (getM n prev.1) (chSb (![v9, v16, v23, v30, v37, v44, v51, v58] n) (tile3 i arg4 X_arg4 ⟨k, hk⟩ (head8 n)) (bias3 i arg6 X_arg6 ⟨k, hk⟩ (head8 n))) (slot arg13 n (arg13.view.writes (Elt Ideal) G_arg13 prev.2))
      (tile3 i arg5 X_arg5 ⟨k, hk⟩ (head8 n))) n (arg13.view.writes (Elt Ideal) G_arg13 prev.2) r e).symm

end Cert.KernelIdeal.Gen

end
-- ==== Proof.Block.lean ====
module

public import proofs.«01_k».proof.Proof.Fold
public import proofs.«01_k».proof.Proof.Gen.KernelIdeal.Frame.RunA

/-!
# What one run of the attention's body writes

The four loops one after another, and the four heads written from what they leave.
-/

set_option maxRecDepth 16384

@[expose] public section

noncomputable section

namespace Cert.KernelIdeal.Gen

open Idealize.ShloMosaic Idealize.ShloMosaic.TcCoe Idealize.SL.Sem

variable {F : FTy → Type} [FloatOps F] [Named F]

theorem qt_inb (h : Fin 4) : ∀ a, (![0, 0, 128 * h.val] : Fin 3 → ℕ) a + S1x512x128.size a ≤ S1x512x512.size a := by
  revert h; decide +kernel

/-- Head `h`'s queries in the query block. -/
def qt (arg3 : Memref sig .tc .vmem S1x512x512 .f32) (harg3 : arg3.IsWhole) (x0 : Vec F S1x512x512 .f32) (h : Fin 4) :
    Vec F S1x512x128 .f32 :=
  View.readAt (Elt F) arg3.view (Rect.unit (s := S1x512x512) ![0, 0, 128 * h.val] S1x512x128.size (qt_inb h)).toLoadRect (harg3.unread x0)

/-- Chain `n`'s queries: the lanes of its score map, the others zero. -/
def qs (arg3 : Memref sig .tc .vmem S1x512x512 .f32) (harg3 : arg3.IsWhole) (x0 : Vec F S1x512x512 .f32) (n : Fin 8) :
    FVec F S512x128 .bf16 :=
  ![k0_pay265 (qt arg3 harg3 x0 0), k0_pay266 (qt arg3 harg3 x0 0), k0_pay265 (qt arg3 harg3 x0 1), k0_pay266 (qt arg3 harg3 x0 1), k0_pay265 (qt arg3 harg3 x0 2), k0_pay266 (qt arg3 harg3 x0 2), k0_pay265 (qt arg3 harg3 x0 3), k0_pay266 (qt arg3 harg3 x0 3)] n

/-- What the loops start from. -/
def start : Carried F := (k0_pay277, k0_pay278, k0_pay279, k0_pay280, k0_pay281, k0_pay282, k0_pay283, k0_pay284, k0_pay285, k0_pay286, k0_pay287, k0_pay288, k0_pay289, k0_pay290, k0_pay291, k0_pay292)

/-- The piece that zeroes the accumulators. -/
def zeroed : List (View.Piece (Elt F) S8x512x128 .f32) :=
  [⟨Rect.unit (s := S8x512x128) ![0, 0, 0] S8x512x128.size inb_S8x512x128_S8x512x128_0_0_0, k0_pay276⟩]

/-- What loop 1 leaves. -/
def left1 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : Carried F × List (View.Piece (Elt F) S8x512x128 .f32) :=
  st_k0_t1 (F := F) Variants.none c (@none Empty) i arg3 harg3 arg4 harg4 arg5 harg5 arg6 harg6 arg7 harg7 arg8 harg8 arg9 harg9 arg10 harg10 arg11 harg11 arg12 harg12 arg13 harg13 (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_5 c arg3 harg3 x0) (kernelRun0_A.sl.r_6 c arg3 harg3 x0) (kernelRun0_A.sl.r_7 c arg3 harg3 x0) (kernelRun0_A.sl.r_8 c arg3 harg3 x0) k0_pay277 k0_pay278 k0_pay279 k0_pay280 k0_pay281 k0_pay282 k0_pay283 k0_pay284  (harg4.unread x1) (harg5.unread x2)
    (View.writes (κ := (c : Thread nD τ).2.kind) (Memref.view (κ := (c : Thread nD τ).2.kind) arg13) (Elt F) (View.junk (κ := (c : Thread nD τ).2.kind) (Memref.view (κ := (c : Thread nD τ).2.kind) arg13)) kernelRun0_A.sl.HS0_1) (k0_pay277, k0_pay278, k0_pay279, k0_pay280, k0_pay281, k0_pay282, k0_pay283, k0_pay284, k0_pay285, k0_pay286, k0_pay287, k0_pay288, k0_pay289, k0_pay290, k0_pay291, k0_pay292) (Scf.trips (k0_t1_loop i).lb (k0_t1_loop i).ub (k0_t1_loop i).st)

/-- The pieces written up to the end of loop 1. -/
def list1 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : List (View.Piece (Elt F) S8x512x128 .f32) :=
  (left1 c i arg3 harg3 arg4 harg4 arg5 harg5 arg6 harg6 arg7 harg7 arg8 harg8 arg9 harg9 arg10 harg10 arg11 harg11 arg12 harg12 arg13 harg13 x0 x1 x2 x3).2 ++ kernelRun0_A.sl.HS0_1

/-- What loop 2 leaves. -/
def left2 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : Carried F × List (View.Piece (Elt F) S8x512x128 .f32) :=
  st_k0_t2 (F := F) Variants.none c (@none Empty) i arg3 harg3 arg4 harg4 arg5 harg5 arg6 harg6 arg7 harg7 arg8 harg8 arg9 harg9 arg10 harg10 arg11 harg11 arg12 harg12 arg13 harg13 (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_5 c arg3 harg3 x0) (kernelRun0_A.sl.r_6 c arg3 harg3 x0) (kernelRun0_A.sl.r_7 c arg3 harg3 x0) (kernelRun0_A.sl.r_8 c arg3 harg3 x0) k0_pay277 k0_pay278 k0_pay279 k0_pay280 k0_pay281 k0_pay282 k0_pay283 k0_pay284 (kernelRun0_A.sl.v85 i) (harg4.unread x1) (harg5.unread x2)
    (View.writes (κ := _) (Memref.view (κ := _) arg13) (Elt F) (View.junk (κ := (c : Thread nD τ).2.kind) (Memref.view (κ := (c : Thread nD τ).2.kind) arg13)) (list1 c i arg3 harg3 arg4 harg4 arg5 harg5 arg6 harg6 arg7 harg7 arg8 harg8 arg9 harg9 arg10 harg10 arg11 harg11 arg12 harg12 arg13 harg13 x0 x1 x2 x3)) ((left1 c i arg3 harg3 arg4 harg4 arg5 harg5 arg6 harg6 arg7 harg7 arg8 harg8 arg9 harg9 arg10 harg10 arg11 harg11 arg12 harg12 arg13 harg13 x0 x1 x2 x3).1.1, (left1 c i arg3 harg3 arg4 harg4 arg5 harg5 arg6 harg6 arg7 harg7 arg8 harg8 arg9 harg9 arg10 harg10 arg11 harg11 arg12 harg12 arg13 harg13 x0 x1 x2 x3).1.2.1, (left1 c i arg3 harg3 arg4 harg4 arg5 harg5 arg6 harg6 arg7 harg7 arg8 harg8 arg9 harg9 arg10 harg10 arg11 harg11 arg12 harg12 arg13 harg13 x0 x1 x2 x3).1.2.2.1, (left1 c i arg3 harg3 arg4 harg4 arg5 harg5 arg6 harg6 arg7 harg7 arg8 harg8 arg9 harg9 arg10 harg10 arg11 harg11 arg12 harg12 arg13 harg13 x0 x1 x2 x3).1.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.1, (left1 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.2) (Scf.trips (k0_t2_loop i).lb (k0_t2_loop i).ub (k0_t2_loop i).st)

/-- The pieces written up to the end of loop 2. -/
def list2 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : List (View.Piece (Elt F) S8x512x128 .f32) :=
  (left2 c i arg3 harg3 arg4 harg4 arg5 harg5 arg6 harg6 arg7 harg7 arg8 harg8 arg9 harg9 arg10 harg10 arg11 harg11 arg12 harg12 arg13 harg13 x0 x1 x2 x3).2 ++ (list1 c i arg3 harg3 arg4 harg4 arg5 harg5 arg6 harg6 arg7 harg7 arg8 harg8 arg9 harg9 arg10 harg10 arg11 harg11 arg12 harg12 arg13 harg13 x0 x1 x2 x3)

/-- What loop 3 leaves. -/
def left3 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : Carried F × List (View.Piece (Elt F) S8x512x128 .f32) :=
  st_k0_t3 (F := F) Variants.none c (@none Empty) i arg3 harg3 arg4 harg4 arg5 harg5 arg6 harg6 arg7 harg7 arg8 harg8 arg9 harg9 arg10 harg10 arg11 harg11 arg12 harg12 arg13 harg13 (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_5 c arg3 harg3 x0) (kernelRun0_A.sl.r_6 c arg3 harg3 x0) (kernelRun0_A.sl.r_7 c arg3 harg3 x0) (kernelRun0_A.sl.r_8 c arg3 harg3 x0) k0_pay277 k0_pay278 k0_pay279 k0_pay280 k0_pay281 k0_pay282 k0_pay283 k0_pay284 (kernelRun0_A.sl.v80 i) (harg4.unread x1) (harg5.unread x2) (harg6.unread x3)
    (View.writes (κ := _) (Memref.view (κ := _) arg13) (Elt F) (View.junk (κ := (c : Thread nD τ).2.kind) (Memref.view (κ := (c : Thread nD τ).2.kind) arg13)) (list2 c i arg3 harg3 arg4 harg4 arg5 harg5 arg6 harg6 arg7 harg7 arg8 harg8 arg9 harg9 arg10 harg10 arg11 harg11 arg12 harg12 arg13 harg13 x0 x1 x2 x3)) ((left2 c i arg3 harg3 arg4 harg4 arg5 harg5 arg6 harg6 arg7 harg7 arg8 harg8 arg9 harg9 arg10 harg10 arg11 harg11 arg12 harg12 arg13 harg13 x0 x1 x2 x3).1.1, (left2 c i arg3 harg3 arg4 harg4 arg5 harg5 arg6 harg6 arg7 harg7 arg8 harg8 arg9 harg9 arg10 harg10 arg11 harg11 arg12 harg12 arg13 harg13 x0 x1 x2 x3).1.2.1, (left2 c i arg3 harg3 arg4 harg4 arg5 harg5 arg6 harg6 arg7 harg7 arg8 harg8 arg9 harg9 arg10 harg10 arg11 harg11 arg12 harg12 arg13 harg13 x0 x1 x2 x3).1.2.2.1, (left2 c i arg3 harg3 arg4 harg4 arg5 harg5 arg6 harg6 arg7 harg7 arg8 harg8 arg9 harg9 arg10 harg10 arg11 harg11 arg12 harg12 arg13 harg13 x0 x1 x2 x3).1.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.1, (left2 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.2) (Scf.trips (k0_t3_loop i).lb (k0_t3_loop i).ub (k0_t3_loop i).st)

/-- The pieces written up to the end of loop 3. -/
def list3 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : List (View.Piece (Elt F) S8x512x128 .f32) :=
  (left3 c i arg3 harg3 arg4 harg4 arg5 harg5 arg6 harg6 arg7 harg7 arg8 harg8 arg9 harg9 arg10 harg10 arg11 harg11 arg12 harg12 arg13 harg13 x0 x1 x2 x3).2 ++ (list2 c i arg3 harg3 arg4 harg4 arg5 harg5 arg6 harg6 arg7 harg7 arg8 harg8 arg9 harg9 arg10 harg10 arg11 harg11 arg12 harg12 arg13 harg13 x0 x1 x2 x3)

/-- What loop 4 leaves. -/
def left4 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : Carried F × List (View.Piece (Elt F) S8x512x128 .f32) :=
  st_k0_t4 (F := F) Variants.none c (@none Empty) i arg3 harg3 arg4 harg4 arg5 harg5 arg6 harg6 arg7 harg7 arg8 harg8 arg9 harg9 arg10 harg10 arg11 harg11 arg12 harg12 arg13 harg13 (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_5 c arg3 harg3 x0) (kernelRun0_A.sl.r_6 c arg3 harg3 x0) (kernelRun0_A.sl.r_7 c arg3 harg3 x0) (kernelRun0_A.sl.r_8 c arg3 harg3 x0) k0_pay277 k0_pay278 k0_pay279 k0_pay280 k0_pay281 k0_pay282 k0_pay283 k0_pay284 (kernelRun0_A.sl.v93 i) (harg4.unread x1) (harg5.unread x2) (harg6.unread x3)
    (View.writes (κ := _) (Memref.view (κ := _) arg13) (Elt F) (View.junk (κ := (c : Thread nD τ).2.kind) (Memref.view (κ := (c : Thread nD τ).2.kind) arg13)) (list3 c i arg3 harg3 arg4 harg4 arg5 harg5 arg6 harg6 arg7 harg7 arg8 harg8 arg9 harg9 arg10 harg10 arg11 harg11 arg12 harg12 arg13 harg13 x0 x1 x2 x3)) ((left3 c i arg3 harg3 arg4 harg4 arg5 harg5 arg6 harg6 arg7 harg7 arg8 harg8 arg9 harg9 arg10 harg10 arg11 harg11 arg12 harg12 arg13 harg13 x0 x1 x2 x3).1.1, (left3 c i arg3 harg3 arg4 harg4 arg5 harg5 arg6 harg6 arg7 harg7 arg8 harg8 arg9 harg9 arg10 harg10 arg11 harg11 arg12 harg12 arg13 harg13 x0 x1 x2 x3).1.2.1, (left3 c i arg3 harg3 arg4 harg4 arg5 harg5 arg6 harg6 arg7 harg7 arg8 harg8 arg9 harg9 arg10 harg10 arg11 harg11 arg12 harg12 arg13 harg13 x0 x1 x2 x3).1.2.2.1, (left3 c i arg3 harg3 arg4 harg4 arg5 harg5 arg6 harg6 arg7 harg7 arg8 harg8 arg9 harg9 arg10 harg10 arg11 harg11 arg12 harg12 arg13 harg13 x0 x1 x2 x3).1.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.1, (left3 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.2) (Scf.trips (k0_t4_loop i).lb (k0_t4_loop i).ub (k0_t4_loop i).st)

/-- The pieces written up to the end of loop 4. -/
def list4 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : List (View.Piece (Elt F) S8x512x128 .f32) :=
  (left4 c i arg3 harg3 arg4 harg4 arg5 harg5 arg6 harg6 arg7 harg7 arg8 harg8 arg9 harg9 arg10 harg10 arg11 harg11 arg12 harg12 arg13 harg13 x0 x1 x2 x3).2 ++ (list3 c i arg3 harg3 arg4 harg4 arg5 harg5 arg6 harg6 arg7 harg7 arg8 harg8 arg9 harg9 arg10 harg10 arg11 harg11 arg12 harg12 arg13 harg13 x0 x1 x2 x3)

/-- The weight of the second map. -/
def lamv (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole)
    (x4 x5 x6 x7 : Vec F S1x64 .f32) : FVec F S1x1 .f32 :=
  k0_pay297 (k0_pay295 (View.readAt (Elt F) arg7.view (Rect.unit (s := S1x64) ![0, 0] S1x64.size inb_S1x64_S1x64_0_0).toLoadRect (harg7.unread x4)) (View.readAt (Elt F) arg8.view (Rect.unit (s := S1x64) ![0, 0] S1x64.size inb_S1x64_S1x64_0_0).toLoadRect (harg8.unread x5))) (k0_pay296 (View.readAt (Elt F) arg9.view (Rect.unit (s := S1x64) ![0, 0] S1x64.size inb_S1x64_S1x64_0_0).toLoadRect (harg9.unread x6))) (View.readAt (Elt F) arg10.view (Rect.unit (s := S1x64) ![0, 0] S1x64.size inb_S1x64_S1x64_0_0).toLoadRect (harg10.unread x7))

theorem run_l0 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_9 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.1 := by
  unfold kernelRun0_A.sl.r_9 left4 list3 left3 list2 left2 list1 left1
  delta Prod.fst Prod.snd
  generalize BitVec.ofNat 32 (i 2).val = a2
  rfl

theorem run_a0 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v115 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![0, 0, 0] S1x512x128.size (slot_inb 0)).toLoadRect := by
  unfold kernelRun0_A.sl.v115 list4 left4 list3 left3 list2 left2 list1 left1
  delta Prod.fst Prod.snd
  generalize BitVec.ofNat 32 (i 2).val = a2
  rfl

theorem run_l1 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_10 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.1 := by
  unfold kernelRun0_A.sl.r_10 left4 list3 left3 list2 left2 list1 left1
  delta Prod.fst Prod.snd
  generalize BitVec.ofNat 32 (i 2).val = a2
  rfl

theorem run_a1 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v121 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![1, 0, 0] S1x512x128.size (slot_inb 1)).toLoadRect := by
  unfold kernelRun0_A.sl.v121 list4 left4 list3 left3 list2 left2 list1 left1
  delta Prod.fst Prod.snd
  generalize BitVec.ofNat 32 (i 2).val = a2
  rfl

theorem run_l2 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_11 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.1 := by
  unfold kernelRun0_A.sl.r_11 left4 list3 left3 list2 left2 list1 left1
  delta Prod.fst Prod.snd
  generalize BitVec.ofNat 32 (i 2).val = a2
  rfl

theorem run_a2 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v147 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![2, 0, 0] S1x512x128.size (slot_inb 2)).toLoadRect := by
  unfold kernelRun0_A.sl.v147 list4 left4 list3 left3 list2 left2 list1 left1
  delta Prod.fst Prod.snd
  generalize BitVec.ofNat 32 (i 2).val = a2
  rfl

theorem run_l3 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_12 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.1 := by
  unfold kernelRun0_A.sl.r_12 left4 list3 left3 list2 left2 list1 left1
  delta Prod.fst Prod.snd
  generalize BitVec.ofNat 32 (i 2).val = a2
  rfl

theorem run_a3 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v153 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![3, 0, 0] S1x512x128.size (slot_inb 3)).toLoadRect := by
  unfold kernelRun0_A.sl.v153 list4 left4 list3 left3 list2 left2 list1 left1
  delta Prod.fst Prod.snd
  generalize BitVec.ofNat 32 (i 2).val = a2
  rfl

theorem run_l4 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_13 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.1 := by
  unfold kernelRun0_A.sl.r_13 left4 list3 left3 list2 left2 list1 left1
  delta Prod.fst Prod.snd
  generalize BitVec.ofNat 32 (i 2).val = a2
  rfl

theorem run_a4 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v179 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![4, 0, 0] S1x512x128.size (slot_inb 4)).toLoadRect := by
  unfold kernelRun0_A.sl.v179 list4 left4 list3 left3 list2 left2 list1 left1
  delta Prod.fst Prod.snd
  generalize BitVec.ofNat 32 (i 2).val = a2
  rfl

theorem run_l5 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_14 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.1 := by
  unfold kernelRun0_A.sl.r_14 left4 list3 left3 list2 left2 list1 left1
  delta Prod.fst Prod.snd
  generalize BitVec.ofNat 32 (i 2).val = a2
  rfl

theorem run_a5 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v185 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![5, 0, 0] S1x512x128.size (slot_inb 5)).toLoadRect := by
  unfold kernelRun0_A.sl.v185 list4 left4 list3 left3 list2 left2 list1 left1
  delta Prod.fst Prod.snd
  generalize BitVec.ofNat 32 (i 2).val = a2
  rfl

theorem run_l6 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_15 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.1 := by
  unfold kernelRun0_A.sl.r_15 left4 list3 left3 list2 left2 list1 left1
  delta Prod.fst Prod.snd
  generalize BitVec.ofNat 32 (i 2).val = a2
  rfl

theorem run_a6 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v211 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![6, 0, 0] S1x512x128.size (slot_inb 6)).toLoadRect := by
  unfold kernelRun0_A.sl.v211 list4 left4 list3 left3 list2 left2 list1 left1
  delta Prod.fst Prod.snd
  generalize BitVec.ofNat 32 (i 2).val = a2
  rfl

theorem run_l7 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.r_16 (F := F) c i arg3 harg3 arg4 harg4 arg5 harg5 arg6 harg6 arg7 harg7 arg8 harg8 arg9 harg9 arg10 harg10 arg11 harg11 arg12 harg12 arg13 harg13 x0 x1 x2 x3 = (left4 c i arg3 harg3 arg4 harg4 arg5 harg5 arg6 harg6 arg7 harg7 arg8 harg8 arg9 harg9 arg10 harg10 arg11 harg11 arg12 harg12 arg13 harg13 x0 x1 x2 x3).1.2.2.2.2.2.2.2.2.2.2.2.2.2.2.2 := by
  unfold kernelRun0_A.sl.r_16 left4 list3 left3 list2 left2 list1 left1
  delta Prod.fst Prod.snd
  generalize BitVec.ofNat 32 (i 2).val = a2
  rfl

theorem run_a7 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) :
    kernelRun0_A.sl.v217 (F := F) c i arg3 harg3 arg4 harg4 arg5 harg5 arg6 harg6 arg7 harg7 arg8 harg8 arg9 harg9 arg10 harg10 arg11 harg11 arg12 harg12 arg13 harg13 x0 x1 x2 x3 = View.readCov (Val := Elt F) arg13.view (list4 c i arg3 harg3 arg4 harg4 arg5 harg5 arg6 harg6 arg7 harg7 arg8 harg8 arg9 harg9 arg10 harg10 arg11 harg11 arg12 harg12 arg13 harg13 x0 x1 x2 x3)
    (Rect.unit (s := S8x512x128) ![7, 0, 0] S1x512x128.size (slot_inb 7)).toLoadRect := by
  unfold kernelRun0_A.sl.v217 list4 left4 list3 left3 list2 left2 list1 left1
  delta Prod.fst Prod.snd
  generalize BitVec.ofNat 32 (i 2).val = a2
  rfl

end Cert.KernelIdeal.Gen

end
-- ==== Proof.Tiles.lean ====
module

public import proofs.«01_k».proof.Proof.Block
public import Idealize.ShloMosaic.Lib.Pointwise

/-!
# Where the tiles lie

How many trips the loops run, where a trip reads, and the queries of a chain, for the query tile that a
grid point works on.
-/

set_option maxRecDepth 16384

@[expose] public section

noncomputable section

namespace Cert.KernelIdeal.Gen

open Idealize.ShloMosaic Idealize.ShloMosaic.TcCoe Idealize.SL.Sem

theorem tile_lt (i : grid0.Coords) : (i 2).val < 8 := (i 2).isLt

theorem trips1 (i : grid0.Coords) : (k0_t1_loop i).trips = (i 2).val - 1 := by
  unfold k0_t1_loop
  generalize i 2 = a
  revert a
  decide +kernel

theorem trips2 (i : grid0.Coords) : (k0_t2_loop i).trips = 0 := by
  unfold k0_t2_loop
  generalize i 2 = a
  revert a
  decide +kernel

theorem trips3 (i : grid0.Coords) : (k0_t3_loop i).trips = (i 2).val + 1 - ((i 2).val - 1) := by
  unfold k0_t3_loop
  generalize i 2 = a
  revert a
  decide +kernel

theorem trips4 (i : grid0.Coords) : (k0_t4_loop i).trips = 0 := by
  unfold k0_t4_loop
  generalize i 2 = a
  revert a
  decide +kernel

theorem lt1 (i : grid0.Coords) (k : Fin (k0_t1_loop i).trips) : k.val < (i 2).val - 1 := by
  exact lt_of_lt_of_eq k.isLt (trips1 i)

theorem lt3 (i : grid0.Coords) (k : Fin (k0_t3_loop i).trips) : (i 2).val - 1 + k.val < (i 2).val + 1 := by
  have := lt_of_lt_of_eq k.isLt (trips3 i)
  omega

theorem two3 (i : grid0.Coords) (k : Fin (k0_t3_loop i).trips) : k.val < 2 := by
  have := lt_of_lt_of_eq k.isLt (trips3 i)
  omega

theorem off1 (i : grid0.Coords) (k : Fin (k0_t1_loop i).trips) : k0_off1 i k = ![0, 512 * k.val, 0] := by
  have hk : k.val < 8 := by
    have h1 := lt1 i k
    have h2 := tile_lt i
    omega
  unfold k0_off1
  generalize k.val = j at hk
  interval_cases j <;> decide +kernel

theorem off2 (i : grid0.Coords) (k : Fin (k0_t1_loop i).trips) : k0_off2 i k = ![0, 512 * k.val, 128] := by
  have hk : k.val < 8 := by
    have h1 := lt1 i k
    have h2 := tile_lt i
    omega
  unfold k0_off2
  generalize k.val = j at hk
  interval_cases j <;> decide +kernel

theorem off3 (i : grid0.Coords) (k : Fin (k0_t1_loop i).trips) : k0_off3 i k = ![0, 512 * k.val, 256] := by
  have hk : k.val < 8 := by
    have h1 := lt1 i k
    have h2 := tile_lt i
    omega
  unfold k0_off3
  generalize k.val = j at hk
  interval_cases j <;> decide +kernel

theorem off4 (i : grid0.Coords) (k : Fin (k0_t1_loop i).trips) : k0_off4 i k = ![0, 512 * k.val, 384] := by
  have hk : k.val < 8 := by
    have h1 := lt1 i k
    have h2 := tile_lt i
    omega
  unfold k0_off4
  generalize k.val = j at hk
  interval_cases j <;> decide +kernel

theorem off9 (i : grid0.Coords) (k : Fin (k0_t3_loop i).trips) :
    k0_off9 i k = ![0, 512 * ((i 2).val - 1 + k.val), 0] := by
  have hk := two3 i k
  unfold k0_off9
  generalize k.val = j at hk
  generalize i 2 = a
  interval_cases j <;> revert a <;> decide +kernel

theorem off10 (i : grid0.Coords) (k : Fin (k0_t3_loop i).trips) :
    k0_off10 i k = ![0, 512 * ((i 2).val - 1 + k.val), 128] := by
  have hk := two3 i k
  unfold k0_off10
  generalize k.val = j at hk
  generalize i 2 = a
  interval_cases j <;> revert a <;> decide +kernel

theorem off11 (i : grid0.Coords) (k : Fin (k0_t3_loop i).trips) :
    k0_off11 i k = ![0, 512 * ((i 2).val - 1 + k.val), 256] := by
  have hk := two3 i k
  unfold k0_off11
  generalize k.val = j at hk
  generalize i 2 = a
  interval_cases j <;> revert a <;> decide +kernel

theorem off12 (i : grid0.Coords) (k : Fin (k0_t3_loop i).trips) :
    k0_off12 i k = ![0, 512 * ((i 2).val - 1 + k.val), 384] := by
  have hk := two3 i k
  unfold k0_off12
  generalize k.val = j at hk
  generalize i 2 = a
  interval_cases j <;> revert a <;> decide +kernel

theorem off13 (i : grid0.Coords) (k : Fin (k0_t3_loop i).trips) :
    k0_off13 i k = ![0, (i 2).val - 1 + k.val + 1 - (i 2).val, 0, 0] := by
  have hk := two3 i k
  unfold k0_off13
  generalize k.val = j at hk
  generalize i 2 = a
  interval_cases j <;> revert a <;> decide +kernel

theorem off14 (i : grid0.Coords) (k : Fin (k0_t3_loop i).trips) :
    k0_off14 i k = ![1, (i 2).val - 1 + k.val + 1 - (i 2).val, 0, 0] := by
  have hk := two3 i k
  unfold k0_off14
  generalize k.val = j at hk
  generalize i 2 = a
  interval_cases j <;> revert a <;> decide +kernel

theorem off15 (i : grid0.Coords) (k : Fin (k0_t3_loop i).trips) :
    k0_off15 i k = ![2, (i 2).val - 1 + k.val + 1 - (i 2).val, 0, 0] := by
  have hk := two3 i k
  unfold k0_off15
  generalize k.val = j at hk
  generalize i 2 = a
  interval_cases j <;> revert a <;> decide +kernel

theorem off16 (i : grid0.Coords) (k : Fin (k0_t3_loop i).trips) :
    k0_off16 i k = ![3, (i 2).val - 1 + k.val + 1 - (i 2).val, 0, 0] := by
  have hk := two3 i k
  unfold k0_off16
  generalize k.val = j at hk
  generalize i 2 = a
  interval_cases j <;> revert a <;> decide +kernel

variable {F : FTy → Type} [FloatOps F] [Named F]

theorem read3 (arg4 : Memref sig .tc .vmem S1x4096x512 .bf16) (harg4 : arg4.IsWhole) (x1 : Vec F S1x4096x512 .bf16)
    (off : Fin 3 → ℕ) (inb : ∀ a, off a + S1x512x128.size a ≤ S1x4096x512.size a) (j h : ℕ)
    (ho : off = ![0, 512 * j, 128 * h]) (hj : j < 8) (hh : h < 4) (x : Fin 512) (e : Fin 128) :
    View.readAt (Elt F) arg4.view (Rect.unit (s := S1x4096x512) off S1x512x128.size inb).toLoadRect (harg4.unread x1) (ix3 0 x e)
      = x1 (ix3 0 ⟨512 * j + x.val, by omega⟩ ⟨128 * h + e.val, by omega⟩) := by
  subst ho
  rw [View.readAt_rect]
  show arg4.view.read (Elt F) (harg4.unread x1) _ = _
  rw [harg4.read_unread]
  congr 1
  funext a
  apply Fin.ext
  show (![0, 512 * j, 128 * h] : Fin 3 → ℕ) a + 1 * ((ix3 (0 : Fin 1) x e : S1x512x128.Idx) a).val = _
  rw [one_mul]
  fin_cases a <;> simp [ix3]

theorem read4 (arg6 : Memref sig .tc .vmem S4x2x512x512 .f32) (harg6 : arg6.IsWhole) (x3 : Vec F S4x2x512x512 .f32)
    (off : Fin 4 → ℕ) (inb : ∀ a, off a + S1x1x512x512.size a ≤ S4x2x512x512.size a) (d h : ℕ)
    (ho : off = ![h, d, 0, 0]) (hd : d < 2) (hh : h < 4) (r x : Fin 512) :
    View.readAt (Elt F) arg6.view (Rect.unit (s := S4x2x512x512) off S1x1x512x512.size inb).toLoadRect (harg6.unread x3) (ix4 0 0 r x)
      = x3 (ix4 ⟨h, hh⟩ ⟨d, hd⟩ r x) := by
  subst ho
  rw [View.readAt_rect]
  show arg6.view.read (Elt F) (harg6.unread x3) _ = _
  rw [harg6.read_unread]
  congr 1
  funext a
  apply Fin.ext
  show (![h, d, 0, 0] : Fin 4 → ℕ) a + 1 * ((ix4 (0 : Fin 1) (0 : Fin 1) r x : S1x1x512x512.Idx) a).val = _
  rw [one_mul]
  fin_cases a <;> simp [ix4]

theorem tile1_apply (i : grid0.Coords) (arg4 : Memref sig .tc .vmem S1x4096x512 .bf16) (harg4 : arg4.IsWhole)
    (x1 : Vec F S1x4096x512 .bf16) (k : Fin (k0_t1_loop i).trips) (h : Fin 4) (x : Fin 512) (e : Fin 128) :
    tile1 i arg4 (harg4.unread x1) k h (ix3 0 x e)
      = x1 (ix3 0 ⟨512 * k.val + x.val, by have := lt1 i k; have := tile_lt i; omega⟩ ⟨128 * h.val + e.val, by omega⟩) := by
  have h1 := lt1 i k
  have h2 := tile_lt i
  unfold tile1
  fin_cases h
  · exact read3 arg4 harg4 x1 _ _ k.val 0 (off1 i k) (by omega) (by omega) x e
  · exact read3 arg4 harg4 x1 _ _ k.val 1 (off2 i k) (by omega) (by omega) x e
  · exact read3 arg4 harg4 x1 _ _ k.val 2 (off3 i k) (by omega) (by omega) x e
  · exact read3 arg4 harg4 x1 _ _ k.val 3 (off4 i k) (by omega) (by omega) x e

theorem tile3_apply (i : grid0.Coords) (arg4 : Memref sig .tc .vmem S1x4096x512 .bf16) (harg4 : arg4.IsWhole)
    (x1 : Vec F S1x4096x512 .bf16) (k : Fin (k0_t3_loop i).trips) (h : Fin 4) (x : Fin 512) (e : Fin 128) :
    tile3 i arg4 (harg4.unread x1) k h (ix3 0 x e)
      = x1 (ix3 0 ⟨512 * ((i 2).val - 1 + k.val) + x.val, by have := lt3 i k; have := tile_lt i; omega⟩
        ⟨128 * h.val + e.val, by omega⟩) := by
  have h1 := lt3 i k
  have h2 := tile_lt i
  unfold tile3
  fin_cases h
  · exact read3 arg4 harg4 x1 _ _ _ 0 (off9 i k) (by omega) (by omega) x e
  · exact read3 arg4 harg4 x1 _ _ _ 1 (off10 i k) (by omega) (by omega) x e
  · exact read3 arg4 harg4 x1 _ _ _ 2 (off11 i k) (by omega) (by omega) x e
  · exact read3 arg4 harg4 x1 _ _ _ 3 (off12 i k) (by omega) (by omega) x e

theorem bias3_apply (i : grid0.Coords) (arg6 : Memref sig .tc .vmem S4x2x512x512 .f32) (harg6 : arg6.IsWhole)
    (x3 : Vec F S4x2x512x512 .f32) (k : Fin (k0_t3_loop i).trips) (h : Fin 4) (r x : Fin 512) :
    bias3 i arg6 (harg6.unread x3) k h (ix4 0 0 r x)
      = x3 (ix4 h ⟨(i 2).val - 1 + k.val + 1 - (i 2).val, by have := lt3 i k; omega⟩ r x) := by
  have h1 := lt3 i k
  unfold bias3
  fin_cases h
  · exact read4 arg6 harg6 x3 _ _ _ 0 (off13 i k) (by omega) (by omega) r x
  · exact read4 arg6 harg6 x3 _ _ _ 1 (off14 i k) (by omega) (by omega) r x
  · exact read4 arg6 harg6 x3 _ _ _ 2 (off15 i k) (by omega) (by omega) r x
  · exact read4 arg6 harg6 x3 _ _ _ 3 (off16 i k) (by omega) (by omega) r x

theorem qt_apply (arg3 : Memref sig .tc .vmem S1x512x512 .f32) (harg3 : arg3.IsWhole) (x0 : Vec F S1x512x512 .f32) (h : Fin 4)
    (r : Fin 512) (e : Fin 128) :
    qt arg3 harg3 x0 h (ix3 0 r e) = x0 (ix3 0 r ⟨128 * h.val + e.val, by omega⟩) := by
  unfold qt
  rw [View.readAt_rect]
  show arg3.view.read (Elt F) (harg3.unread x0) _ = _
  rw [harg3.read_unread]
  congr 1
  funext a
  apply Fin.ext
  show (![0, 0, 128 * h.val] : Fin 3 → ℕ) a + 1 * ((ix3 (0 : Fin 1) r e : S1x512x128.Idx) a).val = _
  rw [one_mul]
  fin_cases a <;> simp [ix3]

theorem lane_lt (e : Fin 128) :
    IntOp.cmpi CmpIPredicate.slt (BitVec.ofNat 32 e.val) 64#32 = if e.val < 64 then 1#1 else 0#1 := by
  revert e
  decide +kernel

theorem pay265_apply (v : Vec Ideal S1x512x128 .f32) (r : Fin 512) (e : Fin 128) :
    k0_pay265 v (ix2 r e) = if e.val < 64 then (v (ix3 0 r e) : EReal) else 0 := by
  unfold k0_pay265 k0_pay264
  pointwise []
  rw [lane_lt]
  split <;> rfl

theorem pay266_apply (v : Vec Ideal S1x512x128 .f32) (r : Fin 512) (e : Fin 128) :
    k0_pay266 v (ix2 r e) = if e.val < 64 then 0 else (v (ix3 0 r e) : EReal) := by
  unfold k0_pay266 k0_pay264
  pointwise []
  rw [lane_lt]
  split <;> rfl

/-- Chain `n`'s queries at a row and a lane: the first half of a head's lanes for its first map, the second
half for its second. -/
theorem qs_apply (arg3 : Memref sig .tc .vmem S1x512x512 .f32) (harg3 : arg3.IsWhole) (x0 : Vec Ideal S1x512x512 .f32) (n : Fin 8)
    (r : Fin 512) (e : Fin 128) :
    qs arg3 harg3 x0 n (ix2 r e)
      = if e.val / 64 = n.val % 2 then (x0 (ix3 0 r ⟨128 * (n.val / 2) + e.val, by omega⟩) : EReal) else 0 := by
  have he := e.isLt
  have hd : e.val / 64 = if e.val < 64 then 0 else 1 := by split <;> omega
  rw [hd]
  have h5 : ∀ h : Fin 4, k0_pay265 (qt arg3 harg3 x0 h) (ix2 r e)
      = if e.val < 64 then (x0 (ix3 0 r ⟨128 * h.val + e.val, by omega⟩) : EReal) else 0 := fun h => by
    rw [pay265_apply, qt_apply]
  have h6 : ∀ h : Fin 4, k0_pay266 (qt arg3 harg3 x0 h) (ix2 r e)
      = if e.val < 64 then 0 else (x0 (ix3 0 r ⟨128 * h.val + e.val, by omega⟩) : EReal) := fun h => by
    rw [pay266_apply, qt_apply]
  unfold qs
  fin_cases n
  · refine (h5 0).trans ?_; split <;> rfl
  · refine (h6 0).trans ?_; split <;> rfl
  · refine (h5 1).trans ?_; split <;> rfl
  · refine (h6 1).trans ?_; split <;> rfl
  · refine (h5 2).trans ?_; split <;> rfl
  · refine (h6 2).trans ?_; split <;> rfl
  · refine (h5 3).trans ?_; split <;> rfl
  · refine (h6 3).trans ?_; split <;> rfl

theorem named_mask : Named.named (F := Ideal) κ "mask" (φ := .f32) 4048155338#32 = (⊥ : EReal) :=
  IdealRules.named_const.ideal_named_scalar _ _ _ _ rfl

/-- Before the loops: no maximum, no total. -/
theorem start_m (n : Fin 8) (r : Fin 512) : getM (F := Ideal) n start (ix2 r 0) = (⊥ : EReal) := by
  unfold getM start
  fin_cases n <;> · show k0_pay277 (F := Ideal) (ix2 r 0) = _; unfold k0_pay277; pointwise []; exact named_mask

theorem start_l (n : Fin 8) (r : Fin 512) : getL (F := Ideal) n start (ix2 r 0) = (0 : EReal) := by
  unfold getL start
  fin_cases n <;> · show k0_pay285 (F := Ideal) (ix2 r 0) = _; unfold k0_pay285; pointwise []

theorem zero_apply (n : Fin 8) (r : Fin 512) (e : Fin 128) : k0_pay276 (F := Ideal) (ix3 n r e) = (0 : EReal) := by
  unfold k0_pay276
  pointwise []

theorem words_q (c : Dev nD) (arg3 : Memref sig .tc .vmem S1x512x512 .f32) (harg3 : arg3.IsWhole) (x0 : Vec F S1x512x512 .f32) (n : Fin 8) :
    (![kernelRun0_A.sl.r c arg3 harg3 x0, kernelRun0_A.sl.r_1 c arg3 harg3 x0, kernelRun0_A.sl.r_2 c arg3 harg3 x0,
      kernelRun0_A.sl.r_3 c arg3 harg3 x0, kernelRun0_A.sl.r_5 c arg3 harg3 x0, kernelRun0_A.sl.r_6 c arg3 harg3 x0,
      kernelRun0_A.sl.r_7 c arg3 harg3 x0, kernelRun0_A.sl.r_8 c arg3 harg3 x0] : Fin 8 → FVec F S512x128 .bf16) n
      = qs arg3 harg3 x0 n := by
  fin_cases n <;> rfl

end Cert.KernelIdeal.Gen

end
-- ==== Proof.Chains.lean ====
module

public import proofs.«01_k».proof.Proof.Tiles

/-!
# What the four loops leave in one chain

Over the far tiles, then over the near ones, a chain's maximum, total and accumulator at one row stand
for the sums over all keys up to the query tile's last.
-/

set_option maxRecDepth 16384

@[expose] public section

noncomputable section

namespace Cert.KernelIdeal.Gen

open Idealize.ShloMosaic Idealize.ShloMosaic.TcCoe Idealize.SL.Sem
open Cert.Online

/-- A query row against key `s`, in the lanes of chain `n`. -/
def dotq (n : Fin 8) (qf : ℕ → ℝ) (kf : ℕ → ℕ → ℝ) (s : ℕ) : ℝ :=
  ∑ e : Fin 128, (if e.val / 64 = n.val % 2 then qf (128 * (n.val / 2) + e.val) else 0) * kf s (128 * (n.val / 2) + e.val)

/-- The exponents of key tile `j`, where `a` is the query tile: the bias joins in the last two tiles. -/
def expo (a : ℕ) (n : Fin 8) (qf : ℕ → ℝ) (kf : ℕ → ℕ → ℝ) (bf : ℕ → ℕ → EReal) (j : ℕ) (x : Fin 512) : EReal :=
  if j < a - 1 then ((dotq n qf kf (512 * j + x.val) : ℝ) : EReal)
  else ((dotq n qf kf (512 * j + x.val) : ℝ) : EReal) + bf (j + 1 - a) x.val

theorem expo_ne_top (a : ℕ) (n : Fin 8) (qf : ℕ → ℝ) (kf : ℕ → ℕ → ℝ) (bf : ℕ → ℕ → EReal) (hb : ∀ d x, bf d x ≠ ⊤) (j : ℕ) (x : Fin 512) :
    expo a n qf kf bf j x ≠ ⊤ := by
  unfold expo
  split
  · exact EReal.coe_ne_top _
  · exact EReal.add_ne_top (EReal.coe_ne_top _) (hb _ _)

theorem dot_real (n : Fin 8) (qf : ℕ → ℝ) (kf : ℕ → ℕ → ℝ) (s : ℕ) (f g : Fin 128 → EReal)
    (hf : ∀ e, f e = if e.val / 64 = n.val % 2 then ((qf (128 * (n.val / 2) + e.val) : ℝ) : EReal) else 0)
    (hg : ∀ e, g e = ((kf s (128 * (n.val / 2) + e.val) : ℝ) : EReal)) :
    ∑ e, f e * g e = ((dotq n qf kf s : ℝ) : EReal) := by
  unfold dotq
  rw [coe_sum]
  refine Finset.sum_congr rfl fun e _ => ?_
  rw [hf, hg, EReal.coe_mul]
  congr 1
  split <;> rfl

theorem head8_val (n : Fin 8) : (head8 n).val = n.val / 2 := by
  revert n; decide

theorem slot_zero (arg13 : Memref sig .tc .vmem S8x512x128 .f32) (f : BufTy.Contents (Elt Ideal) arg13.view.ty) (n : Fin 8) (r : Fin 512) (e : Fin 128) :
    slot (F := Ideal) arg13 n (arg13.view.writes (Elt Ideal) f
      [⟨Rect.unit (s := S8x512x128) ![0, 0, 0] S8x512x128.size inb_S8x512x128_S8x512x128_0_0_0, k0_pay276 (F := Ideal)⟩]) (ix3 0 r e) = (0 : EReal) := by
  rw [slot_apply]
  refine Eq.trans ?_ (zero_apply n r e)
  exact View.read_writes_cons_unit_of_mem _ f inb_S8x512x128_S8x512x128_0_0_0 (k0_pay276 (F := Ideal)) [] (ix3 n r e) (ix3 n r e) rfl
    (by intro a; fin_cases a <;> simp [ix3])

theorem slot_start (c : Dev nD) (arg13 : Memref sig .tc .vmem S8x512x128 .f32) (n : Fin 8) (r : Fin 512) (e : Fin 128) :
    slot (F := Ideal) arg13 n (View.writes (κ := (c : Thread nD τ).2.kind) (Memref.view (κ := (c : Thread nD τ).2.kind) arg13) (Elt Ideal)
      (View.junk (κ := (c : Thread nD τ).2.kind) (Memref.view (κ := (c : Thread nD τ).2.kind) arg13)) kernelRun0_A.sl.HS0_1) (ix3 0 r e) = (0 : EReal) := by
  exact slot_zero arg13 _ n r e

theorem tup_eta {F : FTy → Type} [FloatOps F] [Named F] (a : Carried F) : (a.1, a.2.1, a.2.2.1, a.2.2.2.1, a.2.2.2.2.1, a.2.2.2.2.2.1, a.2.2.2.2.2.2.1, a.2.2.2.2.2.2.2.1, a.2.2.2.2.2.2.2.2.1, a.2.2.2.2.2.2.2.2.2.1, a.2.2.2.2.2.2.2.2.2.2.1, a.2.2.2.2.2.2.2.2.2.2.2.1, a.2.2.2.2.2.2.2.2.2.2.2.2.1, a.2.2.2.2.2.2.2.2.2.2.2.2.2.1, a.2.2.2.2.2.2.2.2.2.2.2.2.2.2.1, a.2.2.2.2.2.2.2.2.2.2.2.2.2.2.2) = a := rfl

section
variable {F : FTy → Type} [FloatOps F] [Named F]

theorem left2_eq (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : left2 c i arg3 harg3 arg4 harg4 arg5 harg5 arg6 harg6 arg7 harg7 arg8 harg8 arg9 harg9 arg10 harg10 arg11 harg11 arg12 harg12 arg13 harg13 x0 x1 x2 x3 = ((left1 c i arg3 harg3 arg4 harg4 arg5 harg5 arg6 harg6 arg7 harg7 arg8 harg8 arg9 harg9 arg10 harg10 arg11 harg11 arg12 harg12 arg13 harg13 x0 x1 x2 x3).1, []) := by
  unfold left2
  rw [tup_eta (left1 c i arg3 harg3 arg4 harg4 arg5 harg5 arg6 harg6 arg7 harg7 arg8 harg8 arg9 harg9 arg10 harg10 arg11 harg11 arg12 harg12 arg13 harg13 x0 x1 x2 x3).1]
  generalize left1 c i arg3 harg3 arg4 harg4 arg5 harg5 arg6 harg6 arg7 harg7 arg8 harg8 arg9 harg9 arg10 harg10 arg11 harg11 arg12 harg12 arg13 harg13 x0 x1 x2 x3 = L
  rw [show Scf.trips (k0_t2_loop i).lb (k0_t2_loop i).ub (k0_t2_loop i).st = 0 from trips2 i]
  rfl

theorem left4_eq (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : left4 c i arg3 harg3 arg4 harg4 arg5 harg5 arg6 harg6 arg7 harg7 arg8 harg8 arg9 harg9 arg10 harg10 arg11 harg11 arg12 harg12 arg13 harg13 x0 x1 x2 x3 = ((left3 c i arg3 harg3 arg4 harg4 arg5 harg5 arg6 harg6 arg7 harg7 arg8 harg8 arg9 harg9 arg10 harg10 arg11 harg11 arg12 harg12 arg13 harg13 x0 x1 x2 x3).1, []) := by
  unfold left4
  rw [tup_eta (left3 c i arg3 harg3 arg4 harg4 arg5 harg5 arg6 harg6 arg7 harg7 arg8 harg8 arg9 harg9 arg10 harg10 arg11 harg11 arg12 harg12 arg13 harg13 x0 x1 x2 x3).1]
  generalize left3 c i arg3 harg3 arg4 harg4 arg5 harg5 arg6 harg6 arg7 harg7 arg8 harg8 arg9 harg9 arg10 harg10 arg11 harg11 arg12 harg12 arg13 harg13 x0 x1 x2 x3 = L
  rw [show Scf.trips (k0_t4_loop i).lb (k0_t4_loop i).ub (k0_t4_loop i).st = 0 from trips4 i]
  rfl

theorem list4_eq (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : list4 c i arg3 harg3 arg4 harg4 arg5 harg5 arg6 harg6 arg7 harg7 arg8 harg8 arg9 harg9 arg10 harg10 arg11 harg11 arg12 harg12 arg13 harg13 x0 x1 x2 x3 = (left3 c i arg3 harg3 arg4 harg4 arg5 harg5 arg6 harg6 arg7 harg7 arg8 harg8 arg9 harg9 arg10 harg10 arg11 harg11 arg12 harg12 arg13 harg13 x0 x1 x2 x3).2 ++ list2 c i arg3 harg3 arg4 harg4 arg5 harg5 arg6 harg6 arg7 harg7 arg8 harg8 arg9 harg9 arg10 harg10 arg11 harg11 arg12 harg12 arg13 harg13 x0 x1 x2 x3 := by
  unfold list4
  rw [left4_eq]
  rfl

theorem list2_eq (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) : list2 c i arg3 harg3 arg4 harg4 arg5 harg5 arg6 harg6 arg7 harg7 arg8 harg8 arg9 harg9 arg10 harg10 arg11 harg11 arg12 harg12 arg13 harg13 x0 x1 x2 x3 = (left1 c i arg3 harg3 arg4 harg4 arg5 harg5 arg6 harg6 arg7 harg7 arg8 harg8 arg9 harg9 arg10 harg10 arg11 harg11 arg12 harg12 arg13 harg13 x0 x1 x2 x3).2 ++ kernelRun0_A.sl.HS0_1 := by
  unfold list2
  rw [left2_eq]
  rfl

end

section
variable (n : Fin 8) (r : Fin 512) (e : Fin 128) (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec Ideal S1x512x512 .f32) (x1 : Vec Ideal S1x4096x512 .bf16) (x2 : Vec Ideal S1x4096x512 .bf16) (x3 : Vec Ideal S4x2x512x512 .f32)
  (qf : ℕ → ℝ) (kf vf : ℕ → ℕ → ℝ) (bf : ℕ → ℕ → EReal)
  (hq : ∀ x : Fin 512, x0 (ix3 0 r x) = ((qf x.val : ℝ) : EReal))
  (hk : ∀ (s : Fin 4096) (x : Fin 512), x1 (ix3 0 s x) = ((kf s.val x.val : ℝ) : EReal))
  (hv : ∀ (s : Fin 4096) (x : Fin 512), x2 (ix3 0 s x) = ((vf s.val x.val : ℝ) : EReal))
  (hb : ∀ (d : Fin 2) (x : Fin 512), x3 (ix4 (head8 n) d r x) = bf d.val x.val)
  (hbt : ∀ d x, bf d x ≠ ⊤)

include hq in
theorem words_apply (e : Fin 128) : (![kernelRun0_A.sl.r c arg3 harg3 x0, kernelRun0_A.sl.r_1 c arg3 harg3 x0, kernelRun0_A.sl.r_2 c arg3 harg3 x0,
      kernelRun0_A.sl.r_3 c arg3 harg3 x0, kernelRun0_A.sl.r_5 c arg3 harg3 x0, kernelRun0_A.sl.r_6 c arg3 harg3 x0,
      kernelRun0_A.sl.r_7 c arg3 harg3 x0, kernelRun0_A.sl.r_8 c arg3 harg3 x0] : Fin 8 → FVec Ideal S512x128 .bf16) n (ix2 r e)
    = if e.val / 64 = n.val % 2 then ((qf (128 * (n.val / 2) + e.val) : ℝ) : EReal) else 0 := by
  rw [words_q, qs_apply, hq]

include hq hk hv hbt in
theorem inv1 :
    Inv (∑ j ∈ Finset.range ((i 2).val - 1), ∑ x, wt (expo (i 2).val n qf kf bf j x))
      (∑ j ∈ Finset.range ((i 2).val - 1), ∑ x, wt (expo (i 2).val n qf kf bf j x) * vf (512 * j + x.val) (128 * (n.val / 2) + e.val))
      (getM n (left1 c i arg3 harg3 arg4 harg4 arg5 harg5 arg6 harg6 arg7 harg7 arg8 harg8 arg9 harg9 arg10 harg10 arg11 harg11 arg12 harg12 arg13 harg13 x0 x1 x2 x3).1 (ix2 r 0)) (getL n (left1 c i arg3 harg3 arg4 harg4 arg5 harg5 arg6 harg6 arg7 harg7 arg8 harg8 arg9 harg9 arg10 harg10 arg11 harg11 arg12 harg12 arg13 harg13 x0 x1 x2 x3).1 (ix2 r 0))
      (slot arg13 n (arg13.view.writes (Elt Ideal) arg13.view.junk (list2 c i arg3 harg3 arg4 harg4 arg5 harg5 arg6 harg6 arg7 harg7 arg8 harg8 arg9 harg9 arg10 harg10 arg11 harg11 arg12 harg12 arg13 harg13 x0 x1 x2 x3)) (ix3 0 r e)) := by
  rw [list2_eq, View.writes_append]
  unfold left1
  have key := fold1 n r e Variants.none c (@none Empty) i arg3 harg3 arg4 harg4 arg5 harg5 arg6 harg6 arg7 harg7 arg8 harg8 arg9 harg9 arg10 harg10 arg11 harg11 arg12 harg12 arg13 harg13
    (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_5 c arg3 harg3 x0) (kernelRun0_A.sl.r_6 c arg3 harg3 x0) (kernelRun0_A.sl.r_7 c arg3 harg3 x0) (kernelRun0_A.sl.r_8 c arg3 harg3 x0)
    k0_pay277 k0_pay278 k0_pay279 k0_pay280 k0_pay281 k0_pay282 k0_pay283 k0_pay284 (harg4.unread x1) (harg5.unread x2)
    (View.writes (κ := (c : Thread nD τ).2.kind) (Memref.view (κ := (c : Thread nD τ).2.kind) arg13) (Elt Ideal) (View.junk (κ := (c : Thread nD τ).2.kind) (Memref.view (κ := (c : Thread nD τ).2.kind) arg13)) kernelRun0_A.sl.HS0_1)
    start (fun j x => expo (i 2).val n qf kf bf j x) (fun j x => vf (512 * j + x.val) (128 * (n.val / 2) + e.val))
    (by
      intro k x
      have hlt := lt1 i k
      rw [chS_apply]
      unfold expo
      rw [if_pos hlt]
      refine dot_real n qf kf (512 * k.val + x.val) _ _ (fun e => words_apply n r c arg3 harg3 x0 qf hq e) fun e => ?_
      rw [tile1_apply, hk]
      simp only [head8_val])
    (fun k x => expo_ne_top _ _ _ _ _ hbt _ _)
    (by
      intro k x
      rw [tile1_apply, hv]
      simp only [head8_val])
    (W := 0) (U := 0)
    (by
      rw [start_m, start_l, slot_start]
      exact inv_start)
    (k0_t1_loop i).trips le_rfl
  rw [zero_add, zero_add] at key
  have ht := trips1 i
  rw [ht] at key
  rw [show Scf.trips (k0_t1_loop i).lb (k0_t1_loop i).ub (k0_t1_loop i).st = (i 2).val - 1 from ht]
  exact key

include hq hk hv hb hbt in
theorem inv3 :
    Inv (∑ j ∈ Finset.range ((i 2).val + 1), ∑ x, wt (expo (i 2).val n qf kf bf j x))
      (∑ j ∈ Finset.range ((i 2).val + 1), ∑ x, wt (expo (i 2).val n qf kf bf j x) * vf (512 * j + x.val) (128 * (n.val / 2) + e.val))
      (getM n (left4 c i arg3 harg3 arg4 harg4 arg5 harg5 arg6 harg6 arg7 harg7 arg8 harg8 arg9 harg9 arg10 harg10 arg11 harg11 arg12 harg12 arg13 harg13 x0 x1 x2 x3).1 (ix2 r 0)) (getL n (left4 c i arg3 harg3 arg4 harg4 arg5 harg5 arg6 harg6 arg7 harg7 arg8 harg8 arg9 harg9 arg10 harg10 arg11 harg11 arg12 harg12 arg13 harg13 x0 x1 x2 x3).1 (ix2 r 0))
      (slot arg13 n (arg13.view.writes (Elt Ideal) arg13.view.junk (list4 c i arg3 harg3 arg4 harg4 arg5 harg5 arg6 harg6 arg7 harg7 arg8 harg8 arg9 harg9 arg10 harg10 arg11 harg11 arg12 harg12 arg13 harg13 x0 x1 x2 x3)) (ix3 0 r e)) := by
  have h1 := inv1 n r e c i arg3 harg3 arg4 harg4 arg5 harg5 arg6 harg6 arg7 harg7 arg8 harg8 arg9 harg9 arg10 harg10 arg11 harg11 arg12 harg12 arg13 harg13 x0 x1 x2 x3 qf kf vf bf hq hk hv hbt
  rw [left4_eq, list4_eq, View.writes_append]
  unfold left3
  rw [left2_eq]
  dsimp only
  rw [tup_eta (left1 c i arg3 harg3 arg4 harg4 arg5 harg5 arg6 harg6 arg7 harg7 arg8 harg8 arg9 harg9 arg10 harg10 arg11 harg11 arg12 harg12 arg13 harg13 x0 x1 x2 x3).1]
  have key := fold3 n r e Variants.none c (@none Empty) i arg3 harg3 arg4 harg4 arg5 harg5 arg6 harg6 arg7 harg7 arg8 harg8 arg9 harg9 arg10 harg10 arg11 harg11 arg12 harg12 arg13 harg13
    (BitVec.ofNat 32 (i 2).val) (kernelRun0_A.sl.r c arg3 harg3 x0) (kernelRun0_A.sl.r_1 c arg3 harg3 x0) (kernelRun0_A.sl.r_2 c arg3 harg3 x0) (kernelRun0_A.sl.r_3 c arg3 harg3 x0) (kernelRun0_A.sl.r_5 c arg3 harg3 x0) (kernelRun0_A.sl.r_6 c arg3 harg3 x0) (kernelRun0_A.sl.r_7 c arg3 harg3 x0) (kernelRun0_A.sl.r_8 c arg3 harg3 x0)
    k0_pay277 k0_pay278 k0_pay279 k0_pay280 k0_pay281 k0_pay282 k0_pay283 k0_pay284 (kernelRun0_A.sl.v80 i) (harg4.unread x1) (harg5.unread x2) (harg6.unread x3)
    (arg13.view.writes (Elt Ideal) arg13.view.junk (list2 c i arg3 harg3 arg4 harg4 arg5 harg5 arg6 harg6 arg7 harg7 arg8 harg8 arg9 harg9 arg10 harg10 arg11 harg11 arg12 harg12 arg13 harg13 x0 x1 x2 x3))
    (left1 c i arg3 harg3 arg4 harg4 arg5 harg5 arg6 harg6 arg7 harg7 arg8 harg8 arg9 harg9 arg10 harg10 arg11 harg11 arg12 harg12 arg13 harg13 x0 x1 x2 x3).1 (fun j x => expo (i 2).val n qf kf bf ((i 2).val - 1 + j) x) (fun j x => vf (512 * ((i 2).val - 1 + j) + x.val) (128 * (n.val / 2) + e.val))
    (by
      intro k x
      have hlt := lt3 i k
      rw [chSb_apply]
      unfold expo
      rw [if_neg (by omega), bias3_apply, hb]
      congr 1
      refine dot_real n qf kf (512 * ((i 2).val - 1 + k.val) + x.val) _ _ (fun e => words_apply n r c arg3 harg3 x0 qf hq e) fun e => ?_
      rw [tile3_apply, hk]
      simp only [head8_val])
    (fun k x => expo_ne_top _ _ _ _ _ hbt _ _)
    (by
      intro k x
      rw [tile3_apply, hv]
      simp only [head8_val])
    h1
    (k0_t3_loop i).trips le_rfl
  have ht := trips3 i
  rw [ht] at key
  have hsum : ∀ g : ℕ → ℝ, ∑ j ∈ Finset.range ((i 2).val + 1), g j
      = ∑ j ∈ Finset.range ((i 2).val - 1), g j + ∑ j ∈ Finset.range ((i 2).val + 1 - ((i 2).val - 1)), g ((i 2).val - 1 + j) := fun g => by
    rw [← Finset.sum_range_add]
    congr 2
    omega
  rw [hsum, hsum]
  rw [show Scf.trips (k0_t3_loop i).lb (k0_t3_loop i).ub (k0_t3_loop i).st = (i 2).val + 1 - ((i 2).val - 1) from ht]
  exact key

end

end Cert.KernelIdeal.Gen

end
-- ==== Proof.Out.lean ====
module

public import proofs.«01_k».proof.Proof.Chains
public import proofs.«01_k».proof.Proof.Gen.KernelIdeal.Value

/-!
# What the body leaves in the output block

Four heads, each from its two chains: the difference of the two maps, normalised.
-/

set_option maxRecDepth 16384

@[expose] public section

noncomputable section

namespace Cert.KernelIdeal.Gen

open Idealize.ShloMosaic Idealize.ShloMosaic.TcCoe Idealize.SL.Sem
open Cert.Online

section
variable {F : FTy → Type} [FloatOps F] [Named F]

/-- A head's output from the totals and accumulators of chains `n0` and `n1`. -/
def pieceOf (n0 n1 : Fin 8) (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : FVec F S1x512x128 .f32 :=
  k0_pay300 (getL n0 (left4 c i arg3 harg3 arg4 harg4 arg5 harg5 arg6 harg6 arg7 harg7 arg8 harg8 arg9 harg9 arg10 harg10 arg11 harg11 arg12 harg12 arg13 harg13 x0 x1 x2 x3).1) (getL n1 (left4 c i arg3 harg3 arg4 harg4 arg5 harg5 arg6 harg6 arg7 harg7 arg8 harg8 arg9 harg9 arg10 harg10 arg11 harg11 arg12 harg12 arg13 harg13 x0 x1 x2 x3).1) (lamv arg7 harg7 arg8 harg8 arg9 harg9 arg10 harg10 x4 x5 x6 x7)
    (slot arg13 n0 (arg13.view.writes (Elt F) arg13.view.junk (list4 c i arg3 harg3 arg4 harg4 arg5 harg5 arg6 harg6 arg7 harg7 arg8 harg8 arg9 harg9 arg10 harg10 arg11 harg11 arg12 harg12 arg13 harg13 x0 x1 x2 x3)))
    (slot arg13 n1 (arg13.view.writes (Elt F) arg13.view.junk (list4 c i arg3 harg3 arg4 harg4 arg5 harg5 arg6 harg6 arg7 harg7 arg8 harg8 arg9 harg9 arg10 harg10 arg11 harg11 arg12 harg12 arg13 harg13 x0 x1 x2 x3))) (View.readAt (Elt F) arg11.view (Rect.unit (s := S1x128) ![0, 0] S1x128.size inb_S1x128_S1x128_0_0).toLoadRect (harg11.unread x8))

theorem pay_h3 (l6 l7 : FVec F S512x1 .f32) (lam : FVec F S1x1 .f32) (a b : Vec F S1x512x128 .f32) (s : Vec F S1x128 .f32) :
    k0_pay1 (k0_pay304 l6 l7 lam a b) s = k0_pay300 l6 l7 lam a b s := rfl

theorem pay_h2 (l4 l5 : FVec F S512x1 .f32) (lam : FVec F S1x1 .f32) (a b : Vec F S1x512x128 .f32) (s : Vec F S1x128 .f32) :
    k0_pay303 l5 lam (k0_pay301 a) (k0_pay302 l4) b s = k0_pay300 l4 l5 lam a b s := rfl

theorem pay_h0 (l0 l1 : FVec F S512x1 .f32) (p : FVec F S1x1 .f32) (q : FVec F S1x64 .f32) (t : Vec F S1x64 .f32)
    (a b : Vec F S1x512x128 .f32) (s : Vec F S1x128 .f32) :
    k0_pay299 (k0_pay298 l0 l1 p q t a b s) = k0_pay300 l0 l1 (k0_pay297 p q t) a b s := rfl

theorem run_raw (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : (kernelRun0_A c i arg3 harg3 arg4 harg4 arg5 harg5 arg6 harg6 arg7 harg7 arg8 harg8 arg9 harg9 arg10 harg10 arg11 harg11 arg12 harg12 arg13 harg13 x0 x1 x2 x3 x4 x5 x6 x7 x8).1 =
    [⟨Rect.unit (s := S1x512x512) ![0, 0, 384] ![1, 512, 128] (qt_inb 3), k0_pay1 (kernelRun0_A.sl.r_23 c i arg3 harg3 arg4 harg4 arg5 harg5 arg6 harg6 arg7 harg7 arg8 harg8 arg9 harg9 arg10 harg10 arg11 harg11 arg12 harg12 arg13 harg13 x0 x1 x2 x3 x4 x5 x6 x7) (View.readAt (Elt F) arg11.view (Rect.unit (s := S1x128) ![0, 0] S1x128.size inb_S1x128_S1x128_0_0).toLoadRect (harg11.unread x8))⟩,
      ⟨Rect.unit (s := S1x512x512) ![0, 0, 256] ![1, 512, 128] (qt_inb 2), k0_pay303 (kernelRun0_A.sl.r_14 c i arg3 harg3 arg4 harg4 arg5 harg5 arg6 harg6 arg7 harg7 arg8 harg8 arg9 harg9 arg10 harg10 arg11 harg11 arg12 harg12 arg13 harg13 x0 x1 x2 x3) (kernelRun0_A.sl.r_19 c arg7 harg7 arg8 harg8 arg9 harg9 arg10 harg10 x4 x5 x6 x7) (kernelRun0_A.sl.r_21 c i arg3 harg3 arg4 harg4 arg5 harg5 arg6 harg6 arg7 harg7 arg8 harg8 arg9 harg9 arg10 harg10 arg11 harg11 arg12 harg12 arg13 harg13 x0 x1 x2 x3) (kernelRun0_A.sl.r_22 c i arg3 harg3 arg4 harg4 arg5 harg5 arg6 harg6 arg7 harg7 arg8 harg8 arg9 harg9 arg10 harg10 arg11 harg11 arg12 harg12 arg13 harg13 x0 x1 x2 x3) (kernelRun0_A.sl.v185 c i arg3 harg3 arg4 harg4 arg5 harg5 arg6 harg6 arg7 harg7 arg8 harg8 arg9 harg9 arg10 harg10 arg11 harg11 arg12 harg12 arg13 harg13 x0 x1 x2 x3) (View.readAt (Elt F) arg11.view (Rect.unit (s := S1x128) ![0, 0] S1x128.size inb_S1x128_S1x128_0_0).toLoadRect (harg11.unread x8))⟩,
      ⟨Rect.unit (s := S1x512x512) ![0, 0, 128] ![1, 512, 128] (qt_inb 1), k0_pay300 (kernelRun0_A.sl.r_11 c i arg3 harg3 arg4 harg4 arg5 harg5 arg6 harg6 arg7 harg7 arg8 harg8 arg9 harg9 arg10 harg10 arg11 harg11 arg12 harg12 arg13 harg13 x0 x1 x2 x3) (kernelRun0_A.sl.r_12 c i arg3 harg3 arg4 harg4 arg5 harg5 arg6 harg6 arg7 harg7 arg8 harg8 arg9 harg9 arg10 harg10 arg11 harg11 arg12 harg12 arg13 harg13 x0 x1 x2 x3) (kernelRun0_A.sl.r_19 c arg7 harg7 arg8 harg8 arg9 harg9 arg10 harg10 x4 x5 x6 x7) (kernelRun0_A.sl.v147 c i arg3 harg3 arg4 harg4 arg5 harg5 arg6 harg6 arg7 harg7 arg8 harg8 arg9 harg9 arg10 harg10 arg11 harg11 arg12 harg12 arg13 harg13 x0 x1 x2 x3) (kernelRun0_A.sl.v153 c i arg3 harg3 arg4 harg4 arg5 harg5 arg6 harg6 arg7 harg7 arg8 harg8 arg9 harg9 arg10 harg10 arg11 harg11 arg12 harg12 arg13 harg13 x0 x1 x2 x3) (View.readAt (Elt F) arg11.view (Rect.unit (s := S1x128) ![0, 0] S1x128.size inb_S1x128_S1x128_0_0).toLoadRect (harg11.unread x8))⟩,
      ⟨Rect.unit (s := S1x512x512) ![0, 0, 0] ![1, 512, 128] (qt_inb 0), k0_pay299 (kernelRun0_A.sl.r_20 c i arg3 harg3 arg4 harg4 arg5 harg5 arg6 harg6 arg7 harg7 arg8 harg8 arg9 harg9 arg10 harg10 arg11 harg11 arg12 harg12 arg13 harg13 x0 x1 x2 x3 x4 x5 x6 x7 x8)⟩] := rfl

theorem piece3 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : k0_pay1 (kernelRun0_A.sl.r_23 c i arg3 harg3 arg4 harg4 arg5 harg5 arg6 harg6 arg7 harg7 arg8 harg8 arg9 harg9 arg10 harg10 arg11 harg11 arg12 harg12 arg13 harg13 x0 x1 x2 x3 x4 x5 x6 x7) (View.readAt (Elt F) arg11.view (Rect.unit (s := S1x128) ![0, 0] S1x128.size inb_S1x128_S1x128_0_0).toLoadRect (harg11.unread x8)) = pieceOf 6 7 c i arg3 harg3 arg4 harg4 arg5 harg5 arg6 harg6 arg7 harg7 arg8 harg8 arg9 harg9 arg10 harg10 arg11 harg11 arg12 harg12 arg13 harg13 x0 x1 x2 x3 x4 x5 x6 x7 x8 := by
  unfold kernelRun0_A.sl.r_23
  rw [run_l6, run_l7, run_a6, run_a7, pay_h3]
  rfl

theorem piece2 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : k0_pay303 (kernelRun0_A.sl.r_14 c i arg3 harg3 arg4 harg4 arg5 harg5 arg6 harg6 arg7 harg7 arg8 harg8 arg9 harg9 arg10 harg10 arg11 harg11 arg12 harg12 arg13 harg13 x0 x1 x2 x3) (kernelRun0_A.sl.r_19 c arg7 harg7 arg8 harg8 arg9 harg9 arg10 harg10 x4 x5 x6 x7) (kernelRun0_A.sl.r_21 c i arg3 harg3 arg4 harg4 arg5 harg5 arg6 harg6 arg7 harg7 arg8 harg8 arg9 harg9 arg10 harg10 arg11 harg11 arg12 harg12 arg13 harg13 x0 x1 x2 x3) (kernelRun0_A.sl.r_22 c i arg3 harg3 arg4 harg4 arg5 harg5 arg6 harg6 arg7 harg7 arg8 harg8 arg9 harg9 arg10 harg10 arg11 harg11 arg12 harg12 arg13 harg13 x0 x1 x2 x3) (kernelRun0_A.sl.v185 c i arg3 harg3 arg4 harg4 arg5 harg5 arg6 harg6 arg7 harg7 arg8 harg8 arg9 harg9 arg10 harg10 arg11 harg11 arg12 harg12 arg13 harg13 x0 x1 x2 x3) (View.readAt (Elt F) arg11.view (Rect.unit (s := S1x128) ![0, 0] S1x128.size inb_S1x128_S1x128_0_0).toLoadRect (harg11.unread x8)) = pieceOf 4 5 c i arg3 harg3 arg4 harg4 arg5 harg5 arg6 harg6 arg7 harg7 arg8 harg8 arg9 harg9 arg10 harg10 arg11 harg11 arg12 harg12 arg13 harg13 x0 x1 x2 x3 x4 x5 x6 x7 x8 := by
  unfold kernelRun0_A.sl.r_21 kernelRun0_A.sl.r_22
  rw [run_l4, run_l5, run_a4, run_a5, pay_h2]
  rfl

theorem piece1 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : k0_pay300 (kernelRun0_A.sl.r_11 c i arg3 harg3 arg4 harg4 arg5 harg5 arg6 harg6 arg7 harg7 arg8 harg8 arg9 harg9 arg10 harg10 arg11 harg11 arg12 harg12 arg13 harg13 x0 x1 x2 x3) (kernelRun0_A.sl.r_12 c i arg3 harg3 arg4 harg4 arg5 harg5 arg6 harg6 arg7 harg7 arg8 harg8 arg9 harg9 arg10 harg10 arg11 harg11 arg12 harg12 arg13 harg13 x0 x1 x2 x3) (kernelRun0_A.sl.r_19 c arg7 harg7 arg8 harg8 arg9 harg9 arg10 harg10 x4 x5 x6 x7) (kernelRun0_A.sl.v147 c i arg3 harg3 arg4 harg4 arg5 harg5 arg6 harg6 arg7 harg7 arg8 harg8 arg9 harg9 arg10 harg10 arg11 harg11 arg12 harg12 arg13 harg13 x0 x1 x2 x3) (kernelRun0_A.sl.v153 c i arg3 harg3 arg4 harg4 arg5 harg5 arg6 harg6 arg7 harg7 arg8 harg8 arg9 harg9 arg10 harg10 arg11 harg11 arg12 harg12 arg13 harg13 x0 x1 x2 x3) (View.readAt (Elt F) arg11.view (Rect.unit (s := S1x128) ![0, 0] S1x128.size inb_S1x128_S1x128_0_0).toLoadRect (harg11.unread x8)) = pieceOf 2 3 c i arg3 harg3 arg4 harg4 arg5 harg5 arg6 harg6 arg7 harg7 arg8 harg8 arg9 harg9 arg10 harg10 arg11 harg11 arg12 harg12 arg13 harg13 x0 x1 x2 x3 x4 x5 x6 x7 x8 := by
  rw [run_l2, run_l3, run_a2, run_a3]
  rfl

theorem piece0 (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : k0_pay299 (kernelRun0_A.sl.r_20 c i arg3 harg3 arg4 harg4 arg5 harg5 arg6 harg6 arg7 harg7 arg8 harg8 arg9 harg9 arg10 harg10 arg11 harg11 arg12 harg12 arg13 harg13 x0 x1 x2 x3 x4 x5 x6 x7 x8) = pieceOf 0 1 c i arg3 harg3 arg4 harg4 arg5 harg5 arg6 harg6 arg7 harg7 arg8 harg8 arg9 harg9 arg10 harg10 arg11 harg11 arg12 harg12 arg13 harg13 x0 x1 x2 x3 x4 x5 x6 x7 x8 := by
  unfold kernelRun0_A.sl.r_20
  rw [run_l0, run_l1, run_a0, run_a1, pay_h0]
  rfl

theorem run_pieces (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) : (kernelRun0_A c i arg3 harg3 arg4 harg4 arg5 harg5 arg6 harg6 arg7 harg7 arg8 harg8 arg9 harg9 arg10 harg10 arg11 harg11 arg12 harg12 arg13 harg13 x0 x1 x2 x3 x4 x5 x6 x7 x8).1 =
    [⟨Rect.unit (s := S1x512x512) ![0, 0, 384] ![1, 512, 128] (qt_inb 3), pieceOf 6 7 c i arg3 harg3 arg4 harg4 arg5 harg5 arg6 harg6 arg7 harg7 arg8 harg8 arg9 harg9 arg10 harg10 arg11 harg11 arg12 harg12 arg13 harg13 x0 x1 x2 x3 x4 x5 x6 x7 x8⟩,
      ⟨Rect.unit (s := S1x512x512) ![0, 0, 256] ![1, 512, 128] (qt_inb 2), pieceOf 4 5 c i arg3 harg3 arg4 harg4 arg5 harg5 arg6 harg6 arg7 harg7 arg8 harg8 arg9 harg9 arg10 harg10 arg11 harg11 arg12 harg12 arg13 harg13 x0 x1 x2 x3 x4 x5 x6 x7 x8⟩,
      ⟨Rect.unit (s := S1x512x512) ![0, 0, 128] ![1, 512, 128] (qt_inb 1), pieceOf 2 3 c i arg3 harg3 arg4 harg4 arg5 harg5 arg6 harg6 arg7 harg7 arg8 harg8 arg9 harg9 arg10 harg10 arg11 harg11 arg12 harg12 arg13 harg13 x0 x1 x2 x3 x4 x5 x6 x7 x8⟩,
      ⟨Rect.unit (s := S1x512x512) ![0, 0, 0] ![1, 512, 128] (qt_inb 0), pieceOf 0 1 c i arg3 harg3 arg4 harg4 arg5 harg5 arg6 harg6 arg7 harg7 arg8 harg8 arg9 harg9 arg10 harg10 arg11 harg11 arg12 harg12 arg13 harg13 x0 x1 x2 x3 x4 x5 x6 x7 x8⟩] := by
  rw [run_raw, piece3, piece2, piece1, piece0]

theorem four_read {w : BufTy.Contents (Elt F) VO0_9.ty} (P : Fin 4 → FVec F S1x512x128 .f32) (h : Fin 4) (r : Fin 512) (e : Fin 128) :
    VO0_9.read (Elt F) (VO0_9.writes (Elt F) w
      [⟨Rect.unit (s := S1x512x512) ![0, 0, 384] ![1, 512, 128] (qt_inb 3), P 3⟩,
       ⟨Rect.unit (s := S1x512x512) ![0, 0, 256] ![1, 512, 128] (qt_inb 2), P 2⟩,
       ⟨Rect.unit (s := S1x512x512) ![0, 0, 128] ![1, 512, 128] (qt_inb 1), P 1⟩,
       ⟨Rect.unit (s := S1x512x512) ![0, 0, 0] ![1, 512, 128] (qt_inb 0), P 0⟩]) (ix3 0 r ⟨128 * h.val + e.val, by omega⟩)
      = P h (ix3 0 r e) := by
  have hit : ∀ (h' : Fin 4) (L : List (View.Piece (Elt F) S1x512x512 .f32)),
      VO0_9.read (Elt F) (VO0_9.writes (Elt F) w
        ((⟨Rect.unit (s := S1x512x512) ![0, 0, 128 * h'.val] ![1, 512, 128] (qt_inb h'), P h'⟩ : View.Piece (Elt F) S1x512x512 .f32) :: L))
        (ix3 0 r ⟨128 * h'.val + e.val, by omega⟩) = P h' (ix3 0 r e) := fun h' L =>
    View.read_writes_cons_unit_of_mem _ w (qt_inb h') (P h') L _ (ix3 0 r e) rfl (by
      intro a; fin_cases a <;> simp [ix3])
  have miss : ∀ (h' : Fin 4) (L : List (View.Piece (Elt F) S1x512x512 .f32)), h' ≠ h →
      VO0_9.read (Elt F) (VO0_9.writes (Elt F) w
        ((⟨Rect.unit (s := S1x512x512) ![0, 0, 128 * h'.val] ![1, 512, 128] (qt_inb h'), P h'⟩ : View.Piece (Elt F) S1x512x512 .f32) :: L))
        (ix3 0 r ⟨128 * h.val + e.val, by omega⟩) = VO0_9.read (Elt F) (VO0_9.writes (Elt F) w L) (ix3 0 r ⟨128 * h.val + e.val, by omega⟩) := fun h' L hne =>
    View.read_writes_cons_unit_of_not_mem _ w (qt_inb h') (P h') L _ rfl 2 (by
      have : h'.val ≠ h.val := fun h'' => hne (Fin.ext h'')
      show 128 * h.val + e.val < 128 * h'.val ∨ 128 * h'.val + 128 ≤ 128 * h.val + e.val
      omega)
  by_cases h3 : (3 : Fin 4) = h
  · subst h3; exact hit 3 _
  refine (miss 3 _ h3).trans ?_
  by_cases h2 : (2 : Fin 4) = h
  · subst h2; exact hit 2 _
  refine (miss 2 _ h2).trans ?_
  by_cases h1 : (1 : Fin 4) = h
  · subst h1; exact hit 1 _
  refine (miss 1 _ h1).trans ?_
  obtain rfl : (0 : Fin 4) = h := by clear hit miss; omega
  exact hit 0 _

theorem out_piece (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec F S1x512x512 .f32) (x1 : Vec F S1x4096x512 .bf16) (x2 : Vec F S1x4096x512 .bf16) (x3 : Vec F S4x2x512x512 .f32) (x4 : Vec F S1x64 .f32) (x5 : Vec F S1x64 .f32) (x6 : Vec F S1x64 .f32) (x7 : Vec F S1x64 .f32) (x8 : Vec F S1x128 .f32) (h : Fin 4) (r : Fin 512) (e : Fin 128) :
    out0_A_9 c i arg3 harg3 arg4 harg4 arg5 harg5 arg6 harg6 arg7 harg7 arg8 harg8 arg9 harg9 arg10 harg10 arg11 harg11 arg12 harg12 arg13 harg13 x0 x1 x2 x3 x4 x5 x6 x7 x8 (ix3 0 r ⟨128 * h.val + e.val, by omega⟩)
      = pieceOf ⟨2 * h.val, by omega⟩ ⟨2 * h.val + 1, by omega⟩ c i arg3 harg3 arg4 harg4 arg5 harg5 arg6 harg6 arg7 harg7 arg8 harg8 arg9 harg9 arg10 harg10 arg11 harg11 arg12 harg12 arg13 harg13 x0 x1 x2 x3 x4 x5 x6 x7 x8 (ix3 0 r e) := by
  unfold out0_A_9
  rw [run_pieces]
  refine (four_read (fun h : Fin 4 => pieceOf ⟨2 * h.val, by omega⟩ ⟨2 * h.val + 1, by omega⟩ c i arg3 harg3 arg4 harg4 arg5 harg5 arg6 harg6 arg7 harg7 arg8 harg8 arg9 harg9 arg10 harg10 arg11 harg11 arg12 harg12 arg13 harg13 x0 x1 x2 x3 x4 x5 x6 x7 x8) h r e).trans rfl

end

/-- The difference of the two maps, normalised over the head's lanes, scaled. -/
def normed (o : Fin 128 → EReal) (s : EReal) (e : Fin 128) : EReal :=
  o e * Ideal.rsqrt ((∑ x, o x * o x) * Ideal.ofBits .f32 0x3C000000#32 + Ideal.ofBits .f32 0x3727C5AC#32) * s * Ideal.ofBits .f32 0x3F4CCCCD#32

theorem pay300_apply (l0 l1 : FVec Ideal S512x1 .f32) (lam : FVec Ideal S1x1 .f32) (a b : Vec Ideal S1x512x128 .f32) (s : Vec Ideal S1x128 .f32)
    (r : Fin 512) (e : Fin 128) :
    k0_pay300 l0 l1 lam a b s (ix3 0 r e) = normed (fun x => (a (ix3 0 r x) : EReal) * Ideal.div ((1 : ℝ) : EReal) (l0 (ix2 r 0))
      - (b (ix3 0 r x) : EReal) * Ideal.div (lam (ix2 0 0)) (l1 (ix2 r 0))) (s (ix2 0 e)) e := by
  unfold k0_pay300 normed
  pointwise []
  simp only [EReal.coe_one]

theorem read64 (a : Memref sig .tc .vmem S1x64 .f32) (ha : a.IsWhole) (x : Vec Ideal S1x64 .f32) (l : Fin 64) :
    View.readAt (Elt Ideal) a.view (Rect.unit (s := S1x64) ![0, 0] ![1, 64] inb_S1x64_S1x64_0_0).toLoadRect (ha.unread x) (ix2 0 l) = x (ix2 0 l) := by
  rw [View.readAt_rect]
  show a.view.read (Elt Ideal) (ha.unread x) _ = _
  rw [ha.read_unread]
  congr 1
  funext k
  apply Fin.ext
  show (![0, 0] : Fin 2 → ℕ) k + 1 * ((ix2 (0 : Fin 1) l : S1x64.Idx) k).val = _
  rw [one_mul]
  fin_cases k <;> simp [ix2]

theorem read128 (a : Memref sig .tc .vmem S1x128 .f32) (ha : a.IsWhole) (x : Vec Ideal S1x128 .f32) (l : Fin 128) :
    View.readAt (Elt Ideal) a.view (Rect.unit (s := S1x128) ![0, 0] S1x128.size inb_S1x128_S1x128_0_0).toLoadRect (ha.unread x) (ix2 0 l) = x (ix2 0 l) := by
  rw [View.readAt_rect]
  show a.view.read (Elt Ideal) (ha.unread x) _ = _
  rw [ha.read_unread]
  congr 1
  funext k
  apply Fin.ext
  show (![0, 0] : Fin 2 → ℕ) k + 1 * ((ix2 (0 : Fin 1) l : S1x128.Idx) k).val = _
  rw [one_mul]
  fin_cases k <;> simp [ix2]

theorem lamv_apply (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S1x64 .f32) (harg10 : arg10.IsWhole) (x4 x5 x6 x7 : Vec Ideal S1x64 .f32) :
    lamv arg7 harg7 arg8 harg8 arg9 harg9 arg10 harg10 x4 x5 x6 x7 (ix2 0 0)
      = Ideal.exp (∑ x : Fin 64, (x4 (ix2 0 x) : EReal) * x5 (ix2 0 x)) - Ideal.exp (∑ x : Fin 64, (x6 (ix2 0 x) : EReal) * x7 (ix2 0 x))
        + Ideal.ofBits .f32 0x3E4CCCCD#32 := by
  unfold lamv k0_pay297 k0_pay295 k0_pay296
  pointwise []
  simp only [read64]

/-- The total weight of a row of chain `n`. -/
def Wsum (a : ℕ) (n : Fin 8) (qf : ℕ → ℝ) (kf : ℕ → ℕ → ℝ) (bf : ℕ → ℕ → EReal) : ℝ :=
  ∑ j ∈ Finset.range (a + 1), ∑ x, wt (expo a n qf kf bf j x)

/-- The weighted sum of a row of chain `n` at lane `e` of its head. -/
def Usum (a : ℕ) (n : Fin 8) (qf : ℕ → ℝ) (kf vf : ℕ → ℕ → ℝ) (bf : ℕ → ℕ → EReal) (e : Fin 128) : ℝ :=
  ∑ j ∈ Finset.range (a + 1), ∑ x, wt (expo a n qf kf bf j x) * vf (512 * j + x.val) (128 * (n.val / 2) + e.val)

/-- The output block at a row, a head and a lane. -/
theorem out_apply (c : Dev nD) (i : grid0.Coords) (arg3 : Memref sig .tc .vmem S1x512x512 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S4x2x512x512 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x128 .f32) (harg11 : arg11.IsWhole) (arg12 : Memref sig .tc .vmem S1x512x512 .f32) (harg12 : arg12.IsWhole) (arg13 : Memref sig .tc .vmem S8x512x128 .f32) (harg13 : arg13.IsWhole) (x0 : Vec Ideal S1x512x512 .f32) (x1 : Vec Ideal S1x4096x512 .bf16) (x2 : Vec Ideal S1x4096x512 .bf16) (x3 : Vec Ideal S4x2x512x512 .f32) (x4 : Vec Ideal S1x64 .f32) (x5 : Vec Ideal S1x64 .f32) (x6 : Vec Ideal S1x64 .f32) (x7 : Vec Ideal S1x64 .f32) (x8 : Vec Ideal S1x128 .f32) (h : Fin 4) (r : Fin 512) (e : Fin 128)
    (qf : ℕ → ℝ) (kf vf : ℕ → ℕ → ℝ) (bf : ℕ → ℕ → EReal) (lam : ℝ)
    (hq : ∀ x : Fin 512, x0 (ix3 0 r x) = ((qf x.val : ℝ) : EReal))
    (hk : ∀ (s : Fin 4096) (x : Fin 512), x1 (ix3 0 s x) = ((kf s.val x.val : ℝ) : EReal))
    (hv : ∀ (s : Fin 4096) (x : Fin 512), x2 (ix3 0 s x) = ((vf s.val x.val : ℝ) : EReal))
    (hb : ∀ (d : Fin 2) (x : Fin 512), x3 (ix4 h d r x) = bf d.val x.val)
    (hbt : ∀ d x, bf d x ≠ ⊤)
    (hl : Ideal.exp (∑ x : Fin 64, (x4 (ix2 0 x) : EReal) * x5 (ix2 0 x)) - Ideal.exp (∑ x : Fin 64, (x6 (ix2 0 x) : EReal) * x7 (ix2 0 x))
        + Ideal.ofBits .f32 0x3E4CCCCD#32 = (lam : EReal))
    (hW : ∀ n, 0 < Wsum (i 2).val n qf kf bf) :
    out0_A_9 (F := Ideal) c i arg3 harg3 arg4 harg4 arg5 harg5 arg6 harg6 arg7 harg7 arg8 harg8 arg9 harg9 arg10 harg10 arg11 harg11 arg12 harg12 arg13 harg13 x0 x1 x2 x3 x4 x5 x6 x7 x8 (ix3 0 r ⟨128 * h.val + e.val, by omega⟩)
      = normed (fun x => ((Usum (i 2).val ⟨2 * h.val, by omega⟩ qf kf vf bf x / Wsum (i 2).val ⟨2 * h.val, by omega⟩ qf kf bf
          - lam * (Usum (i 2).val ⟨2 * h.val + 1, by omega⟩ qf kf vf bf x / Wsum (i 2).val ⟨2 * h.val + 1, by omega⟩ qf kf bf) : ℝ) : EReal))
        (x8 (ix2 0 e)) e := by
  have h0 : head8 ⟨2 * h.val, by omega⟩ = h := by fin_cases h <;> rfl
  have h1 : head8 ⟨2 * h.val + 1, by omega⟩ = h := by fin_cases h <;> rfl
  rw [out_piece]
  unfold pieceOf
  rw [pay300_apply, read128, lamv_apply, hl]
  congr 1
  funext x
  have i0 := inv3 ⟨2 * h.val, by omega⟩ r x c i arg3 harg3 arg4 harg4 arg5 harg5 arg6 harg6 arg7 harg7 arg8 harg8 arg9 harg9 arg10 harg10 arg11 harg11 arg12 harg12 arg13 harg13 x0 x1 x2 x3 qf kf vf bf hq hk hv (by rw [h0]; exact hb) hbt
  have i1 := inv3 ⟨2 * h.val + 1, by omega⟩ r x c i arg3 harg3 arg4 harg4 arg5 harg5 arg6 harg6 arg7 harg7 arg8 harg8 arg9 harg9 arg10 harg10 arg11 harg11 arg12 harg12 arg13 harg13 x0 x1 x2 x3 qf kf vf bf hq hk hv (by rw [h1]; exact hb) hbt
  rw [inv_div i0 (hW _) 1, inv_div i1 (hW _) lam, one_mul, ← EReal.coe_sub]
  rfl

end Cert.KernelIdeal.Gen

end
-- ==== Proof.Operands.lean ====
module

public import proofs.«01_k».proof.Proof.Ref
public import proofs.«01_k».proof.Proof.Out
public import proofs.«01_k».proof.Proof.Gen.KernelIdeal.Value
public import Idealize.ShloMosaic.Lib.Pointwise
public import Idealize.ShloMosaic.Lib.Pipeline.ValueKit
public import Idealize.ShloMosaic.Lib.Claim

/-!
# What the attention's call is given

The arrays the host prepares for the call, read at an index.
-/

set_option maxRecDepth 16384

@[expose] public section

noncomputable section

namespace Cert.KernelIdeal.Gen

open Idealize.ShloMosaic Idealize.ShloMosaic.TcCoe Idealize.SL.Sem
open Cert.Bias

variable (m : (ℓ : Loc nD τ sig) → Buf (Elt Ideal) ℓ)

/-- The table gathered at an array of rows. -/
theorem gather_apply (T : FVec Ideal S32x4 .f32) (I : IVec S2x512x512x1 32) (i : Fin 2) (r s : Fin 512) (h : Fin 4) :
    Host.gather gather_S32x4_S2x512x512x1_S2x512x512x4_3_0_n_n_0_3_14 T I (ix4 i r s h)
      = T (ix2 ⟨min (I (ix4 i r s 0)).toInt.toNat 31, by omega⟩ h) := by
  unfold Host.gather
  congr 1
  funext a
  refine Fin.ext ?_
  set d := gather_S32x4_S2x512x512x1_S2x512x512x4_3_0_n_n_0_3_14 with hd
  show d.start (ix4 i r s h) I a + d.batchCoord (ix4 i r s h) a + d.offCoord (ix4 i r s h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix4 i r s h) ⟨List.idxOf (0 : Fin 2) d.startIndexMap,
        List.idxOf_lt_length_iff.2 (List.mem_singleton.mpr rfl)⟩ = ix4 i r s 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (show ¬ (1 : Fin 2) ∈ d.startIndexMap by decide)]
    simp only [Nat.zero_add]
    rfl

theorem gather_row (T : FVec Ideal S32x4 .f32) (w : IVec S2x512x512 32) (i : Fin 2) (r s : Fin 512) (h : Fin 4) :
    Host.gather gather_S32x4_S2x512x512x1_S2x512x512x4_3_0_n_n_0_3_14 T
        (broadcastInDim S2x512x512x1 ![0, 1, 2] bcast_S2x512x512_S2x512x512x1_0_1_2
          (select (cmpi CmpIPredicate.slt w (broadcastInDim S2x512x512 ![] bcast_S_S2x512x512 (constantI S_ 32 0#32)))
            (addi w (broadcastInDim S2x512x512 ![] bcast_S_S2x512x512 (constantI S_ 32 32#32))) w)) (ix4 i r s h)
      = T (ix2 (clampRow (w (ix3 i r s))) h) := by
  rw [gather_apply]
  refine congrArg (fun n => T (ix2 n h)) (Fin.ext ?_)
  show min (BitVec.toInt _).toNat 31 = min (BitVec.toInt _).toNat 31
  refine congrArg (fun v : BitVec 32 => min v.toInt.toNat 31) ?_
  pointwise

theorem q_read (c : Dev nD) (b : Fin 4) (s : Fin 4096) (x : Fin 512) (A : FVec Ideal S4x4096x4x2x64 .f32) (hA : A = m (c, Proc.devRef .tc main_arg0)) :
    (V m c main_v5 : FVec Ideal S4x4096x512 .f32) (ix3 b s x) = A (ix5 b s ⟨x.val / 128, by omega⟩ ⟨x.val / 64 % 2, by omega⟩ ⟨x.val % 64, by omega⟩) * Ideal.div (Ideal.ofBits .f32 0x3E000000#32) (Ideal.log (Ideal.ofBits .f32 0x40000000#32)) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise
  rfl

theorem k_read (c : Dev nD) (b : Fin 4) (s : Fin 4096) (x : Fin 512) (A : FVec Ideal S4x4096x4x2x64 .f32) (hA : A = m (c, Proc.devRef .tc main_arg1)) :
    (V m c main_v7 : FVec Ideal S4x4096x512 .bf16) (ix3 b s x) = A (ix5 b s ⟨x.val / 128, by omega⟩ ⟨x.val / 64 % 2, by omega⟩ ⟨x.val % 64, by omega⟩) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem v_read (c : Dev nD) (b : Fin 4) (s : Fin 4096) (x : Fin 512) (A : FVec Ideal S4x4096x4x128 .f32) (hA : A = m (c, Proc.devRef .tc main_arg2)) :
    (V m c main_v9 : FVec Ideal S4x4096x512 .bf16) (ix3 b s x) = A (ix4 b s ⟨x.val / 128, by omega⟩ ⟨x.val % 128, by omega⟩) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem lam_read0 (c : Dev nD) (x : Fin 64) (A : FVec Ideal S64 .f32) (hA : A = m (c, Proc.devRef .tc main_arg4)) :
    (V m c main_v10 : FVec Ideal S1x64 .f32) (ix2 0 x) = A (ix1 x) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem lam_read1 (c : Dev nD) (x : Fin 64) (A : FVec Ideal S64 .f32) (hA : A = m (c, Proc.devRef .tc main_arg5)) :
    (V m c main_v11 : FVec Ideal S1x64 .f32) (ix2 0 x) = A (ix1 x) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem lam_read2 (c : Dev nD) (x : Fin 64) (A : FVec Ideal S64 .f32) (hA : A = m (c, Proc.devRef .tc main_arg6)) :
    (V m c main_v12 : FVec Ideal S1x64 .f32) (ix2 0 x) = A (ix1 x) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem lam_read3 (c : Dev nD) (x : Fin 64) (A : FVec Ideal S64 .f32) (hA : A = m (c, Proc.devRef .tc main_arg7)) :
    (V m c main_v13 : FVec Ideal S1x64 .f32) (ix2 0 x) = A (ix1 x) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem sub_read (c : Dev nD) (x : Fin 128) (A : FVec Ideal S128 .f32) (hA : A = m (c, Proc.devRef .tc main_arg8)) :
    (V m c main_v70 : FVec Ideal S1x128 .f32) (ix2 0 x) = A (ix1 x) := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise

theorem bias_read (c : Dev nD) (h : Fin 4) (i : Fin 2) (r s : Fin 512) (A : FVec Ideal S32x4 .f32) (hA : A = m (c, Proc.devRef .tc main_arg3)) :
    (V m c main_v69 : FVec Ideal S4x2x512x512 .f32) (ix4 h i r s) = if s.val ≤ (1 - i.val) * 512 + r.val then
      Ideal.div (A (ix2 (row ((1 - i.val) * 512 + r.val - s.val)) h) - A (ix2 31 h)) (Ideal.log (Ideal.ofBits .f32 0x40000000#32)) else ⊥ := by
  subst hA
  unfold V
  simp only [hostOps0, hostOps0_1, hostOps0_2, hostOps0_3, hostOps0_4, List.flatten_cons, List.flatten_nil, List.append_nil, List.cons_append, List.nil_append,
    StableHlo.TRef.ternary, StableHlo.TRef.unary, StableHlo.TRef.toBuf, StableHlo.TRef.ofBuf, cast_eq]
  after_results_simp
  pointwise
  rw [gather_row]
  pointwise
  rw [tile_word i.val r.val i.isLt r.isLt, sge_word _ _ (by omega) (by omega), dist_word _ _ (by omega) (by omega)]
  by_cases hle : s.val ≤ (1 - i.val) * 512 + r.val
  · rw [if_pos hle, if_pos hle, ValueIdx.select_one]
    rfl
  · rw [if_neg hle, if_neg hle, ValueIdx.select_zero]
    exact Cert.Rows.ofBits_bot

end Cert.KernelIdeal.Gen

end
-- ==== Proof.Maths.lean ====
module

public import proofs.«01_k».proof.Proof.Ref
public import proofs.«01_k».proof.Proof.Out

/-!
# The kernel's row sums and the reference's

Tile by tile and in base 2, less the bias of the far keys, the kernel adds up the same row weights as the reference,
up to one factor common to the whole row.
-/

set_option maxRecDepth 16384

@[expose] public section

noncomputable section

namespace Cert.KernelIdeal.Gen

open Idealize.ShloMosaic Idealize.ShloMosaic.TcCoe Idealize.SL.Sem
open Cert.Bias Cert.Rows Cert.Online

/-- The kernel's scaled query row. -/
def qfun (q : Fin 4 → Fin 2 → Fin 64 → ℝ) (x : ℕ) : ℝ :=
  q ⟨x / 128 % 4, by omega⟩ ⟨x / 64 % 2, by omega⟩ ⟨x % 64, by omega⟩ * (1 / 8 * (1 / Real.log 2))

/-- The keys, the heads and maps side by side. -/
def kfun (k : Fin 4096 → Fin 4 → Fin 2 → Fin 64 → ℝ) (s x : ℕ) : ℝ :=
  k ⟨s % 4096, by omega⟩ ⟨x / 128 % 4, by omega⟩ ⟨x / 64 % 2, by omega⟩ ⟨x % 64, by omega⟩

/-- The values, the heads side by side. -/
def vfun (v : Fin 4096 → Fin 4 → Fin 128 → ℝ) (s x : ℕ) : ℝ :=
  v ⟨s % 4096, by omega⟩ ⟨x / 128 % 4, by omega⟩ ⟨x % 128, by omega⟩

/-- The near bias of one head and one query row. -/
def bfun (T : Fin 32 → ℝ) (r d x : ℕ) : EReal :=
  if x ≤ (1 - d) * 512 + r then (((T (row ((1 - d) * 512 + r - x)) - T 31) * (1 / Real.log 2) : ℝ) : EReal) else ⊥

theorem bfun_ne_top (T : Fin 32 → ℝ) (r d x : ℕ) : bfun T r d x ≠ ⊤ := by
  unfold bfun; split
  · exact EReal.coe_ne_top _
  · exact bot_ne_top

theorem log2_ne : Real.log 2 ≠ 0 := (Real.log_pos (by norm_num)).ne'

theorem dotq_eq (q : Fin 4 → Fin 2 → Fin 64 → ℝ) (k : Fin 4096 → Fin 4 → Fin 2 → Fin 64 → ℝ) (n : Fin 8) (h : Fin 4) (c : Fin 2)
    (hn : n.val = 2 * h.val + c.val) (s : Fin 4096) :
    dotq n (qfun q) (kfun k) s.val = (∑ x, q h c x * k s h c x) * (1 / 8) * (1 / Real.log 2) := by
  unfold dotq
  rw [Fin.sum_univ_tiles 2 64 rfl]
  have key : ∀ (j : Fin 2) (t : Fin 64),
      (if (j.val * 64 + t.val) / 64 = n.val % 2 then qfun q (128 * (n.val / 2) + (j.val * 64 + t.val)) else 0)
        * kfun k s.val (128 * (n.val / 2) + (j.val * 64 + t.val))
      = if j = c then q h c t * k s h c t * (1 / 8 * (1 / Real.log 2)) else 0 := by
    intro j t
    have hd : (j.val * 64 + t.val) / 64 = j.val := by omega
    have hm : n.val % 2 = c.val := by omega
    have hh : n.val / 2 = h.val := by omega
    rw [hd, hm, hh]
    by_cases hj : j = c
    · subst hj
      rw [if_pos rfl, if_pos rfl]
      unfold qfun kfun
      have e1 : (⟨(128 * h.val + (j.val * 64 + t.val)) / 128 % 4, by omega⟩ : Fin 4) = h := Fin.ext (by
        show (128 * h.val + (j.val * 64 + t.val)) / 128 % 4 = _; omega)
      have e2 : (⟨(128 * h.val + (j.val * 64 + t.val)) / 64 % 2, by omega⟩ : Fin 2) = j := Fin.ext (by
        show (128 * h.val + (j.val * 64 + t.val)) / 64 % 2 = _; omega)
      have e3 : (⟨(128 * h.val + (j.val * 64 + t.val)) % 64, by omega⟩ : Fin 64) = t := Fin.ext (by
        show (128 * h.val + (j.val * 64 + t.val)) % 64 = _; omega)
      have e4 : (⟨s.val % 4096, by omega⟩ : Fin 4096) = s := Fin.ext (by show s.val % 4096 = _; omega)
      rw [e1, e2, e3, e4]
      ring
    · rw [if_neg hj, if_neg (fun e => hj (Fin.ext e)), zero_mul]
  refine (Finset.sum_congr rfl fun j _ => Finset.sum_congr rfl fun t _ => key j t).trans ?_
  have hc : ∀ j : Fin 2, (∑ t : Fin 64, if j = c then q h c t * k s h c t * (1 / 8 * (1 / Real.log 2)) else 0)
      = if j = c then ∑ t : Fin 64, q h c t * k s h c t * (1 / 8 * (1 / Real.log 2)) else 0 := by
    intro j; split <;> simp
  rw [Finset.sum_congr rfl fun j _ => hc j, Finset.sum_ite_eq' Finset.univ c, if_pos (Finset.mem_univ _), ← Finset.sum_mul]
  ring

theorem wt_scaled (y : ℝ) : wt ((y * (1 / Real.log 2) : ℝ) : EReal) = Real.exp y := by
  rw [wt_coe, Real.rpow_def_of_pos (by norm_num)]
  congr 1
  have := log2_ne
  field_simp

/-- The position of a key in a tile. -/
def pos (a : ℕ) (ha : a < 8) (x : Fin 512) : Fin 4096 := ⟨512 * a + x.val, by omega⟩

theorem wt_expo (q : Fin 4 → Fin 2 → Fin 64 → ℝ) (k : Fin 4096 → Fin 4 → Fin 2 → Fin 64 → ℝ) (T : Fin 32 → ℝ)
    (n : Fin 8) (h : Fin 4) (c : Fin 2) (hn : n.val = 2 * h.val + c.val) (a : ℕ) (ha : a < 8) (r : Fin 512) (j : ℕ) (hj : j ≤ a) (x : Fin 512) :
    wt (expo a n (qfun q) (kfun k) (bfun T r.val) j x)
      = Real.exp (-T 31) * ex (score 64 (q h c) (k (pos j (by omega) x) h c) (T (row (512 * a + r.val - (512 * j + x.val)))) (512 * a + r.val) (512 * j + x.val)) := by
  have hd := dotq_eq q k n h c hn (pos j (by omega) x)
  rw [show (pos j (by omega) x).val = 512 * j + x.val from rfl] at hd
  unfold expo score
  rw [hd]
  generalize (∑ y, q h c y * k (pos j (by omega) x) h c y) = D
  by_cases hfar : j < a - 1
  · rw [if_pos hfar, if_pos (by omega), row_far _ (by omega) (by omega), wt_scaled, ex_coe, ← Real.exp_add]
    congr 1; ring
  · rw [if_neg hfar]
    unfold bfun
    have hdist : (1 - (j + 1 - a)) * 512 + r.val = 512 * a + r.val - 512 * j := by
      have : j = a ∨ j + 1 = a := by omega
      rcases this with rfl | rfl
      · rw [show 1 - (j + 1 - j) = 0 by omega]; omega
      · rw [show 1 - (j + 1 - (j + 1)) = 1 by omega]; omega
    rw [hdist]
    by_cases hm : 512 * j + x.val ≤ 512 * a + r.val
    · rw [if_pos hm, if_pos (by omega), ← EReal.coe_add, ← add_mul, wt_scaled, ex_coe, ← Real.exp_add,
        show 512 * a + r.val - 512 * j - x.val = 512 * a + r.val - (512 * j + x.val) by omega]
      congr 1; ring
    · rw [if_neg hm, if_neg (by omega), EReal.add_bot, wt_bot, ex_bot, mul_zero]

/-- A row's sum over the keys is the sum over the tiles up to the query's. -/
theorem sum_keys (f : Fin 4096 → ℝ) (a : ℕ) (ha : a < 8) (hf : ∀ s : Fin 4096, 512 * (a + 1) ≤ s.val → f s = 0) :
    (∑ s, f s) = ∑ j ∈ (Finset.range (a + 1)).attach, ∑ x, f (pos j.val (by have := Finset.mem_range.1 j.2; omega) x) := by
  have hg : ∀ j : ℕ, ∀ hj : j < 8, ∀ x : Fin 512, f (pos j hj x) = (fun j x => if hs : 512 * j + x < 4096 then f ⟨512 * j + x, hs⟩ else 0) j x.val := by
    intro j hj x
    show _ = dite _ _ _
    rw [dif_pos (by omega)]
    rfl
  generalize hG : (fun j x => if hs : 512 * j + x < 4096 then f ⟨512 * j + x, hs⟩ else 0 : ℕ → ℕ → ℝ) = G at hg
  rw [Finset.sum_congr rfl fun j _ => Finset.sum_congr rfl fun x _ => hg j.val _ x,
    Finset.sum_attach (Finset.range (a + 1)) fun j => ∑ x : Fin 512, G j x.val, Fin.sum_univ_tiles 8 512 rfl]
  have h1 : ∀ j : Fin 8, (∑ t : Fin 512, f ⟨j.val * 512 + t.val, by omega⟩) = ∑ t : Fin 512, G j.val t.val := by
    intro j
    refine Finset.sum_congr rfl fun t _ => ?_
    rw [← hg j.val j.isLt t]
    exact congrArg f (Fin.ext (by show j.val * 512 + t.val = 512 * j.val + t.val; omega))
  rw [Finset.sum_congr rfl fun j _ => h1 j, ← Finset.sum_range fun j => ∑ t : Fin 512, G j t.val]
  symm
  refine Finset.sum_subset (fun j hj => by rw [Finset.mem_range] at hj ⊢; omega) fun j hj hj' => ?_
  rw [Finset.mem_range] at hj hj'
  refine Finset.sum_eq_zero fun x _ => ?_
  rw [← hg j hj x]
  exact hf _ (by show 512 * (a + 1) ≤ 512 * j + x.val; omega)

section
variable (q : Fin 4 → Fin 2 → Fin 64 → ℝ) (k : Fin 4096 → Fin 4 → Fin 2 → Fin 64 → ℝ) (v : Fin 4096 → Fin 4 → Fin 128 → ℝ) (T : Fin 32 → ℝ)
    (h : Fin 4) (c : Fin 2)

/-- A row's scores. -/
def srow (r : ℕ) (s : Fin 4096) : EReal := score 64 (q h c) (k s h c) (T (row (r - s.val))) r s.val

theorem ex_srow_zero (a : ℕ) (r : Fin 512) (s : Fin 4096) (hs : 512 * (a + 1) ≤ s.val) : ex (srow q k T h c (512 * a + r.val) s) = 0 := by
  unfold srow score
  rw [if_neg (by omega), ex_bot]

theorem Wsum_eq (n : Fin 8) (hn : n.val = 2 * h.val + c.val) (a : ℕ) (ha : a < 8) (r : Fin 512) :
    Wsum a n (qfun q) (kfun k) (bfun T r.val) = Real.exp (-T 31) * ∑ s, ex (srow q k T h c (512 * a + r.val) s) := by
  rw [sum_keys _ a ha (fun s hs => ex_srow_zero q k T h c a r s hs), Finset.mul_sum]
  unfold Wsum
  rw [← Finset.sum_attach]
  refine Finset.sum_congr rfl fun j _ => ?_
  rw [Finset.mul_sum]
  refine Finset.sum_congr rfl fun x _ => ?_
  have hj := Finset.mem_range.1 j.2
  exact wt_expo q k T n h c hn a ha r j.val (by omega) x

theorem Usum_eq (n : Fin 8) (hn : n.val = 2 * h.val + c.val) (a : ℕ) (ha : a < 8) (r : Fin 512) (e : Fin 128) :
    Usum a n (qfun q) (kfun k) (vfun v) (bfun T r.val) e
      = Real.exp (-T 31) * ∑ s, ex (srow q k T h c (512 * a + r.val) s) * v s h e := by
  rw [sum_keys _ a ha (fun s hs => by rw [ex_srow_zero q k T h c a r s hs, zero_mul]), Finset.mul_sum]
  unfold Usum
  rw [← Finset.sum_attach]
  refine Finset.sum_congr rfl fun j _ => ?_
  rw [Finset.mul_sum]
  refine Finset.sum_congr rfl fun x _ => ?_
  have hj := Finset.mem_range.1 j.2
  rw [wt_expo q k T n h c hn a ha r j.val (by omega) x, ← mul_assoc]
  refine congrArg₂ (· * ·) rfl ?_
  unfold vfun
  have hh : n.val / 2 = h.val := by omega
  have e1 : (⟨(512 * j.val + x.val) % 4096, by omega⟩ : Fin 4096) = pos j.val (by omega) x :=
    Fin.ext (by show (512 * j.val + x.val) % 4096 = 512 * j.val + x.val; omega)
  have e2 : (⟨(128 * (n.val / 2) + e.val) / 128 % 4, by omega⟩ : Fin 4) = h :=
    Fin.ext (by show (128 * (n.val / 2) + e.val) / 128 % 4 = h.val; omega)
  have e3 : (⟨(128 * (n.val / 2) + e.val) % 128, by omega⟩ : Fin 128) = e :=
    Fin.ext (by show (128 * (n.val / 2) + e.val) % 128 = e.val; omega)
  rw [e1, e2, e3]

theorem Wsum_pos (n : Fin 8) (a : ℕ) (ha : a < 8) (r : Fin 512) : 0 < Wsum a n (qfun q) (kfun k) (bfun T r.val) := by
  have hex : 0 < ∑ s, ex (srow q k T ⟨n.val / 2, by omega⟩ ⟨n.val % 2, by omega⟩ (512 * a + r.val) s) := by
    refine Finset.sum_pos' (fun s _ => ex_nonneg _) ⟨0, Finset.mem_univ _, ?_⟩
    unfold srow score
    rw [if_pos (show ((0 : Fin 4096).val) ≤ 512 * a + r.val from Nat.zero_le _), ex_coe]
    exact Real.exp_pos _
  rw [Wsum_eq q k T ⟨n.val / 2, by omega⟩ ⟨n.val % 2, by omega⟩ n (by show n.val = 2 * (n.val / 2) + n.val % 2; omega) a ha r]
  exact mul_pos (Real.exp_pos _) hex

/-- The head output: what the kernel leaves is what the reference computes. -/
theorem head_eq (lam : ℝ) (a : ℕ) (ha : a < 8) (r : Fin 512) (e : Fin 128) :
    Usum a ⟨2 * h.val, by omega⟩ (qfun q) (kfun k) (vfun v) (bfun T r.val) e / Wsum a ⟨2 * h.val, by omega⟩ (qfun q) (kfun k) (bfun T r.val)
      - lam * (Usum a ⟨2 * h.val + 1, by omega⟩ (qfun q) (kfun k) (vfun v) (bfun T r.val) e / Wsum a ⟨2 * h.val + 1, by omega⟩ (qfun q) (kfun k) (bfun T r.val))
    = ∑ s, v s h e * (ex (srow q k T h 0 (512 * a + r.val) s) / (∑ x, ex (srow q k T h 0 (512 * a + r.val) x))
        - lam * (ex (srow q k T h 1 (512 * a + r.val) s) / ∑ x, ex (srow q k T h 1 (512 * a + r.val) x))) := by
  rw [Usum_eq q k v T h 0 _ rfl a ha r e, Usum_eq q k v T h 1 _ rfl a ha r e, Wsum_eq q k T h 0 _ rfl a ha r, Wsum_eq q k T h 1 _ rfl a ha r,
    mul_div_mul_left _ _ (Real.exp_pos _).ne', mul_div_mul_left _ _ (Real.exp_pos _).ne', Finset.sum_div, Finset.sum_div, Finset.mul_sum,
    ← Finset.sum_sub_distrib]
  refine Finset.sum_congr rfl fun s _ => ?_
  ring

end

end Cert.KernelIdeal.Gen

end
-- ==== Proof.Final.lean ====
module

public import proofs.«01_k».proof.Proof.Blocks
public import proofs.«01_k».proof.Proof.Operands
public import proofs.«01_k».proof.Proof.Maths

/-!
# The kernel's result

Every element of the array the call leaves, from the arguments, when these are real numbers.
-/

set_option maxRecDepth 16384

@[expose] public section

noncomputable section

namespace Cert.KernelIdeal.Gen

open Idealize.ShloMosaic Idealize.ShloMosaic.TcCoe Idealize.SL.Sem
open Cert.Bias Cert.Rows Cert.Online

theorem ofBits_2 : Ideal.ofBits .f32 0x40000000#32 = ((2 : ℝ) : EReal) := by
  simp only [Ideal.ofBits, Ideal.ieee]
  norm_num [BitVec.extractLsb', Nat.shiftRight_eq_div_pow]

theorem ofBits_fifth : ∃ z : ℝ, Ideal.ofBits .f32 0x3E4CCCCD#32 = (z : EReal) := by
  refine ⟨13421773 * (2 : ℝ) ^ (-26 : ℤ), ?_⟩
  simp only [Ideal.ofBits, Ideal.ieee]
  norm_num [BitVec.extractLsb', Nat.shiftRight_eq_div_pow]

theorem log_2 : Ideal.log (Ideal.ofBits .f32 0x40000000#32) = ((Real.log 2 : ℝ) : EReal) := by
  rw [ofBits_2, Ideal.log_coe]
  norm_num

theorem div_log2 (x : ℝ) : Ideal.div (x : EReal) (Ideal.log (Ideal.ofBits .f32 0x40000000#32)) = ((x * (1 / Real.log 2) : ℝ) : EReal) := by
  rw [log_2, Ideal.div_coe log2_ne, ← EReal.coe_mul]

/-- The weight of the second map is a real number. -/
theorem lam_real (A B C D : FVec Ideal S64 .f32) (a b c d : Fin 64 → ℝ) (hA : ∀ x, A (ix1 x) = ((a x : ℝ) : EReal))
    (hB : ∀ x, B (ix1 x) = ((b x : ℝ) : EReal)) (hC : ∀ x, C (ix1 x) = ((c x : ℝ) : EReal)) (hD : ∀ x, D (ix1 x) = ((d x : ℝ) : EReal)) :
    ∃ lam : ℝ, Ideal.exp (∑ x : Fin 64, A (ix1 x) * B (ix1 x)) - Ideal.exp (∑ x : Fin 64, C (ix1 x) * D (ix1 x)) + Ideal.ofBits .f32 0x3E4CCCCD#32 = (lam : EReal) := by
  obtain ⟨z, hz⟩ := ofBits_fifth
  have h1 : (∑ x : Fin 64, A (ix1 x) * B (ix1 x)) = ((∑ x, a x * b x : ℝ) : EReal) := by
    rw [coe_sum]; exact Finset.sum_congr rfl fun x _ => by rw [hA, hB, EReal.coe_mul]
  have h2 : (∑ x : Fin 64, C (ix1 x) * D (ix1 x)) = ((∑ x, c x * d x : ℝ) : EReal) := by
    rw [coe_sum]; exact Finset.sum_congr rfl fun x _ => by rw [hC, hD, EReal.coe_mul]
  exact ⟨_, by rw [h1, h2, hz, Ideal.exp_coe, Ideal.exp_coe, ← EReal.coe_sub, ← EReal.coe_add]⟩

section
variable (q k : Fin 4 → Fin 4096 → Fin 4 → Fin 2 → Fin 64 → ℝ) (v : Fin 4 → Fin 4096 → Fin 4 → Fin 128 → ℝ) (T : Fin 32 → Fin 4 → ℝ) (lam : ℝ)
    (sub : FVec Ideal S128 .f32)

/-- The two maps' difference applied to the values. -/
def head (b : Fin 4) (r : Fin 4096) (h : Fin 4) (e : Fin 128) : ℝ :=
  ∑ s, v b s h e * (ex (srow (q b r) (k b) (fun n => T n h) h 0 r.val s) / (∑ x, ex (srow (q b r) (k b) (fun n => T n h) h 0 r.val x))
        - lam * (ex (srow (q b r) (k b) (fun n => T n h) h 1 r.val s) / ∑ x, ex (srow (q b r) (k b) (fun n => T n h) h 1 r.val x)))

/-- The result at a batch, a position, a head and a lane. -/
def outAt (b : Fin 4) (r : Fin 4096) (h : Fin 4) (e : Fin 128) : EReal :=
  normed (fun x => ((head q k v T lam b r h x : ℝ) : EReal)) (sub (ix1 e)) e

/-- The result. -/
def OUT : FVec Ideal S4x4096x512 .f32 := fun i =>
  outAt q k v T lam sub (i 0) (i 1) ⟨(i 2).val / 128, by have := (i 2).isLt; change (i 2).val < 512 at this; omega⟩ ⟨(i 2).val % 128, by omega⟩

theorem OUT_apply (b : Fin 4) (r : Fin 4096) (h : Fin 4) (e : Fin 128) :
    OUT q k v T lam sub (ix3 b r ⟨128 * h.val + e.val, by omega⟩) = outAt q k v T lam sub b r h e := by
  have e1 : (⟨(128 * h.val + e.val) / 128, by omega⟩ : Fin 4) = h := Fin.ext (by show (128 * h.val + e.val) / 128 = _; omega)
  have e2 : (⟨(128 * h.val + e.val) % 128, by omega⟩ : Fin 128) = e := Fin.ext (by show (128 * h.val + e.val) % 128 = _; omega)
  show outAt q k v T lam sub b r ⟨(128 * h.val + e.val) / 128, _⟩ ⟨(128 * h.val + e.val) % 128, _⟩ = _
  rw [e1, e2]

variable (m : (ℓ : Loc nD τ sig) → Buf (Elt Ideal) ℓ) (c : Dev nD)
  (A0 A1 : FVec Ideal S4x4096x4x2x64 .f32) (A2 : FVec Ideal S4x4096x4x128 .f32) (A3 : FVec Ideal S32x4 .f32) (A4 A5 A6 A7 : FVec Ideal S64 .f32)
  (h0 : A0 = m (c, Proc.devRef .tc main_arg0)) (h1 : A1 = m (c, Proc.devRef .tc main_arg1)) (h2 : A2 = m (c, Proc.devRef .tc main_arg2))
  (h3 : A3 = m (c, Proc.devRef .tc main_arg3)) (h4 : A4 = m (c, Proc.devRef .tc main_arg4)) (h5 : A5 = m (c, Proc.devRef .tc main_arg5))
  (h6 : A6 = m (c, Proc.devRef .tc main_arg6)) (h7 : A7 = m (c, Proc.devRef .tc main_arg7)) (h8 : sub = m (c, Proc.devRef .tc main_arg8))
  (r0 : ∀ b r h c x, A0 (ix5 b r h c x) = ((q b r h c x : ℝ) : EReal)) (r1 : ∀ b r h c x, A1 (ix5 b r h c x) = ((k b r h c x : ℝ) : EReal))
  (r2 : ∀ b r h e, A2 (ix4 b r h e) = ((v b r h e : ℝ) : EReal)) (r3 : ∀ n h, A3 (ix2 n h) = ((T n h : ℝ) : EReal))
  (rl : Ideal.exp (∑ x : Fin 64, A4 (ix1 x) * A5 (ix1 x)) - Ideal.exp (∑ x : Fin 64, A6 (ix1 x) * A7 (ix1 x)) + Ideal.ofBits .f32 0x3E4CCCCD#32 = (lam : EReal))

include h0 h1 h2 h3 h4 h5 h6 h7 h8 r0 r1 r2 r3 rl in
theorem point (t : Fin cfg0.N) (b : Fin 4) (a : Fin 8) (hb : t.val / 8 = b.val) (ha : t.val % 8 = a.val) (r : Fin 512) (h : Fin 4) (e : Fin 128) :
    (outsAt0 (F := Ideal) m c t : FVec Ideal S1x512x512 .f32) (ix3 0 r ⟨128 * h.val + e.val, by omega⟩)
      = outAt q k v T lam sub b ⟨512 * a.val + r.val, by omega⟩ h e := by
  have hc : (grid0.coords t 2).val = a.val := (coords_val t).2.trans ha
  unfold outsAt0
  refine (out_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (iblk m c 6 t) (iblk m c 7 t) (iblk m c 8 t)
    h r e (qfun (q b ⟨512 * a.val + r.val, by omega⟩)) (kfun (k b)) (vfun (v b)) (bfun (fun n => T n h) r.val) lam ?_ ?_ ?_ ?_ ?_ ?_ ?_).trans ?_
  · intro x
    refine (blk0 m c t b a hb ha r x).trans ((q_read m c b _ x A0 h0).trans ?_)
    rw [r0, show Ideal.ofBits .f32 0x3E000000#32 = ((1 / 8 : ℝ) : EReal) from ofBits_8th, div_log2, ← EReal.coe_mul]
    unfold qfun
    have e1 : (⟨x.val / 128 % 4, by omega⟩ : Fin 4) = ⟨x.val / 128, by omega⟩ := Fin.ext (by show x.val / 128 % 4 = x.val / 128; omega)
    rw [e1]
  · intro s x
    refine (blk1 m c t b hb s x).trans ((k_read m c b _ x A1 h1).trans ?_)
    rw [r1]
    unfold kfun
    have e1 : (⟨x.val / 128 % 4, by omega⟩ : Fin 4) = ⟨x.val / 128, by omega⟩ := Fin.ext (by show x.val / 128 % 4 = x.val / 128; omega)
    have e4 : (⟨s.val % 4096, by omega⟩ : Fin 4096) = s := Fin.ext (by show s.val % 4096 = _; omega)
    rw [e1, e4]
  · intro s x
    refine (blk2 m c t b hb s x).trans ((v_read m c b _ x A2 h2).trans ?_)
    rw [r2]
    unfold vfun
    have e1 : (⟨x.val / 128 % 4, by omega⟩ : Fin 4) = ⟨x.val / 128, by omega⟩ := Fin.ext (by show x.val / 128 % 4 = x.val / 128; omega)
    have e4 : (⟨s.val % 4096, by omega⟩ : Fin 4096) = s := Fin.ext (by show s.val % 4096 = _; omega)
    rw [e1, e4]
  · intro d x
    refine (blk3 m c t h d r x).trans ((bias_read m c h d r x A3 h3).trans ?_)
    unfold bfun
    by_cases hx : x.val ≤ (1 - d.val) * 512 + r.val
    · rw [if_pos hx, if_pos hx, r3, r3, ← EReal.coe_sub, div_log2]
    · rw [if_neg hx, if_neg hx]
  · exact fun d x => bfun_ne_top _ _ _ _
  · refine Eq.trans ?_ rl
    have s1 : (∑ x : Fin 64, (show FVec Ideal S1x64 .f32 from iblk m c 4 t) (ix2 0 x) * (show FVec Ideal S1x64 .f32 from iblk m c 5 t) (ix2 0 x)) = ∑ x : Fin 64, A4 (ix1 x) * A5 (ix1 x) :=
      Finset.sum_congr rfl fun x _ => congrArg₂ (fun a b : EReal => a * b) ((blk4 m c t x).trans (lam_read0 m c x A4 h4)) ((blk5 m c t x).trans (lam_read1 m c x A5 h5))
    have s2 : (∑ x : Fin 64, (show FVec Ideal S1x64 .f32 from iblk m c 6 t) (ix2 0 x) * (show FVec Ideal S1x64 .f32 from iblk m c 7 t) (ix2 0 x)) = ∑ x : Fin 64, A6 (ix1 x) * A7 (ix1 x) :=
      Finset.sum_congr rfl fun x _ => congrArg₂ (fun a b : EReal => a * b) ((blk6 m c t x).trans (lam_read2 m c x A6 h6)) ((blk7 m c t x).trans (lam_read3 m c x A7 h7))
    exact congrArg₂ (fun a b : EReal => Ideal.exp a - Ideal.exp b + Ideal.ofBits .f32 0x3E4CCCCD#32) s1 s2
  · intro n
    rw [hc]
    exact Wsum_pos _ _ _ n a.val a.isLt r
  · rw [hc]
    unfold outAt
    have hs : (iblk m c 8 t : FVec Ideal S1x128 .f32) (ix2 0 e) = sub (ix1 e) := (blk8 m c t e).trans (sub_read m c e sub h8)
    refine congrArg₂ (fun o s => normed o s e) ?_ hs
    funext x
    exact congrArg _ (head_eq _ _ _ _ h lam a.val a.isLt r x)

/-- Two arrays that agree head by head and lane by lane agree on a block. -/
theorem spread (f : FVec Ideal S1x512x512 .f32) (g : FVec Ideal S4x4096x512 .f32) (b : Fin 4) (a : Fin 8)
    (H : ∀ (r : Fin 512) (h : Fin 4) (e : Fin 128), f (ix3 0 r ⟨128 * h.val + e.val, by omega⟩)
      = g (ix3 b ⟨512 * a.val + r.val, by omega⟩ ⟨128 * h.val + e.val, by omega⟩)) (y0 : Fin 1) (y1 y2 : Fin 512) :
    f (ix3 y0 y1 y2) = g (ix3 b ⟨512 * a.val + y1.val, by omega⟩ y2) := by
  have e0 : y0 = 0 := Subsingleton.elim _ _
  have e2 : y2 = ⟨128 * (y2.val / 128) + y2.val % 128, by omega⟩ := Fin.ext (by show y2.val = 128 * (y2.val / 128) + y2.val % 128; omega)
  have := H y1 ⟨y2.val / 128, by omega⟩ ⟨y2.val % 128, by omega⟩
  rw [e0, e2]
  exact this

include h0 h1 h2 h3 h4 h5 h6 h7 h8 r0 r1 r2 r3 rl in
theorem point_at (t : Fin cfg0.N) (y : S1x512x512.Idx) :
    (outsAt0 (F := Ideal) m c t : FVec Ideal S1x512x512 .f32) y = OUT q k v T lam sub (((cfg0.win 9).blk t).view.emb y : S4x4096x512.Idx) := by
  have ht : t.val < 32 := Nat.lt_of_lt_of_eq t.isLt N_0
  rw [emb9 t ⟨t.val / 8, by omega⟩ ⟨t.val % 8, by omega⟩ rfl rfl y]
  refine Eq.trans (congrArg _ (eq_ix3 y)) (spread (outsAt0 (F := Ideal) m c t) (OUT q k v T lam sub) ⟨t.val / 8, by omega⟩ ⟨t.val % 8, by omega⟩ (fun r h e => ?_) (y 0) (y 1) (y 2))
  rw [OUT_apply]
  exact point q k v T lam sub m c A0 A1 A2 A3 A4 A5 A6 A7 h0 h1 h2 h3 h4 h5 h6 h7 h8 r0 r1 r2 r3 rl t _ _ rfl rfl r h e

include h0 h1 h2 h3 h4 h5 h6 h7 h8 r0 r1 r2 r3 rl in
/-- The array the call leaves. -/
theorem final : (dats m 0 c).arrAt 9 (cfgs 0).N = OUT q k v T lam sub := by
  refine (dats m 0 c).arrAt_eq_of_covers 9 _ (by decide +kernel) fun t _ y => ?_
  blk_simp
  rw [after0_9]
  exact point_at q k v T lam sub m c A0 A1 A2 A3 A4 A5 A6 A7 h0 h1 h2 h3 h4 h5 h6 h7 h8 r0 r1 r2 r3 rl t y

end

end Cert.KernelIdeal.Gen

end
-- ==== Proof.Softmax.lean ====
module

public import proofs.«01_k».proof.Proof.Ref

/-!
# The reference's softmax and its result

The weights of a row are the exponentials of its scores over their sum, whatever real number the row maximum is.
-/

set_option maxRecDepth 16384

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Bias Cert.Rows

variable (V0 : Valuation τ sig (Elt Ideal))

/-- The row maximum is a real number. -/
theorem max_real {ι : Type} (f : ι → EReal) (t : Finset ι) (hf : ∀ i, f i ≠ ⊤) (i : ι) (hi : i ∈ t) (hb : f i ≠ ⊥) :
    ∃ M : ℝ, max (Ideal.ofBits .f32 4286578688#32) (t.fold max (Ideal.ofBits .f32 4286578688#32) f) = (M : EReal) := by
  rw [ofBits_bot, max_eq_right bot_le]
  have h1 : t.fold max ⊥ f ≠ ⊥ := fun h => hb (le_bot_iff.1 (h ▸ (Finset.le_fold_max _).2 (Or.inr ⟨i, hi, le_rfl⟩)))
  have h2 : t.fold max ⊥ f ≠ ⊤ := by
    refine ne_of_lt ((Finset.fold_max_lt _).2 ⟨bot_lt_top, fun j _ => lt_top_iff_ne_top.2 (hf j)⟩)
  exact ⟨_, (EReal.coe_toReal h2 h1).symm⟩

theorem row_max (w : FVec Ideal S4x4x2x4096x4096 .f32) (b h : Fin 4) (c : Fin 2) (r s0 : Fin 4096)
    (hf : ∀ b h c r s, w (ix5 b h c r s) ≠ ⊤) (hb : w (ix5 b h c r s0) ≠ ⊥) :
    ∃ M : ℝ, max (Ideal.ofBits .f32 4286578688#32)
      ((Host.reduce FloatOps.maximumf w (constant S_ .f32 0xFF800000#32) reducesTo_S4x4x2x4096x4096_S4x4x2x4096_d4 h_S_ : FVec Ideal S4x4x2x4096 .f32) (ix4 b h c r)) = (M : EReal) := by
  pointwise
  exact max_real (fun x => w (ix5 b h c r x)) Finset.univ (fun i => hf _ _ _ _ _) s0 (Finset.mem_univ _) hb

theorem v60_apply (S : Fin 4 → Fin 4 → Fin 2 → Fin 4096 → Fin 4096 → EReal)
    (hS : ∀ b h c r s, (res_main_v53 (F := Ideal) V0 : FVec Ideal S4x4x2x4096x4096 .f32) (ix5 b h c r s) = S b h c r s)
    (ht : ∀ b h c r s, S b h c r s ≠ ⊤) (b h : Fin 4) (c : Fin 2) (r : Fin 4096) (s0 : Fin 4096) (hb : S b h c r s0 ≠ ⊥) :
    ∃ M : ℝ, ∀ s, (res_main_v60 (F := Ideal) V0 : FVec Ideal S4x4x2x4096x4096 .f32) (ix5 b h c r s)
      = ((ex (S b h c r s) * Real.exp (-M) : ℝ) : EReal) := by
  unfold res_main_v60
  obtain ⟨w, hw⟩ : ∃ w : FVec Ideal S4x4x2x4096x4096 .f32, res_main_v53 (F := Ideal) V0 = w := ⟨_, rfl⟩
  rw [hw] at hS ⊢
  obtain ⟨M, hM⟩ := row_max w b h c r s0 (fun b h c r s => (hS b h c r s).trans_ne (ht _ _ _ _ _)) ((hS b h c r s0).trans_ne hb)
  refine ⟨M, fun s => ?_⟩
  rw [← exp_sub _ (ht b h c r s), ← hS]
  obtain ⟨R, hR⟩ : ∃ R : FVec Ideal S4x4x2x4096 .f32, Host.reduce FloatOps.maximumf w (constant S_ .f32 0xFF800000#32) reducesTo_S4x4x2x4096x4096_S4x4x2x4096_d4 h_S_ = R := ⟨_, rfl⟩
  rw [hR] at hM ⊢
  pointwise
  rw [hM]

theorem v64_apply (S : Fin 4 → Fin 4 → Fin 2 → Fin 4096 → Fin 4096 → EReal)
    (hS : ∀ b h c r s, (res_main_v53 (F := Ideal) V0 : FVec Ideal S4x4x2x4096x4096 .f32) (ix5 b h c r s) = S b h c r s)
    (ht : ∀ b h c r s, S b h c r s ≠ ⊤) (b h : Fin 4) (c : Fin 2) (r : Fin 4096) (s0 : Fin 4096) (hb : S b h c r s0 ≠ ⊥) (s : Fin 4096) :
    (res_main_v64 (F := Ideal) V0 : FVec Ideal S4x4x2x4096x4096 .f32) (ix5 b h c r s)
      = ((ex (S b h c r s) / ∑ x, ex (S b h c r x) : ℝ) : EReal) := by
  obtain ⟨M, hM⟩ := v60_apply V0 S hS ht b h c r s0 hb
  unfold res_main_v64
  obtain ⟨w, hw⟩ : ∃ w : FVec Ideal S4x4x2x4096x4096 .f32, res_main_v60 (F := Ideal) V0 = w := ⟨_, rfl⟩
  rw [hw] at hM ⊢
  pointwise
  have hpos : 0 < ∑ x, ex (S b h c r x) := by
    refine Finset.sum_pos' (fun x _ => ex_nonneg _) ⟨s0, Finset.mem_univ _, ?_⟩
    unfold ex; rw [if_neg hb]; exact Real.exp_pos _
  have hsum : (∑ x, w (ix5 b h c r x)) = (((∑ x, ex (S b h c r x)) * Real.exp (-M) : ℝ) : EReal) := by
    rw [Finset.sum_mul, Cert.Online.coe_sum]
    exact Finset.sum_congr rfl fun x _ => hM x
  have he := Real.exp_pos (-M)
  refine (congrArg₂ Ideal.div (hM s) hsum).trans ?_
  rw [Ideal.div_coe (mul_pos hpos he).ne', ← EReal.coe_mul]
  congr 1
  field_simp

theorem v73_apply (S : Fin 4 → Fin 4 → Fin 2 → Fin 4096 → Fin 4096 → EReal)
    (v : Fin 4 → Fin 4096 → Fin 4 → Fin 128 → ℝ) (lam : ℝ)
    (hS : ∀ b h c r s, (res_main_v53 (F := Ideal) V0 : FVec Ideal S4x4x2x4096x4096 .f32) (ix5 b h c r s) = S b h c r s)
    (ht : ∀ b h c r s, S b h c r s ≠ ⊤) (hb : ∀ b h c r, S b h c r 0 ≠ ⊥)
    (hv : ∀ b r h e, (V0 (Proc.devRef .tc main_arg2) : FVec Ideal S4x4096x4x128 .f32) (ix4 b r h e) = ((v b r h e : ℝ) : EReal))
    (hl : ∀ (A B C D : FVec Ideal S64 .f32), A = V0 (Proc.devRef .tc main_arg4) → B = V0 (Proc.devRef .tc main_arg5) →
      C = V0 (Proc.devRef .tc main_arg6) → D = V0 (Proc.devRef .tc main_arg7) →
      Ideal.exp (∑ x : Fin 64, A (ix1 x) * B (ix1 x)) - Ideal.exp (∑ x : Fin 64, C (ix1 x) * D (ix1 x)) + Ideal.ofBits .f32 0x3E4CCCCD#32 = (lam : EReal))
    (b h : Fin 4) (r : Fin 4096) (e : Fin 128) :
    (res_main_v73 (F := Ideal) V0 : FVec Ideal S4x4096x4x128 .f32) (ix4 b r h e)
      = ((∑ s, v b s h e * (ex (S b h 0 r s) / (∑ x, ex (S b h 0 r x)) - lam * (ex (S b h 1 r s) / ∑ x, ex (S b h 1 r x))) : ℝ) : EReal) := by
  have h64 := v64_apply V0 S hS ht
  unfold res_main_v73
  obtain ⟨w, hw⟩ : ∃ w : FVec Ideal S4x4x2x4096x4096 .f32, res_main_v64 (F := Ideal) V0 = w := ⟨_, rfl⟩
  rw [hw] at h64 ⊢
  pointwise
  refine Eq.trans (Finset.sum_congr (M := EReal) rfl fun s _ => ?_) (Cert.Online.coe_sum _ _).symm
  refine Eq.trans (congrArg₂ (fun a b : EReal => a * b) (hv b s h e) (congrArg₂ (fun a b : EReal => a - b) (h64 b h 0 r 0 (hb b h 0 r) s)
    (congrArg₂ (fun a b : EReal => a * b) (hl _ _ _ _ rfl rfl rfl rfl) (h64 b h 1 r 0 (hb b h 1 r) s)))) ?_
  show (((v b s h e : ℝ) : EReal) * (((_ : ℝ) : EReal) - ((lam : ℝ) : EReal) * ((_ : ℝ) : EReal))) = _
  rw [← EReal.coe_mul, ← EReal.coe_sub, ← EReal.coe_mul]

/-- The reference's result, from the head outputs. -/
theorem REF_apply (o : Fin 4 → Fin 4096 → Fin 4 → Fin 128 → ℝ)
    (ho : ∀ b r h e, (res_main_v73 (F := Ideal) V0 : FVec Ideal S4x4096x4x128 .f32) (ix4 b r h e) = ((o b r h e : ℝ) : EReal))
    (sub : FVec Ideal S128 .f32) (hs : sub = V0 (Proc.devRef .tc main_arg8))
    (b : Fin 4) (r : Fin 4096) (h : Fin 4) (e : Fin 128) :
    REF V0 (ix3 b r ⟨128 * h.val + e.val, by omega⟩)
      = ((o b r h e : ℝ) : EReal) * Ideal.rsqrt ((∑ x, ((o b r h x : ℝ) : EReal) * ((o b r h x : ℝ) : EReal)) * Ideal.ofBits .f32 0x3C000000#32
          + Ideal.ofBits .f32 0x3727C5AC#32) * sub (ix1 e) * Ideal.ofBits .f32 0x3F4CCCCD#32 := by
  subst hs
  unfold REF
  obtain ⟨w, hw⟩ : ∃ w : FVec Ideal S4x4096x4x128 .f32, res_main_v73 (F := Ideal) V0 = w := ⟨_, rfl⟩
  rw [hw] at ho ⊢
  pointwise
  have e4 : ∀ X : EReal, Ideal.div X (Ideal.ofBits .f32 0x43000000#32) = X * Ideal.ofBits .f32 0x3C000000#32 := fun X => by
    rw [show Ideal.ofBits .f32 0x43000000#32 = ((128 : ℝ) : EReal) from ofBits_128, Ideal.div_coe (by norm_num : (128 : ℝ) ≠ 0), ofBits_128th]
  simp only [ho, e4]

end Cert.ReferenceIdeal.Value

end
-- ==== Proof.Finite.lean ====
module

public import proofs.«01_k».proof.Proof.Gen.Pre_finite
public import Idealize.ShloMosaic.Lib.ReduceAll
public import Idealize.ShloMosaic.Lib.WordCmp
public import Idealize.ShloMosaic.Lib.Pointwise

/-!
# Finite arguments are real numbers

The precondition says that every element but those of the norm's weight is less than infinity in absolute value.
-/

set_option maxRecDepth 16384

@[expose] public section

noncomputable section

namespace Cert.Pre_finite

open Idealize.ShloMosaic

theorem ofBits_inf : Ideal.ofBits .f32 0x7F800000#32 = ⊤ := by
  simp only [Ideal.ofBits, Ideal.ieee]
  norm_num [BitVec.extractLsb', Nat.shiftRight_eq_div_pow]

theorem real_of_abs_lt (x : EReal) (h : max x (-x) < Ideal.ofBits .f32 0x7F800000#32) : ∃ y : ℝ, x = (y : EReal) := by
  rw [ofBits_inf, max_lt_iff] at h
  induction x with
  | bot => simp at h
  | top => simp at h
  | coe r => exact ⟨r, rfl⟩

theorem real_of_all {s : Shape} {axes : List (Fin s.rank)} (X : FVec Ideal s .f32) (hb : S_.BroadcastsInDim s (![] : Fin 0 → Fin s.rank))
    (h : s.ReducesTo axes S_) (hu : 0 < S_.numel)
    (e : Host.reduce IntOp.andi (cmpf .olt (Host.absf X) (broadcastInDim s ![] hb (constant S_ .f32 0x7F800000#32))) (constantI S_ 1 1#1) h hu ix0 = 1#1) (i : s.Idx) :
    ∃ y : ℝ, X i = (y : EReal) := by
  have hs : Subsingleton S_.Idx := ⟨fun a b => funext fun k => k.elim0⟩
  have := Host.reduce_andi_all _ _ _ _ _ e i
  pointwise at this
  exact real_of_abs_lt (X i) ((WordCmp.ofBool_decide_eq_one_iff _).1 this)

theorem reals (A0 A1 : FVec Ideal S4x4096x4x2x64 .f32) (A2 : FVec Ideal S4x4096x4x128 .f32) (A3 : FVec Ideal S32x4 .f32)
    (A4 A5 A6 A7 : FVec Ideal S64 .f32) (A8 : FVec Ideal S128 .f32) (h : fn (F := Ideal) A0 A1 A2 A3 A4 A5 A6 A7 A8 = fun _ => 1#1) :
    (∀ i, ∃ y : ℝ, A0 i = (y : EReal)) ∧ (∀ i, ∃ y : ℝ, A1 i = (y : EReal)) ∧ (∀ i, ∃ y : ℝ, A2 i = (y : EReal)) ∧ (∀ i, ∃ y : ℝ, A3 i = (y : EReal))
    ∧ (∀ i, ∃ y : ℝ, A4 i = (y : EReal)) ∧ (∀ i, ∃ y : ℝ, A5 i = (y : EReal)) ∧ (∀ i, ∃ y : ℝ, A6 i = (y : EReal)) ∧ (∀ i, ∃ y : ℝ, A7 i = (y : EReal)) := by
  have h0 := congrFun h ix0
  unfold fn fn_part1 fn_part2 at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all A0 _ _ _ e0, real_of_all A1 _ _ _ e1, real_of_all A2 _ _ _ e2, real_of_all A3 _ _ _ e3, real_of_all A4 _ _ _ e4,
    real_of_all A5 _ _ _ e5, real_of_all A6 _ _ _ e6, real_of_all A7 _ _ _ e7⟩

end Cert.Pre_finite

end
-- ==== Proof.Equal.lean ====
module

public import proofs.«01_k».proof.Proof.Final
public import proofs.«01_k».proof.Proof.Softmax
public import proofs.«01_k».proof.Proof.Finite

/-!
# Kernel and reference leave the same array
-/

set_option maxRecDepth 16384

@[expose] public section

noncomputable section

namespace Cert.Equal

open Idealize.ShloMosaic Idealize.ShloMosaic.TcCoe Idealize.SL.Sem
open Cert.Bias Cert.Rows Cert.Online Cert.KernelIdeal.Gen

/-- The reference's result is the same function of the arguments. -/
theorem ref_eq (V0 : Valuation Cert.ReferenceIdeal.τ Cert.ReferenceIdeal.sig (Elt Ideal))
    (q k : Fin 4 → Fin 4096 → Fin 4 → Fin 2 → Fin 64 → ℝ) (v : Fin 4 → Fin 4096 → Fin 4 → Fin 128 → ℝ) (T : Fin 32 → Fin 4 → ℝ) (lam : ℝ)
    (A0 A1 : FVec Ideal Cert.ReferenceIdeal.S4x4096x4x2x64 .f32) (A2 : FVec Ideal Cert.ReferenceIdeal.S4x4096x4x128 .f32)
    (A3 : FVec Ideal Cert.ReferenceIdeal.S32x4 .f32) (A4 A5 A6 A7 : FVec Ideal Cert.ReferenceIdeal.S64 .f32) (sub : FVec Ideal Cert.ReferenceIdeal.S128 .f32)
    (h0 : A0 = V0 (Proc.devRef .tc Cert.ReferenceIdeal.main_arg0)) (h1 : A1 = V0 (Proc.devRef .tc Cert.ReferenceIdeal.main_arg1))
    (h2 : A2 = V0 (Proc.devRef .tc Cert.ReferenceIdeal.main_arg2)) (h3 : A3 = V0 (Proc.devRef .tc Cert.ReferenceIdeal.main_arg3))
    (h4 : A4 = V0 (Proc.devRef .tc Cert.ReferenceIdeal.main_arg4)) (h5 : A5 = V0 (Proc.devRef .tc Cert.ReferenceIdeal.main_arg5))
    (h6 : A6 = V0 (Proc.devRef .tc Cert.ReferenceIdeal.main_arg6)) (h7 : A7 = V0 (Proc.devRef .tc Cert.ReferenceIdeal.main_arg7))
    (h8 : sub = V0 (Proc.devRef .tc Cert.ReferenceIdeal.main_arg8))
    (r0 : ∀ b r h c x, A0 (ix5 b r h c x) = ((q b r h c x : ℝ) : EReal)) (r1 : ∀ b r h c x, A1 (ix5 b r h c x) = ((k b r h c x : ℝ) : EReal))
    (r2 : ∀ b r h e, A2 (ix4 b r h e) = ((v b r h e : ℝ) : EReal)) (r3 : ∀ n h, A3 (ix2 n h) = ((T n h : ℝ) : EReal))
    (rl : Ideal.exp (∑ x : Fin 64, A4 (ix1 x) * A5 (ix1 x)) - Ideal.exp (∑ x : Fin 64, A6 (ix1 x) * A7 (ix1 x)) + Ideal.ofBits .f32 0x3E4CCCCD#32 = (lam : EReal)) :
    Cert.ReferenceIdeal.Value.REF V0 = OUT q k v T lam sub := by
  have hS : ∀ (b h : Fin 4) (c : Fin 2) (r s : Fin 4096),
      (Cert.ReferenceIdeal.Value.res_main_v53 (F := Ideal) V0 : FVec Ideal Cert.ReferenceIdeal.S4x4x2x4096x4096 .f32) (ix5 b h c r s)
        = srow (q b r) (k b) (fun n => T n h) h c r.val s := fun b h c r s =>
    Cert.ReferenceIdeal.Value.v53_apply V0 q k T (by rw [← h0]; exact r0) (by rw [← h1]; exact r1) (by rw [← h3]; exact r3) b h c r s
  have ho : ∀ (b : Fin 4) (r : Fin 4096) (h : Fin 4) (e : Fin 128),
      (Cert.ReferenceIdeal.Value.res_main_v73 (F := Ideal) V0 : FVec Ideal Cert.ReferenceIdeal.S4x4096x4x128 .f32) (ix4 b r h e) = ((head q k v T lam b r h e : ℝ) : EReal) := fun b r h e =>
    Cert.ReferenceIdeal.Value.v73_apply V0 (fun b h c r s => srow (q b r) (k b) (fun n => T n h) h c r.val s) v lam hS
      (fun _ _ _ _ _ => score_ne_top _ _ _ _ _ _) (fun _ _ _ _ => score_ne_bot _ _ _ _ _ _ (Nat.zero_le _)) (by rw [← h2]; exact r2)
      (fun A B C D hA hB hC hD => by rw [hA, hB, hC, hD, ← h4, ← h5, ← h6, ← h7]; exact rl) b h r e
  have key : ∀ (b : Fin 4) (r : Fin 4096) (h : Fin 4) (e : Fin 128),
      Cert.ReferenceIdeal.Value.REF V0 (ix3 b r ⟨128 * h.val + e.val, by omega⟩) = OUT q k v T lam sub (ix3 b r ⟨128 * h.val + e.val, by omega⟩) := fun b r h e =>
    (Cert.ReferenceIdeal.Value.REF_apply V0 _ ho sub h8 b r h e).trans (OUT_apply q k v T lam sub b r h e).symm
  funext i
  have hi := (i 2).isLt
  change (i 2).val < 512 at hi
  have e2 : i 2 = ⟨128 * ((i 2).val / 128) + (i 2).val % 128, by change _ < 512; omega⟩ :=
    Fin.ext (by show (i 2).val = 128 * ((i 2).val / 128) + (i 2).val % 128; omega)
  have := key (i 0) (i 1) ⟨(i 2).val / 128, by omega⟩ ⟨(i 2).val % 128, by omega⟩
  rw [eq_ix3 i, e2]
  exact this

/-- The two results, from agreeing finite arguments. -/
theorem equal (m : (ℓ : Loc Cert.KernelIdeal.nD Cert.KernelIdeal.τ Cert.KernelIdeal.sig) → Buf (Elt Ideal) ℓ) (c : Dev Cert.KernelIdeal.nD)
    (V0 : Valuation Cert.ReferenceIdeal.τ Cert.ReferenceIdeal.sig (Elt Ideal))
    (A0 A1 : FVec Ideal Cert.KernelIdeal.S4x4096x4x2x64 .f32) (A2 : FVec Ideal Cert.KernelIdeal.S4x4096x4x128 .f32)
    (A3 : FVec Ideal Cert.KernelIdeal.S32x4 .f32) (A4 A5 A6 A7 : FVec Ideal Cert.KernelIdeal.S64 .f32) (A8 : FVec Ideal Cert.KernelIdeal.S128 .f32)
    (k0 : A0 = m (c, Proc.devRef .tc Cert.KernelIdeal.main_arg0)) (k1 : A1 = m (c, Proc.devRef .tc Cert.KernelIdeal.main_arg1))
    (k2 : A2 = m (c, Proc.devRef .tc Cert.KernelIdeal.main_arg2)) (k3 : A3 = m (c, Proc.devRef .tc Cert.KernelIdeal.main_arg3))
    (k4 : A4 = m (c, Proc.devRef .tc Cert.KernelIdeal.main_arg4)) (k5 : A5 = m (c, Proc.devRef .tc Cert.KernelIdeal.main_arg5))
    (k6 : A6 = m (c, Proc.devRef .tc Cert.KernelIdeal.main_arg6)) (k7 : A7 = m (c, Proc.devRef .tc Cert.KernelIdeal.main_arg7))
    (k8 : A8 = m (c, Proc.devRef .tc Cert.KernelIdeal.main_arg8))
    (h0 : A0 = V0 (Proc.devRef .tc Cert.ReferenceIdeal.main_arg0)) (h1 : A1 = V0 (Proc.devRef .tc Cert.ReferenceIdeal.main_arg1))
    (h2 : A2 = V0 (Proc.devRef .tc Cert.ReferenceIdeal.main_arg2)) (h3 : A3 = V0 (Proc.devRef .tc Cert.ReferenceIdeal.main_arg3))
    (h4 : A4 = V0 (Proc.devRef .tc Cert.ReferenceIdeal.main_arg4)) (h5 : A5 = V0 (Proc.devRef .tc Cert.ReferenceIdeal.main_arg5))
    (h6 : A6 = V0 (Proc.devRef .tc Cert.ReferenceIdeal.main_arg6)) (h7 : A7 = V0 (Proc.devRef .tc Cert.ReferenceIdeal.main_arg7))
    (h8 : A8 = V0 (Proc.devRef .tc Cert.ReferenceIdeal.main_arg8))
    (hp : Cert.Pre_finite.fn (F := Ideal) A0 A1 A2 A3 A4 A5 A6 A7 A8 = fun _ => 1#1) :
    Cert.ReferenceIdeal.Value.REF V0 = (dats m 0 c).arrAt 9 (Cert.KernelIdeal.cfgs 0).N := by
  obtain ⟨p0, p1, p2, p3, p4, p5, p6, p7⟩ := Cert.Pre_finite.reals A0 A1 A2 A3 A4 A5 A6 A7 A8 hp
  choose f0 g0 using p0
  choose f1 g1 using p1
  choose f2 g2 using p2
  choose f3 g3 using p3
  choose f4 g4 using p4
  choose f5 g5 using p5
  choose f6 g6 using p6
  choose f7 g7 using p7
  obtain ⟨lam, rl⟩ := lam_real A4 A5 A6 A7 _ _ _ _ (fun x => g4 (ix1 x)) (fun x => g5 (ix1 x)) (fun x => g6 (ix1 x)) (fun x => g7 (ix1 x))
  refine (ref_eq V0 (fun b r h c x => f0 (ix5 b r h c x)) (fun b r h c x => f1 (ix5 b r h c x)) (fun b r h e => f2 (ix4 b r h e)) (fun n h => f3 (ix2 n h)) lam
    A0 A1 A2 A3 A4 A5 A6 A7 A8 h0 h1 h2 h3 h4 h5 h6 h7 h8 (fun _ _ _ _ _ => g0 _) (fun _ _ _ _ _ => g1 _) (fun _ _ _ _ => g2 _) (fun _ _ => g3 _) rl).trans ?_
  exact (final (fun b r h c x => f0 (ix5 b r h c x)) (fun b r h c x => f1 (ix5 b r h c x)) (fun b r h e => f2 (ix4 b r h e)) (fun n h => f3 (ix2 n h)) lam
    A8 m c A0 A1 A2 A3 A4 A5 A6 A7 k0 k1 k2 k3 k4 k5 k6 k7 k8 (fun _ _ _ _ _ => g0 _) (fun _ _ _ _ _ => g1 _) (fun _ _ _ _ => g2 _) (fun _ _ => g3 _) rl).symm

end Cert.Equal

end
-- ==== Proof.Proj.lean ====
module

public import proofs.«01_k».proof.Proof.Gen.Kernel2Ideal.Value
public import Idealize.ShloMosaic.Lib.Pointwise
public import Idealize.ShloMosaic.Lib.Pipeline.ValueKit

/-!
# The blocks of the projection

What one grid point computes of each result, element by element.
-/

set_option maxRecDepth 16384

@[expose] public section

noncomputable section

namespace Cert.Kernel2Ideal.Gen

open Idealize.ShloMosaic Idealize.ShloMosaic.TcCoe Idealize.SL.Sem

/-- A row of the block times a column of the weights. -/
def row (x0 : FVec Ideal S256x1024 .f32) (x1 : FVec Ideal S1024x5376 .bf16) (r : Fin 256) (n : Fin 5376) : EReal :=
  ∑ k : Fin 1024, x0 (ix2 r k) * x1 (ix2 k n)

variable (x0 : FVec Ideal S256x1024 .f32) (x1 : FVec Ideal S1024x5376 .bf16)

theorem pay8_apply (r : Fin 256) (n : Fin 1792) :
    (k0_pay8 (F := Ideal) (View.ld x0 r0_0) (View.ld x1 r0_1) : FVec Ideal S256x1792 .f32) (ix2 r n) = row x0 x1 r ⟨n.val, by omega⟩ := by
  unfold k0_pay8 k0_pay7 row
  pointwise

theorem qscale : Named.named (F := Ideal) κ "qscale" (φ := .f32) 1043900987#32 = (((8 * Real.log 2)⁻¹ : ℝ) : EReal) :=
  IdealRules.named_const.ideal_named_scalar _ _ _ _ rfl

theorem pay9_apply (r : Fin 256) (n : Fin 512) :
    (k0_pay9 (F := Ideal) (View.ld x0 r0_0) (View.ld x1 r0_3) : FVec Ideal S256x512 .f32) (ix2 r n) = row x0 x1 r ⟨1792 + n.val, by omega⟩ * (((8 * Real.log 2)⁻¹ : ℝ) : EReal) := by
  unfold k0_pay9 k0_pay7 row
  pointwise
  rw [qscale]

theorem pay10_apply (r : Fin 256) (n : Fin 512) :
    (k0_pay10 (F := Ideal) (View.ld x0 r0_0) (View.ld x1 r0_5) : FVec Ideal S256x512 .f32) (ix2 r n) = row x0 x1 r ⟨2304 + n.val, by omega⟩ := by
  unfold k0_pay10 k0_pay7 row
  pointwise

theorem pay11_apply (r : Fin 256) (n : Fin 512) :
    (k0_pay11 (F := Ideal) (View.ld x0 r0_0) (View.ld x1 r0_6) : FVec Ideal S256x512 .f32) (ix2 r n) = row x0 x1 r ⟨2816 + n.val, by omega⟩ := by
  unfold k0_pay11 k0_pay7 row
  pointwise

theorem pay6_apply (r : Fin 256) (n : Fin 2048) :
    (k0_pay6 (F := Ideal) (k0_pay7 (View.ld x0 r0_0)) (View.ld x1 r0_19) : FVec Ideal S256x2048 .f32) (ix2 r n) = row x0 x1 r ⟨3328 + n.val, by omega⟩ := by
  unfold k0_pay6 k0_pay7 row
  pointwise

theorem out2_apply (r : Fin 256) (n : Fin 1792) : (out0_2 (F := Ideal) x0 x1 : FVec Ideal S256x1792 .f32) (ix2 r n) = row x0 x1 r ⟨n.val, by omega⟩ := by
  refine Eq.trans ?_ (pay8_apply x0 x1 r n)
  frame_out

theorem out3_apply (r : Fin 256) (n : Fin 512) : (out0_3 (F := Ideal) x0 x1 : FVec Ideal S256x512 .f32) (ix2 r n) = row x0 x1 r ⟨1792 + n.val, by omega⟩ * (((8 * Real.log 2)⁻¹ : ℝ) : EReal) := by
  refine Eq.trans ?_ (pay9_apply x0 x1 r n)
  frame_out

theorem out4_apply (y : S256x4x2x64.Idx) (i : S256x512.Idx) (h0 : (i 0).val = (y 0).val) (h1 : (i 1).val = 128 * (y 1).val + 64 * (y 2).val + (y 3).val) :
    (out0_4 (F := Ideal) x0 x1 : FVec Ideal S256x4x2x64 .f32) y = (k0_pay10 (F := Ideal) (View.ld x0 r0_0) (View.ld x1 r0_5) : FVec Ideal S256x512 .f32) i := by
  unfold out0_4 k0_pay23
  canon_tiles x h
  all_goals (open_payloads; pointwise; blk_ext)

theorem out5_apply (y : S256x4x128.Idx) (i : S256x512.Idx) (h0 : (i 0).val = (y 0).val) (h1 : (i 1).val = 128 * (y 1).val + (y 2).val) :
    (out0_5 (F := Ideal) x0 x1 : FVec Ideal S256x4x128 .f32) y = (k0_pay11 (F := Ideal) (View.ld x0 r0_0) (View.ld x1 r0_6) : FVec Ideal S256x512 .f32) i := by
  unfold out0_5 k0_pay24
  canon_tiles x h
  all_goals (open_payloads; pointwise; blk_ext)

theorem out6_apply (r : Fin 256) (n : Fin 2048) : (out0_6 (F := Ideal) x0 x1 : FVec Ideal S256x2048 .f32) (ix2 r n) = row x0 x1 r ⟨3328 + n.val, by omega⟩ := by
  refine Eq.trans ?_ (pay6_apply x0 x1 r n)
  frame_out

theorem out7_apply (r : Fin 256) (n : Fin 512) : (out0_7 (F := Ideal) x0 x1 : FVec Ideal S256x512 .bf16) (ix2 r n) = row x0 x1 r ⟨2304 + n.val, by omega⟩ := by
  refine Eq.trans ?_ (pay10_apply x0 x1 r n)
  frame_out
  unfold k0_pay4 k0_pay23 k0_pay10 k0_pay7
  pointwise

theorem out8_apply (r : Fin 256) (n : Fin 512) : (out0_8 (F := Ideal) x0 x1 : FVec Ideal S256x512 .bf16) (ix2 r n) = row x0 x1 r ⟨2816 + n.val, by omega⟩ := by
  refine Eq.trans ?_ (pay11_apply x0 x1 r n)
  frame_out
  unfold k0_pay5 k0_pay24 k0_pay11 k0_pay7
  pointwise

end Cert.Kernel2Ideal.Gen

end
-- ==== Proof.ProjRef.lean ====
module

public import proofs.«01_k».proof.Proof.Gen.Reference2Ideal.Run
public import Idealize.ShloMosaic.Lib.Pointwise
public import proofs.«01_k».proof.Proof.Final

/-!
# The projection in the reference

Each result of the reference at an index, as a row of the input times a column of the weights.
-/

set_option maxRecDepth 16384

@[expose] public section

noncomputable section

namespace Cert.Reference2Ideal.Value

open Cert.Reference2Ideal Cert.Reference2Ideal.Gen Idealize.ShloMosaic Idealize.ShloMosaic.TcCoe Idealize.SL.Sem Idealize.ShloMosaic.StableHlo

variable (X : FVec Ideal S4x4096x1024 .f32) (W : FVec Ideal S1024x5376 .f32)

/-- A position's row times a column of the weights. -/
def PM (r : Fin 16384) (n : Fin 5376) : EReal := ∑ k : Fin 1024, X (ix3 ⟨r.val / 4096, by omega⟩ ⟨r.val % 4096, by omega⟩ k) * W (ix2 k n)

/-- The columns of the recurrent mixer. -/
def RC : FVec Ideal S16384x1792 .f32 :=
  shapeCast S16384x1792 (extractStridedSlice S4x4096x1792 ![0, 0, 0] (Host.dotGeneral dot_S4x4096x1024_S1024x5376_S4x4096x5376_2_0_01_1_n_n none X W) slices_S4x4096x5376_S4x4096x1792_0_0_0) shapeCasts_S4x4096x1792_S16384x1792
/-- The scaled queries. -/
def RQ : FVec Ideal S16384x512 .f32 :=
  shapeCast S16384x512 (Host.divf (mulf (extractStridedSlice S4x4096x512 ![0, 0, 1792] (Host.dotGeneral dot_S4x4096x1024_S1024x5376_S4x4096x5376_2_0_01_1_n_n none X W) slices_S4x4096x5376_S4x4096x512_0_0_1792) (broadcastInDim S4x4096x512 ![] bcast_S_S4x4096x512 (constant S_ .f32 0x3E000000#32))) (broadcastInDim S4x4096x512 ![] bcast_S_S4x4096x512 (id (Host.log (constant S_ .f32 0x40000000#32))))) shapeCasts_S4x4096x512_S16384x512
/-- The keys. -/
def RK : FVec Ideal S16384x4x2x64 .f32 :=
  shapeCast S16384x4x2x64 (extractStridedSlice S4x4096x512 ![0, 0, 2304] (Host.dotGeneral dot_S4x4096x1024_S1024x5376_S4x4096x5376_2_0_01_1_n_n none X W) slices_S4x4096x5376_S4x4096x512_0_0_2304) shapeCasts_S4x4096x512_S16384x4x2x64
/-- The values. -/
def RV : FVec Ideal S16384x4x128 .f32 :=
  shapeCast S16384x4x128 (extractStridedSlice S4x4096x512 ![0, 0, 2816] (Host.dotGeneral dot_S4x4096x1024_S1024x5376_S4x4096x5376_2_0_01_1_n_n none X W) slices_S4x4096x5376_S4x4096x512_0_0_2816) shapeCasts_S4x4096x512_S16384x4x128
/-- The gates. -/
def RG : FVec Ideal S16384x2048 .f32 :=
  shapeCast S16384x2048 (extractStridedSlice S4x4096x2048 ![0, 0, 3328] (Host.dotGeneral dot_S4x4096x1024_S1024x5376_S4x4096x5376_2_0_01_1_n_n none X W) slices_S4x4096x5376_S4x4096x2048_0_0_3328) shapeCasts_S4x4096x2048_S16384x2048
/-- The keys in the narrow format. -/
def RKb : FVec Ideal S16384x512 .bf16 :=
  truncf .bf16 (shapeCast S16384x512 (extractStridedSlice S4x4096x512 ![0, 0, 2304] (Host.dotGeneral dot_S4x4096x1024_S1024x5376_S4x4096x5376_2_0_01_1_n_n none X W) slices_S4x4096x5376_S4x4096x512_0_0_2304) shapeCasts_S4x4096x512_S16384x512) bitsLt_bf16_f32
/-- The values in the narrow format. -/
def RVb : FVec Ideal S16384x512 .bf16 :=
  truncf .bf16 (shapeCast S16384x512 (extractStridedSlice S4x4096x512 ![0, 0, 2816] (Host.dotGeneral dot_S4x4096x1024_S1024x5376_S4x4096x5376_2_0_01_1_n_n none X W) slices_S4x4096x5376_S4x4096x512_0_0_2816) shapeCasts_S4x4096x512_S16384x512) bitsLt_bf16_f32

theorem RC_apply (r : Fin 16384) (n : Fin 1792) : RC X W (ix2 r n) = PM X W r ⟨n.val, by omega⟩ := by
  unfold RC PM
  pointwise

theorem RQ_apply (r : Fin 16384) (n : Fin 512) : RQ X W (ix2 r n) = PM X W r ⟨1792 + n.val, by omega⟩ * (((8 * Real.log 2)⁻¹ : ℝ) : EReal) := by
  unfold RQ PM
  pointwise
  rw [Cert.Rows.ofBits_8th, show id (Host.log (F := Ideal) (constant S_ FTy.f32 1073741824#32)) ix0 = ((Real.log 2 : ℝ) : EReal) from Cert.KernelIdeal.Gen.log_2,
    Ideal.div_coe Cert.KernelIdeal.Gen.log2_ne, mul_assoc, ← EReal.coe_mul]
  congr 2
  rw [mul_inv]
  ring

theorem RK_apply (r : Fin 16384) (h : Fin 4) (d : Fin 2) (n : Fin 64) : RK X W (ix4 r h d n) = PM X W r ⟨2304 + (128 * h.val + 64 * d.val + n.val), by omega⟩ := by
  have e : (⟨2304 + (128 * h.val + 64 * d.val + n.val), by omega⟩ : Fin 5376) = ⟨2304 + (h.val * 128 + d.val * 64 + n.val), by omega⟩ := Fin.ext (by simp only []; omega)
  rw [e]
  unfold RK PM
  pointwise

theorem RV_apply (r : Fin 16384) (h : Fin 4) (n : Fin 128) : RV X W (ix3 r h n) = PM X W r ⟨2816 + (128 * h.val + n.val), by omega⟩ := by
  have e : (⟨2816 + (128 * h.val + n.val), by omega⟩ : Fin 5376) = ⟨2816 + (h.val * 128 + n.val), by omega⟩ := Fin.ext (by simp only []; omega)
  rw [e]
  unfold RV PM
  pointwise

theorem RG_apply (r : Fin 16384) (n : Fin 2048) : RG X W (ix2 r n) = PM X W r ⟨3328 + n.val, by omega⟩ := by
  unfold RG PM
  pointwise

theorem RKb_apply (r : Fin 16384) (n : Fin 512) : RKb X W (ix2 r n) = PM X W r ⟨2304 + n.val, by omega⟩ := by
  unfold RKb PM
  pointwise

theorem RVb_apply (r : Fin 16384) (n : Fin 512) : RVb X W (ix2 r n) = PM X W r ⟨2816 + n.val, by omega⟩ := by
  unfold RVb PM
  pointwise

end Cert.Reference2Ideal.Value

end
-- ==== Proof.ProjOut.lean ====
module

public import proofs.«01_k».proof.Proof.Proj
public import proofs.«01_k».proof.Proof.ProjRef
public import Idealize.ShloMosaic.Lib.Pipeline.ValueKit
public import Idealize.ShloMosaic.Lib.Claim

/-!
# The arrays the projection's call leaves

Each result of the call is the reference's, from the same arguments.
-/

set_option maxRecDepth 16384

@[expose] public section

noncomputable section

namespace Cert.Kernel2Ideal.Gen

open Idealize.ShloMosaic Idealize.ShloMosaic.TcCoe Idealize.SL.Sem
open Cert.Reference2Ideal.Value

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0, 0, 0] ∧ win0_5.index t = ![t.val, 0, 0] ∧ win0_6.index t = ![t.val, 0] ∧ win0_7.index t = ![t.val, 0] ∧ win0_8.index t = ![t.val, 0] :=
  (by decide +kernel : ∀ t : Fin grid0.N, _)

theorem blk0 (c : Dev nD) (t : Fin cfg0.N) (a : Fin 64) (ha : t.val = a.val) (r : Fin 256) (x : Fin 1024) :
    iblk m c 0 t (ix2 r x) = V m c main_v0 (ix2 ⟨256 * a.val + r.val, by omega⟩ x) := by
  blk_ext [iblk, idx t]
theorem blk1 (c : Dev nD) (t : Fin cfg0.N) (k : Fin 1024) (n : Fin 5376) : iblk m c 1 t (ix2 k n) = V m c main_v1 (ix2 k n) := by
  blk_ext [iblk, idx t]

theorem x_read (c : Dev nD) (r : Fin 16384) (k : Fin 1024) (X : FVec Ideal S4x4096x1024 .f32) (hX : X = m (c, Proc.devRef .tc main_arg0)) :
    (V m c main_v0 : FVec Ideal S16384x1024 .f32) (ix2 r k) = X (ix3 ⟨r.val / 4096, by omega⟩ ⟨r.val % 4096, by omega⟩ k) := by
  subst hX
  unfold V
  simp only [hostOps0, List.flatten_cons, List.flatten_nil, List.append_nil, List.cons_append, List.nil_append]
  after_results_simp
  pointwise

theorem w_read (c : Dev nD) (k : Fin 1024) (n : Fin 5376) (W : FVec Ideal S1024x5376 .f32) (hW : W = m (c, Proc.devRef .tc main_arg1)) :
    (V m c main_v1 : FVec Ideal S1024x5376 .bf16) (ix2 k n) = W (ix2 k n) := by
  subst hW
  unfold V
  simp only [hostOps0, List.flatten_cons, List.flatten_nil, List.append_nil, List.cons_append, List.nil_append]
  after_results_simp
  pointwise

section
variable (c : Dev nD) (X : FVec Ideal S4x4096x1024 .f32) (W : FVec Ideal S1024x5376 .f32)
  (hX : X = m (c, Proc.devRef .tc main_arg0)) (hW : W = m (c, Proc.devRef .tc main_arg1))

include hX hW in
theorem row_eq (t : Fin cfg0.N) (a : Fin 64) (ha : t.val = a.val) (r : Fin 256) (n : Fin 5376) :
    row (iblk m c 0 t) (iblk m c 1 t) r n = PM X W ⟨256 * a.val + r.val, by omega⟩ n := by
  unfold row PM
  exact Finset.sum_congr (M := EReal) rfl fun k _ => congrArg₂ (fun a b : EReal => a * b)
    ((blk0 m c t a ha r k).trans (x_read m c _ k X hX)) ((blk1 m c t k n).trans (w_read m c k n W hW))

include hX hW in
theorem point2 (t : Fin cfg0.N) (y : S256x1792.Idx) :
    (out0_2 (F := Ideal) (iblk m c 0 t) (iblk m c 1 t) : FVec Ideal S256x1792 .f32) y = RC X W (((cfg0.win 2).blk t).view.emb y : S16384x1792.Idx) := by
  have ht : t.val < 64 := Nat.lt_of_lt_of_eq t.isLt N_0
  have y0 : (y 0).val < 256 := (y 0).isLt
  have e : (((cfg0.win 2).blk t).view.emb y : S16384x1792.Idx) = ix2 ⟨256 * t.val + (y 0).val, by omega⟩ (y 1) := by
    blk_ext [idx t]
  refine Eq.trans ?_ ((congrArg (RC X W) e).trans (RC_apply X W ⟨256 * t.val + (y 0).val, by omega⟩ (y 1))).symm
  rw [← row_eq m c X W hX hW t ⟨t.val, ht⟩ rfl (y 0)]
  exact (congrArg _ (eq_ix2 y)).trans (out2_apply (iblk m c 0 t) (iblk m c 1 t) (y 0) (y 1))

include hX hW in
theorem final2 : (dats m 0 c).arrAt 2 (cfgs 0).N = RC X W := by
  refine (dats m 0 c).arrAt_eq_of_covers 2 _ (by decide +kernel) fun t _ y => ?_
  blk_simp
  rw [after0_2]
  exact point2 m c X W hX hW t y

include hX hW in
theorem point3 (t : Fin cfg0.N) (y : S256x512.Idx) :
    (out0_3 (F := Ideal) (iblk m c 0 t) (iblk m c 1 t) : FVec Ideal S256x512 .f32) y = RQ X W (((cfg0.win 3).blk t).view.emb y : S16384x512.Idx) := by
  have ht : t.val < 64 := Nat.lt_of_lt_of_eq t.isLt N_0
  have y0 : (y 0).val < 256 := (y 0).isLt
  have e : (((cfg0.win 3).blk t).view.emb y : S16384x512.Idx) = ix2 ⟨256 * t.val + (y 0).val, by omega⟩ (y 1) := by
    blk_ext [idx t]
  refine Eq.trans ?_ ((congrArg (RQ X W) e).trans (RQ_apply X W ⟨256 * t.val + (y 0).val, by omega⟩ (y 1))).symm
  rw [← row_eq m c X W hX hW t ⟨t.val, ht⟩ rfl (y 0)]
  exact (congrArg _ (eq_ix2 y)).trans (out3_apply (iblk m c 0 t) (iblk m c 1 t) (y 0) (y 1))

include hX hW in
theorem final3 : (dats m 0 c).arrAt 3 (cfgs 0).N = RQ X W := by
  refine (dats m 0 c).arrAt_eq_of_covers 3 _ (by decide +kernel) fun t _ y => ?_
  blk_simp
  rw [after0_3]
  exact point3 m c X W hX hW t y

include hX hW in
theorem point6 (t : Fin cfg0.N) (y : S256x2048.Idx) :
    (out0_6 (F := Ideal) (iblk m c 0 t) (iblk m c 1 t) : FVec Ideal S256x2048 .f32) y = RG X W (((cfg0.win 6).blk t).view.emb y : S16384x2048.Idx) := by
  have ht : t.val < 64 := Nat.lt_of_lt_of_eq t.isLt N_0
  have y0 : (y 0).val < 256 := (y 0).isLt
  have e : (((cfg0.win 6).blk t).view.emb y : S16384x2048.Idx) = ix2 ⟨256 * t.val + (y 0).val, by omega⟩ (y 1) := by
    blk_ext [idx t]
  refine Eq.trans ?_ ((congrArg (RG X W) e).trans (RG_apply X W ⟨256 * t.val + (y 0).val, by omega⟩ (y 1))).symm
  rw [← row_eq m c X W hX hW t ⟨t.val, ht⟩ rfl (y 0)]
  exact (congrArg _ (eq_ix2 y)).trans (out6_apply (iblk m c 0 t) (iblk m c 1 t) (y 0) (y 1))

include hX hW in
theorem final6 : (dats m 0 c).arrAt 6 (cfgs 0).N = RG X W := by
  refine (dats m 0 c).arrAt_eq_of_covers 6 _ (by decide +kernel) fun t _ y => ?_
  blk_simp
  rw [after0_6]
  exact point6 m c X W hX hW t y

include hX hW in
theorem point7 (t : Fin cfg0.N) (y : S256x512.Idx) :
    (out0_7 (F := Ideal) (iblk m c 0 t) (iblk m c 1 t) : FVec Ideal S256x512 .bf16) y = RKb X W (((cfg0.win 7).blk t).view.emb y : S16384x512.Idx) := by
  have ht : t.val < 64 := Nat.lt_of_lt_of_eq t.isLt N_0
  have y0 : (y 0).val < 256 := (y 0).isLt
  have e : (((cfg0.win 7).blk t).view.emb y : S16384x512.Idx) = ix2 ⟨256 * t.val + (y 0).val, by omega⟩ (y 1) := by
    blk_ext [idx t]
  refine Eq.trans ?_ ((congrArg (RKb X W) e).trans (RKb_apply X W ⟨256 * t.val + (y 0).val, by omega⟩ (y 1))).symm
  rw [← row_eq m c X W hX hW t ⟨t.val, ht⟩ rfl (y 0)]
  exact (congrArg _ (eq_ix2 y)).trans (out7_apply (iblk m c 0 t) (iblk m c 1 t) (y 0) (y 1))

include hX hW in
theorem final7 : (dats m 0 c).arrAt 7 (cfgs 0).N = RKb X W := by
  refine (dats m 0 c).arrAt_eq_of_covers 7 _ (by decide +kernel) fun t _ y => ?_
  blk_simp
  rw [after0_7]
  exact point7 m c X W hX hW t y

include hX hW in
theorem point8 (t : Fin cfg0.N) (y : S256x512.Idx) :
    (out0_8 (F := Ideal) (iblk m c 0 t) (iblk m c 1 t) : FVec Ideal S256x512 .bf16) y = RVb X W (((cfg0.win 8).blk t).view.emb y : S16384x512.Idx) := by
  have ht : t.val < 64 := Nat.lt_of_lt_of_eq t.isLt N_0
  have y0 : (y 0).val < 256 := (y 0).isLt
  have e : (((cfg0.win 8).blk t).view.emb y : S16384x512.Idx) = ix2 ⟨256 * t.val + (y 0).val, by omega⟩ (y 1) := by
    blk_ext [idx t]
  refine Eq.trans ?_ ((congrArg (RVb X W) e).trans (RVb_apply X W ⟨256 * t.val + (y 0).val, by omega⟩ (y 1))).symm
  rw [← row_eq m c X W hX hW t ⟨t.val, ht⟩ rfl (y 0)]
  exact (congrArg _ (eq_ix2 y)).trans (out8_apply (iblk m c 0 t) (iblk m c 1 t) (y 0) (y 1))

include hX hW in
theorem final8 : (dats m 0 c).arrAt 8 (cfgs 0).N = RVb X W := by
  refine (dats m 0 c).arrAt_eq_of_covers 8 _ (by decide +kernel) fun t _ y => ?_
  blk_simp
  rw [after0_8]
  exact point8 m c X W hX hW t y

include hX hW in
theorem point4 (t : Fin cfg0.N) (y : S256x4x2x64.Idx) :
    (out0_4 (F := Ideal) (iblk m c 0 t) (iblk m c 1 t) : FVec Ideal S256x4x2x64 .f32) y = RK X W (((cfg0.win 4).blk t).view.emb y : S16384x4x2x64.Idx) := by
  have ht : t.val < 64 := Nat.lt_of_lt_of_eq t.isLt N_0
  have y0 : (y 0).val < 256 := (y 0).isLt
  have y1 : (y 1).val < 4 := (y 1).isLt
  have y2 : (y 2).val < 2 := (y 2).isLt
  have y3 : (y 3).val < 64 := (y 3).isLt
  have e : (((cfg0.win 4).blk t).view.emb y : S16384x4x2x64.Idx) = ix4 ⟨256 * t.val + (y 0).val, by omega⟩ (y 1) (y 2) (y 3) := by
    blk_ext [idx t]
  refine Eq.trans ?_ ((congrArg (RK X W) e).trans (RK_apply X W ⟨256 * t.val + (y 0).val, by omega⟩ (y 1) (y 2) (y 3))).symm
  rw [← row_eq m c X W hX hW t ⟨t.val, ht⟩ rfl (y 0)]
  exact (out4_apply (iblk m c 0 t) (iblk m c 1 t) y (ix2 (y 0) ⟨128 * (y 1).val + 64 * (y 2).val + (y 3).val, by omega⟩) rfl rfl).trans
    (pay10_apply (iblk m c 0 t) (iblk m c 1 t) (y 0) ⟨128 * (y 1).val + 64 * (y 2).val + (y 3).val, by omega⟩)

include hX hW in
theorem final4 : (dats m 0 c).arrAt 4 (cfgs 0).N = RK X W := by
  refine (dats m 0 c).arrAt_eq_of_covers 4 _ (by decide +kernel) fun t _ y => ?_
  blk_simp
  rw [after0_4]
  exact point4 m c X W hX hW t y

include hX hW in
theorem point5 (t : Fin cfg0.N) (y : S256x4x128.Idx) :
    (out0_5 (F := Ideal) (iblk m c 0 t) (iblk m c 1 t) : FVec Ideal S256x4x128 .f32) y = RV X W (((cfg0.win 5).blk t).view.emb y : S16384x4x128.Idx) := by
  have ht : t.val < 64 := Nat.lt_of_lt_of_eq t.isLt N_0
  have y0 : (y 0).val < 256 := (y 0).isLt
  have y1 : (y 1).val < 4 := (y 1).isLt
  have y2 : (y 2).val < 128 := (y 2).isLt
  have e : (((cfg0.win 5).blk t).view.emb y : S16384x4x128.Idx) = ix3 ⟨256 * t.val + (y 0).val, by omega⟩ (y 1) (y 2) := by
    blk_ext [idx t]
  refine Eq.trans ?_ ((congrArg (RV X W) e).trans (RV_apply X W ⟨256 * t.val + (y 0).val, by omega⟩ (y 1) (y 2))).symm
  rw [← row_eq m c X W hX hW t ⟨t.val, ht⟩ rfl (y 0)]
  exact (out5_apply (iblk m c 0 t) (iblk m c 1 t) y (ix2 (y 0) ⟨128 * (y 1).val + (y 2).val, by omega⟩) rfl rfl).trans
    (pay11_apply (iblk m c 0 t) (iblk m c 1 t) (y 0) ⟨128 * (y 1).val + (y 2).val, by omega⟩)

include hX hW in
theorem final5 : (dats m 0 c).arrAt 5 (cfgs 0).N = RV X W := by
  refine (dats m 0 c).arrAt_eq_of_covers 5 _ (by decide +kernel) fun t _ y => ?_
  blk_simp
  rw [after0_5]
  exact point5 m c X W hX hW t y

end

end Cert.Kernel2Ideal.Gen

end
-- ==== Proof.Merge.lean ====
module

public import proofs.«01_k».proof.Proof.Gen.Kernel3Ideal.Value
public import proofs.«01_k».proof.Proof.Gen.Reference3Ideal.Run
public import proofs.«01_k».proof.Proof.Proj
public import proofs.«01_k».proof.Proof.Final

/-!
# The merge of the two branches

The gated sum of the branches, its projection and the normalized residual, one row of it.
-/

set_option maxRecDepth 16384

@[expose] public section

noncomputable section

namespace Cert.Merge

open Idealize.ShloMosaic Idealize.ShloMosaic.TcCoe Idealize.SL.Sem

/-- The gate of a number. -/
def gate (g : EReal) : EReal := Ideal.div (Ideal.ofBits .f32 0x3F800000#32) (Ideal.ofBits .f32 0x3F800000#32 + Ideal.exp (-g))

/-- A row of the two gated branches. -/
def merged (ya ob : Fin 512 → EReal) (g : Fin 2048 → EReal) (wa wb : Fin 512 → Fin 1024 → EReal) (e : Fin 1024) : EReal :=
  gate (g ⟨e.val, by omega⟩) * ∑ k, ya k * wa k e + gate (g ⟨1024 + e.val, by omega⟩) * ∑ k, ob k * wb k e

/-- The row with its residual. -/
def resid (x : Fin 1024 → EReal) (y : Fin 1024 → EReal) (wo : Fin 1024 → Fin 1024 → EReal) (n : Fin 1024) : EReal :=
  Ideal.ofBits .f32 0x3F9837F0#32 * x n + ∑ e, y e * wo e n

/-- The mean of a row. -/
def mean (z : Fin 1024 → EReal) : EReal := (∑ n, z n) * Ideal.ofBits .f32 0x3A800000#32

/-- The row normalized, scaled and shifted. -/
def lnorm (z w b : Fin 1024 → EReal) (n : Fin 1024) : EReal :=
  (z n - mean z) * Ideal.rsqrt (mean (fun k => (z k - mean z) * (z k - mean z)) + Ideal.ofBits .f32 0x3727C5AC#32) * w n + b n

theorem ofBits_1024 : Ideal.ofBits .f32 0x44800000#32 = ((1024 : ℝ) : EReal) := by
  simp only [Ideal.ofBits, Ideal.ieee]
  norm_num [BitVec.extractLsb', Nat.shiftRight_eq_div_pow]

theorem ofBits_1024th : Ideal.ofBits .f32 0x3A800000#32 = ((1 / 1024 : ℝ) : EReal) := by
  simp only [Ideal.ofBits, Ideal.ieee]
  norm_num [BitVec.extractLsb', Nat.shiftRight_eq_div_pow]

theorem mean_div (z : Fin 1024 → EReal) : mean z = Ideal.div (∑ n, z n) (Ideal.ofBits .f32 0x44800000#32) := by
  unfold mean
  rw [ofBits_1024, Ideal.div_coe (by norm_num : (1024 : ℝ) ≠ 0), ofBits_1024th]

theorem lnorm_div (z w b : Fin 1024 → EReal) (n : Fin 1024) :
    lnorm z w b n = (z n - Ideal.div (∑ k, z k) (Ideal.ofBits .f32 0x44800000#32))
      * Ideal.rsqrt (Ideal.div (∑ j, (z j - Ideal.div (∑ k, z k) (Ideal.ofBits .f32 0x44800000#32)) * (z j - Ideal.div (∑ k, z k) (Ideal.ofBits .f32 0x44800000#32))) (Ideal.ofBits .f32 0x44800000#32)
        + Ideal.ofBits .f32 0x3727C5AC#32) * w n + b n := by
  unfold lnorm
  rw [mean_div (fun k => (z k - mean z) * (z k - mean z)), mean_div z]

/-- The whole merge, at a position and a column. -/
def out (A0 : FVec Ideal ⟨3, ![4, 4096, 1024]⟩ .f32) (A1 A2 : FVec Ideal ⟨3, ![4, 4096, 512]⟩ .f32) (A3 : FVec Ideal ⟨2, ![16384, 2048]⟩ .f32) (A4 A5 : FVec Ideal ⟨2, ![512, 1024]⟩ .f32)
    (A6 : FVec Ideal ⟨2, ![1024, 1024]⟩ .f32) (A7 A8 : FVec Ideal ⟨1, ![1024]⟩ .f32) (r : Fin 16384) : Fin 1024 → EReal :=
  lnorm (resid (fun n => A0 (ix3 ⟨r.val / 4096, by omega⟩ ⟨r.val % 4096, by omega⟩ n))
    (merged (fun k => A1 (ix3 ⟨r.val / 4096, by omega⟩ ⟨r.val % 4096, by omega⟩ k)) (fun k => A2 (ix3 ⟨r.val / 4096, by omega⟩ ⟨r.val % 4096, by omega⟩ k)) (fun k => A3 (ix2 r k))
      (fun k e => A4 (ix2 k e)) (fun k e => A5 (ix2 k e))) (fun e n => A6 (ix2 e n))) (fun n => A7 (ix1 n)) (fun n => A8 (ix1 n))

end Cert.Merge

namespace Cert.Kernel3Ideal.Gen

open Idealize.ShloMosaic Idealize.ShloMosaic.TcCoe Idealize.SL.Sem
open Cert.Merge

variable (x0 : FVec Ideal S512x1024 .f32) (x1 x2 : FVec Ideal S512x512 .f32) (x3 : FVec Ideal S512x2048 .f32) (x4 x5 : FVec Ideal S512x1024 .bf16)
  (x6 : FVec Ideal S1024x1024 .bf16) (x7 x8 : FVec Ideal S1x1024 .f32)

theorem pay2_apply (r : Fin 512) (n : Fin 1024) :
    (k0_pay2 (F := Ideal) (View.ld x3 r0_0) (View.ld x3 r0_1) (View.ld x1 r0_2) (View.ld x4 r0_3) (View.ld x2 r0_2) (View.ld x5 r0_3) (View.ld x6 r0_4) : FVec Ideal S512x1024 .f32) (ix2 r n)
      = ∑ e : Fin 1024, merged (fun k => x1 (ix2 r k)) (fun k => x2 (ix2 r k)) (fun k => x3 (ix2 r k)) (fun k e => x4 (ix2 k e)) (fun k e => x5 (ix2 k e)) e * x6 (ix2 e n) := by
  unfold k0_pay2 merged gate
  pointwise
  simp only [zero_sub]

theorem pay1_apply (p : FVec Ideal S512x1024 .f32) (r : Fin 512) (n : Fin 1024) (y : Fin 1024 → EReal) (hy : ∀ n, p (ix2 r n) = ∑ e, y e * x6 (ix2 e n)) :
    (k0_pay1 (F := Ideal) p (View.ld x0 r0_3) (View.ld x7 r0_5) (View.ld x8 r0_5) : FVec Ideal S512x1024 .f32) (ix2 r n)
      = lnorm (resid (fun n => x0 (ix2 r n)) y (fun e n => x6 (ix2 e n))) (fun n => x7 (ix2 0 n)) (fun n => x8 (ix2 0 n)) n := by
  unfold k0_pay1 lnorm mean resid
  simp only [← hy]
  pointwise

theorem out9_apply (r : Fin 512) (n : Fin 1024) :
    (out0_9 (F := Ideal) x0 x1 x2 x3 x4 x5 x6 x7 x8 : FVec Ideal S512x1024 .f32) (ix2 r n)
      = lnorm (resid (fun n => x0 (ix2 r n)) (merged (fun k => x1 (ix2 r k)) (fun k => x2 (ix2 r k)) (fun k => x3 (ix2 r k)) (fun k e => x4 (ix2 k e)) (fun k e => x5 (ix2 k e))) (fun e n => x6 (ix2 e n)))
          (fun n => x7 (ix2 0 n)) (fun n => x8 (ix2 0 n)) n := by
  refine Eq.trans ?_ (pay1_apply x0 x6 x7 x8 _ r n _ (pay2_apply x1 x2 x3 x4 x5 x6 r))
  unfold out0_9
  rw [View.canon_unit_zero (by funext a; revert a; decide)]

end Cert.Kernel3Ideal.Gen

namespace Cert.Reference3Ideal.Value

open Cert.Reference3Ideal Cert.Reference3Ideal.Gen Idealize.ShloMosaic Idealize.ShloMosaic.TcCoe Idealize.SL.Sem
open Cert.Merge

/-- The two gated branches. -/
def BR (A1 : FVec Ideal S4x4096x512 .f32) (A2 : FVec Ideal S4x4096x512 .f32) (A3 : FVec Ideal S16384x2048 .f32) (A4 : FVec Ideal S512x1024 .f32) (A5 : FVec Ideal S512x1024 .f32) : FVec Ideal S4x4096x1024 .f32 :=
  addf (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 0] (shapeCast S4x4096x2048 A3 shapeCasts_S16384x2048_S4x4096x2048) slices_S4x4096x2048_S4x4096x1024_0_0_0))))) (Host.dotGeneral dot_S4x4096x512_S512x1024_S4x4096x1024_2_0_01_1_n_n none A1 A4)) (mulf (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (extractStridedSlice S4x4096x1024 ![0, 0, 1024] (shapeCast S4x4096x2048 A3 shapeCasts_S16384x2048_S4x4096x2048) slices_S4x4096x2048_S4x4096x1024_0_0_1024))))) (Host.dotGeneral dot_S4x4096x512_S512x1024_S4x4096x1024_2_0_01_1_n_n none A2 A5))
/-- Their projection with the residual. -/
def RES (A0 : FVec Ideal S4x4096x1024 .f32) (Y : FVec Ideal S4x4096x1024 .f32) (A6 : FVec Ideal S1024x1024 .f32) : FVec Ideal S4x4096x1024 .f32 :=
  addf (mulf (broadcastInDim S4x4096x1024 ![] bcast_S_S4x4096x1024 (constant S_ .f32 0x3F9837F0#32)) A0) (Host.dotGeneral dot_S4x4096x1024_S1024x1024_S4x4096x1024_2_0_01_1_n_n none Y A6)
/-- The mean of each position. -/
def MU (Z : FVec Ideal S4x4096x1024 .f32) : FVec Ideal S4x4096x1 .f32 :=
  Host.divf (broadcastInDim S4x4096x1 ![0, 1] bcast_S4x4096_S4x4096x1_0_1 (Host.reduceAdd Z (constant S_ .f32 0x00000000#32) reducesTo_S4x4096x1024_S4x4096_d2 h_S_)) (broadcastInDim S4x4096x1 ![] bcast_S_S4x4096x1 (constant S_ .f32 0x44800000#32))
/-- The normalized array. -/
def NRM (Z : FVec Ideal S4x4096x1024 .f32) (A7 : FVec Ideal S1024 .f32) (A8 : FVec Ideal S1024 .f32) : FVec Ideal S16384x1024 .f32 :=
  shapeCast S16384x1024 (addf (mulf (mulf (subf Z (broadcastInDim S4x4096x1024 ![0, 1, 2] bcast_S4x4096x1_S4x4096x1024_0_1_2 (MU Z))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf Z (broadcastInDim S4x4096x1024 ![0, 1, 2] bcast_S4x4096x1_S4x4096x1024_0_1_2 (MU Z))) (subf Z (broadcastInDim S4x4096x1024 ![0, 1, 2] bcast_S4x4096x1_S4x4096x1024_0_1_2 (MU Z)))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 A7))) (broadcastInDim S4x4096x1024 ![0, 1, 2] bcast_S1x1x1024_S4x4096x1024_0_1_2 (broadcastInDim S1x1x1024 ![2] bcast_S1024_S1x1x1024_2 A8))) shapeCasts_S4x4096x1024_S16384x1024

theorem BR_apply (A1 : FVec Ideal S4x4096x512 .f32) (A2 : FVec Ideal S4x4096x512 .f32) (A3 : FVec Ideal S16384x2048 .f32) (A4 : FVec Ideal S512x1024 .f32) (A5 : FVec Ideal S512x1024 .f32) (b : Fin 4) (s : Fin 4096) (e : Fin 1024) :
    BR A1 A2 A3 A4 A5 (ix3 b s e) = merged (fun k => A1 (ix3 b s k)) (fun k => A2 (ix3 b s k)) (fun k => A3 (ix2 ⟨b.val * 4096 + s.val, by omega⟩ k)) (fun k e => A4 (ix2 k e)) (fun k e => A5 (ix2 k e)) e := by
  unfold BR merged gate
  pointwise

theorem RES_apply (A0 : FVec Ideal S4x4096x1024 .f32) (Y : FVec Ideal S4x4096x1024 .f32) (A6 : FVec Ideal S1024x1024 .f32) (b : Fin 4) (s : Fin 4096) (n : Fin 1024) :
    RES A0 Y A6 (ix3 b s n) = resid (fun n => A0 (ix3 b s n)) (fun e => Y (ix3 b s e)) (fun e n => A6 (ix2 e n)) n := by
  unfold RES resid
  pointwise

theorem MU_apply (Z : FVec Ideal S4x4096x1024 .f32) (b : Fin 4) (s : Fin 4096) :
    MU Z (ix3 b s 0) = mean (fun n => Z (ix3 b s n)) := by
  rw [mean_div]
  unfold MU
  pointwise

theorem NRM_apply (Z : FVec Ideal S4x4096x1024 .f32) (A7 : FVec Ideal S1024 .f32) (A8 : FVec Ideal S1024 .f32) (r : Fin 16384) (n : Fin 1024) :
    NRM Z A7 A8 (ix2 r n) = lnorm (fun n => Z (ix3 ⟨r.val / 4096, by omega⟩ ⟨r.val % 4096, by omega⟩ n)) (fun n => A7 (ix1 n)) (fun n => A8 (ix1 n)) n := by
  unfold NRM lnorm
  rw [mean_div (fun k => _ * _), ← MU_apply]
  pointwise

theorem ref_apply (m : (ℓ : Loc nD τ sig) → Buf (Elt Ideal) ℓ) (c : Dev nD) (A0 : FVec Ideal S4x4096x1024 .f32) (A1 : FVec Ideal S4x4096x512 .f32) (A2 : FVec Ideal S4x4096x512 .f32) (A3 : FVec Ideal S16384x2048 .f32) (A4 : FVec Ideal S512x1024 .f32) (A5 : FVec Ideal S512x1024 .f32) (A6 : FVec Ideal S1024x1024 .f32) (A7 : FVec Ideal S1024 .f32) (A8 : FVec Ideal S1024 .f32)
    (h0 : A0 = m (c, Proc.devRef .tc main_arg0)) (h1 : A1 = m (c, Proc.devRef .tc main_arg1)) (h2 : A2 = m (c, Proc.devRef .tc main_arg2)) (h3 : A3 = m (c, Proc.devRef .tc main_arg3)) (h4 : A4 = m (c, Proc.devRef .tc main_arg4)) (h5 : A5 = m (c, Proc.devRef .tc main_arg5)) (h6 : A6 = m (c, Proc.devRef .tc main_arg6)) (h7 : A7 = m (c, Proc.devRef .tc main_arg7)) (h8 : A8 = m (c, Proc.devRef .tc main_arg8)) (r : Fin 16384) (n : Fin 1024) :
    (res_main_v48 (F := Ideal) m c : FVec Ideal S16384x1024 .f32) (ix2 r n) = out A0 A1 A2 A3 A4 A5 A6 A7 A8 r n := by
  have h : (res_main_v48 (F := Ideal) m c : FVec Ideal S16384x1024 .f32) = NRM (RES A0 (BR A1 A2 A3 A4 A5) A6) A7 A8 := by
    subst h0 h1 h2 h3 h4 h5 h6 h7 h8
    rfl
  have e : (⟨r.val / 4096 * 4096 + r.val % 4096, by omega⟩ : Fin 16384) = r := Fin.ext (by show r.val / 4096 * 4096 + r.val % 4096 = r.val; omega)
  rw [h, NRM_apply]
  simp only [RES_apply, BR_apply, e]
  rfl

end Cert.Reference3Ideal.Value

end
-- ==== Proof.MergeOut.lean ====
module

public import proofs.«01_k».proof.Proof.Merge
public import Idealize.ShloMosaic.Lib.Pipeline.ValueKit
public import Idealize.ShloMosaic.Lib.Claim

/-!
# The array the merge's call leaves

The result of the call is the reference's, from the same arguments.
-/

set_option maxRecDepth 16384

@[expose] public section

noncomputable section

namespace Cert.Kernel3Ideal.Gen

open Idealize.ShloMosaic Idealize.ShloMosaic.TcCoe Idealize.SL.Sem
open Cert.Merge

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

theorem blk0 (c : Dev nD) (t : Fin cfg0.N) (a : Fin 32) (ha : t.val = a.val) (r : Fin 512) (x : Fin 1024) :
    iblk m c 0 t (ix2 r x) = V m c main_v0 (ix2 ⟨512 * a.val + r.val, by omega⟩ x) := by
  blk_ext [iblk, idx t]
theorem read0 (c : Dev nD) (r : Fin 16384) (k : Fin 1024) (A0 : FVec Ideal S4x4096x1024 .f32) (h0 : A0 = m (c, Proc.devRef .tc main_arg0)) :
    (V m c main_v0 : FVec Ideal S16384x1024 .f32) (ix2 r k) = A0 (ix3 ⟨r.val / 4096, by omega⟩ ⟨r.val % 4096, by omega⟩ k) := by
  subst h0
  unfold V
  simp only [hostOps0, List.flatten_cons, List.flatten_nil, List.append_nil, List.cons_append, List.nil_append]
  after_results_simp
  pointwise
theorem blk1 (c : Dev nD) (t : Fin cfg0.N) (a : Fin 32) (ha : t.val = a.val) (r : Fin 512) (x : Fin 512) :
    iblk m c 1 t (ix2 r x) = V m c main_v1 (ix2 ⟨512 * a.val + r.val, by omega⟩ x) := by
  blk_ext [iblk, idx t]
theorem read1 (c : Dev nD) (r : Fin 16384) (k : Fin 512) (A1 : FVec Ideal S4x4096x512 .f32) (h1 : A1 = m (c, Proc.devRef .tc main_arg1)) :
    (V m c main_v1 : FVec Ideal S16384x512 .f32) (ix2 r k) = A1 (ix3 ⟨r.val / 4096, by omega⟩ ⟨r.val % 4096, by omega⟩ k) := by
  subst h1
  unfold V
  simp only [hostOps0, List.flatten_cons, List.flatten_nil, List.append_nil, List.cons_append, List.nil_append]
  after_results_simp
  pointwise
theorem blk2 (c : Dev nD) (t : Fin cfg0.N) (a : Fin 32) (ha : t.val = a.val) (r : Fin 512) (x : Fin 512) :
    iblk m c 2 t (ix2 r x) = V m c main_v2 (ix2 ⟨512 * a.val + r.val, by omega⟩ x) := by
  blk_ext [iblk, idx t]
theorem read2 (c : Dev nD) (r : Fin 16384) (k : Fin 512) (A2 : FVec Ideal S4x4096x512 .f32) (h2 : A2 = m (c, Proc.devRef .tc main_arg2)) :
    (V m c main_v2 : FVec Ideal S16384x512 .f32) (ix2 r k) = A2 (ix3 ⟨r.val / 4096, by omega⟩ ⟨r.val % 4096, by omega⟩ k) := by
  subst h2
  unfold V
  simp only [hostOps0, List.flatten_cons, List.flatten_nil, List.append_nil, List.cons_append, List.nil_append]
  after_results_simp
  pointwise
theorem blk3 (c : Dev nD) (t : Fin cfg0.N) (a : Fin 32) (ha : t.val = a.val) (r : Fin 512) (x : Fin 2048) :
    iblk m c 3 t (ix2 r x) = V m c main_arg3 (ix2 ⟨512 * a.val + r.val, by omega⟩ x) := by
  blk_ext [iblk, idx t]
theorem read3 (c : Dev nD) (r : Fin 16384) (k : Fin 2048) (A3 : FVec Ideal S16384x2048 .f32) (h3 : A3 = m (c, Proc.devRef .tc main_arg3)) :
    (V m c main_arg3 : FVec Ideal S16384x2048 .f32) (ix2 r k) = A3 (ix2 r k) := by
  rw [V_main_arg3 m c, h3]
theorem blk4 (c : Dev nD) (t : Fin cfg0.N) (k : Fin 512) (n : Fin 1024) : iblk m c 4 t (ix2 k n) = V m c main_v3 (ix2 k n) := by
  blk_ext [iblk, idx t]
theorem read4 (c : Dev nD) (k : Fin 512) (n : Fin 1024) (A4 : FVec Ideal S512x1024 .f32) (h4 : A4 = m (c, Proc.devRef .tc main_arg4)) :
    (V m c main_v3 : FVec Ideal S512x1024 .bf16) (ix2 k n) = A4 (ix2 k n) := by
  subst h4
  unfold V
  simp only [hostOps0, List.flatten_cons, List.flatten_nil, List.append_nil, List.cons_append, List.nil_append]
  after_results_simp
  pointwise
theorem blk5 (c : Dev nD) (t : Fin cfg0.N) (k : Fin 512) (n : Fin 1024) : iblk m c 5 t (ix2 k n) = V m c main_v4 (ix2 k n) := by
  blk_ext [iblk, idx t]
theorem read5 (c : Dev nD) (k : Fin 512) (n : Fin 1024) (A5 : FVec Ideal S512x1024 .f32) (h5 : A5 = m (c, Proc.devRef .tc main_arg5)) :
    (V m c main_v4 : FVec Ideal S512x1024 .bf16) (ix2 k n) = A5 (ix2 k n) := by
  subst h5
  unfold V
  simp only [hostOps0, List.flatten_cons, List.flatten_nil, List.append_nil, List.cons_append, List.nil_append]
  after_results_simp
  pointwise
theorem blk6 (c : Dev nD) (t : Fin cfg0.N) (k : Fin 1024) (n : Fin 1024) : iblk m c 6 t (ix2 k n) = V m c main_v5 (ix2 k n) := by
  blk_ext [iblk, idx t]
theorem read6 (c : Dev nD) (k : Fin 1024) (n : Fin 1024) (A6 : FVec Ideal S1024x1024 .f32) (h6 : A6 = m (c, Proc.devRef .tc main_arg6)) :
    (V m c main_v5 : FVec Ideal S1024x1024 .bf16) (ix2 k n) = A6 (ix2 k n) := by
  subst h6
  unfold V
  simp only [hostOps0, List.flatten_cons, List.flatten_nil, List.append_nil, List.cons_append, List.nil_append]
  after_results_simp
  pointwise
theorem blk7 (c : Dev nD) (t : Fin cfg0.N) (n : Fin 1024) : iblk m c 7 t (ix2 0 n) = V m c main_v6 (ix2 0 n) := by
  blk_ext [iblk, idx t]
theorem read7 (c : Dev nD) (n : Fin 1024) (A7 : FVec Ideal S1024 .f32) (h7 : A7 = m (c, Proc.devRef .tc main_arg7)) :
    (V m c main_v6 : FVec Ideal S1x1024 .f32) (ix2 0 n) = A7 (ix1 n) := by
  subst h7
  unfold V
  simp only [hostOps0, List.flatten_cons, List.flatten_nil, List.append_nil, List.cons_append, List.nil_append]
  after_results_simp
  pointwise
theorem blk8 (c : Dev nD) (t : Fin cfg0.N) (n : Fin 1024) : iblk m c 8 t (ix2 0 n) = V m c main_v7 (ix2 0 n) := by
  blk_ext [iblk, idx t]
theorem read8 (c : Dev nD) (n : Fin 1024) (A8 : FVec Ideal S1024 .f32) (h8 : A8 = m (c, Proc.devRef .tc main_arg8)) :
    (V m c main_v7 : FVec Ideal S1x1024 .f32) (ix2 0 n) = A8 (ix1 n) := by
  subst h8
  unfold V
  simp only [hostOps0, List.flatten_cons, List.flatten_nil, List.append_nil, List.cons_append, List.nil_append]
  after_results_simp
  pointwise

section
variable (c : Dev nD) (A0 : FVec Ideal S4x4096x1024 .f32) (A1 : FVec Ideal S4x4096x512 .f32) (A2 : FVec Ideal S4x4096x512 .f32) (A3 : FVec Ideal S16384x2048 .f32) (A4 : FVec Ideal S512x1024 .f32) (A5 : FVec Ideal S512x1024 .f32) (A6 : FVec Ideal S1024x1024 .f32) (A7 : FVec Ideal S1024 .f32) (A8 : FVec Ideal S1024 .f32)
  (h0 : A0 = m (c, Proc.devRef .tc main_arg0)) (h1 : A1 = m (c, Proc.devRef .tc main_arg1)) (h2 : A2 = m (c, Proc.devRef .tc main_arg2)) (h3 : A3 = m (c, Proc.devRef .tc main_arg3)) (h4 : A4 = m (c, Proc.devRef .tc main_arg4)) (h5 : A5 = m (c, Proc.devRef .tc main_arg5)) (h6 : A6 = m (c, Proc.devRef .tc main_arg6)) (h7 : A7 = m (c, Proc.devRef .tc main_arg7)) (h8 : A8 = m (c, Proc.devRef .tc main_arg8))

include h0 h1 h2 h3 h4 h5 h6 h7 h8 in
theorem row9 (t : Fin cfg0.N) (a : Fin 32) (ha : t.val = a.val) (r : Fin 512) (n : Fin 1024) :
    (out0_9 (F := Ideal) (iblk m c 0 t) (iblk m c 1 t) (iblk m c 2 t) (iblk m c 3 t) (iblk m c 4 t) (iblk m c 5 t) (iblk m c 6 t) (iblk m c 7 t) (iblk m c 8 t) : FVec Ideal S512x1024 .f32) (ix2 r n)
      = out A0 A1 A2 A3 A4 A5 A6 A7 A8 ⟨512 * a.val + r.val, by omega⟩ n := by
  refine (out9_apply (iblk m c 0 t) (iblk m c 1 t) (iblk m c 2 t) (iblk m c 3 t) (iblk m c 4 t) (iblk m c 5 t) (iblk m c 6 t) (iblk m c 7 t) (iblk m c 8 t) r n).trans ?_
  unfold out
  have e0 : (fun k => (iblk m c 0 t : FVec Ideal S512x1024 .f32) (ix2 r k)) = _ := funext fun k => (blk0 m c t a ha r k).trans (read0 m c _ k A0 h0)
  have e1 : (fun k => (iblk m c 1 t : FVec Ideal S512x512 .f32) (ix2 r k)) = _ := funext fun k => (blk1 m c t a ha r k).trans (read1 m c _ k A1 h1)
  have e2 : (fun k => (iblk m c 2 t : FVec Ideal S512x512 .f32) (ix2 r k)) = _ := funext fun k => (blk2 m c t a ha r k).trans (read2 m c _ k A2 h2)
  have e3 : (fun k => (iblk m c 3 t : FVec Ideal S512x2048 .f32) (ix2 r k)) = _ := funext fun k => (blk3 m c t a ha r k).trans (read3 m c _ k A3 h3)
  have e4 : (fun k e => (iblk m c 4 t : FVec Ideal S512x1024 .bf16) (ix2 k e)) = _ := funext fun k => funext fun e => (blk4 m c t k e).trans (read4 m c k e A4 h4)
  have e5 : (fun k e => (iblk m c 5 t : FVec Ideal S512x1024 .bf16) (ix2 k e)) = _ := funext fun k => funext fun e => (blk5 m c t k e).trans (read5 m c k e A5 h5)
  have e6 : (fun k e => (iblk m c 6 t : FVec Ideal S1024x1024 .bf16) (ix2 k e)) = _ := funext fun k => funext fun e => (blk6 m c t k e).trans (read6 m c k e A6 h6)
  have e7 : (fun k => (iblk m c 7 t : FVec Ideal S1x1024 .f32) (ix2 0 k)) = _ := funext fun k => (blk7 m c t k).trans (read7 m c k A7 h7)
  have e8 : (fun k => (iblk m c 8 t : FVec Ideal S1x1024 .f32) (ix2 0 k)) = _ := funext fun k => (blk8 m c t k).trans (read8 m c k A8 h8)
  exact congrFun (congr (congr (congrArg lnorm (congr (congr (congrArg resid e0) (congr (congr (congr (congr (congrArg merged e1) e2) e3) e4) e5)) e6)) e7) e8) n

/-- The merge as an array. -/
def OUT : FVec Ideal S16384x1024 .f32 := fun i => out A0 A1 A2 A3 A4 A5 A6 A7 A8 (i 0) (i 1)

include h0 h1 h2 h3 h4 h5 h6 h7 h8 in
theorem point9 (t : Fin cfg0.N) (y : S512x1024.Idx) :
    (out0_9 (F := Ideal) (iblk m c 0 t) (iblk m c 1 t) (iblk m c 2 t) (iblk m c 3 t) (iblk m c 4 t) (iblk m c 5 t) (iblk m c 6 t) (iblk m c 7 t) (iblk m c 8 t) : FVec Ideal S512x1024 .f32) y
      = OUT A0 A1 A2 A3 A4 A5 A6 A7 A8 (((cfg0.win 9).blk t).view.emb y : S16384x1024.Idx) := by
  have ht : t.val < 32 := Nat.lt_of_lt_of_eq t.isLt N_0
  have y0 : (y 0).val < 512 := (y 0).isLt
  have e : (((cfg0.win 9).blk t).view.emb y : S16384x1024.Idx) = ix2 ⟨512 * t.val + (y 0).val, by omega⟩ (y 1) := by
    blk_ext [idx t]
  refine Eq.trans ?_ (congrArg (OUT A0 A1 A2 A3 A4 A5 A6 A7 A8) e).symm
  exact (congrArg _ (eq_ix2 y)).trans (row9 m c A0 A1 A2 A3 A4 A5 A6 A7 A8 h0 h1 h2 h3 h4 h5 h6 h7 h8 t ⟨t.val, ht⟩ rfl (y 0) (y 1))

include h0 h1 h2 h3 h4 h5 h6 h7 h8 in
theorem final9 : (dats m 0 c).arrAt 9 (cfgs 0).N = OUT A0 A1 A2 A3 A4 A5 A6 A7 A8 := by
  refine (dats m 0 c).arrAt_eq_of_covers 9 _ (by decide +kernel) fun t _ y => ?_
  blk_simp
  rw [after0_9]
  exact point9 m c A0 A1 A2 A3 A4 A5 A6 A7 A8 h0 h1 h2 h3 h4 h5 h6 h7 h8 t y

end

/-- The result, from agreeing arguments. -/
theorem equal (c : Dev nD) (m' : (ℓ : Loc Cert.Reference3Ideal.nD Cert.Reference3Ideal.τ Cert.Reference3Ideal.sig) → Buf (Elt Ideal) ℓ) (A0 : FVec Ideal S4x4096x1024 .f32) (A1 : FVec Ideal S4x4096x512 .f32) (A2 : FVec Ideal S4x4096x512 .f32) (A3 : FVec Ideal S16384x2048 .f32) (A4 : FVec Ideal S512x1024 .f32) (A5 : FVec Ideal S512x1024 .f32) (A6 : FVec Ideal S1024x1024 .f32) (A7 : FVec Ideal S1024 .f32) (A8 : FVec Ideal S1024 .f32)
    (h0 : A0 = m (c, Proc.devRef .tc main_arg0)) (h1 : A1 = m (c, Proc.devRef .tc main_arg1)) (h2 : A2 = m (c, Proc.devRef .tc main_arg2)) (h3 : A3 = m (c, Proc.devRef .tc main_arg3)) (h4 : A4 = m (c, Proc.devRef .tc main_arg4)) (h5 : A5 = m (c, Proc.devRef .tc main_arg5)) (h6 : A6 = m (c, Proc.devRef .tc main_arg6)) (h7 : A7 = m (c, Proc.devRef .tc main_arg7)) (h8 : A8 = m (c, Proc.devRef .tc main_arg8))
    (k0 : A0 = m' (c, Proc.devRef .tc Cert.Reference3Ideal.main_arg0)) (k1 : A1 = m' (c, Proc.devRef .tc Cert.Reference3Ideal.main_arg1)) (k2 : A2 = m' (c, Proc.devRef .tc Cert.Reference3Ideal.main_arg2)) (k3 : A3 = m' (c, Proc.devRef .tc Cert.Reference3Ideal.main_arg3)) (k4 : A4 = m' (c, Proc.devRef .tc Cert.Reference3Ideal.main_arg4)) (k5 : A5 = m' (c, Proc.devRef .tc Cert.Reference3Ideal.main_arg5)) (k6 : A6 = m' (c, Proc.devRef .tc Cert.Reference3Ideal.main_arg6)) (k7 : A7 = m' (c, Proc.devRef .tc Cert.Reference3Ideal.main_arg7)) (k8 : A8 = m' (c, Proc.devRef .tc Cert.Reference3Ideal.main_arg8)) :
    Cert.Reference3Ideal.Value.res_main_v48 (F := Ideal) m' c = (dats m 0 c).arrAt 9 (cfgs 0).N := by
  rw [final9 m c A0 A1 A2 A3 A4 A5 A6 A7 A8 h0 h1 h2 h3 h4 h5 h6 h7 h8]
  funext i
  exact (congrArg _ (eq_ix2 i)).trans (Cert.Reference3Ideal.Value.ref_apply m' c A0 A1 A2 A3 A4 A5 A6 A7 A8 k0 k1 k2 k3 k4 k5 k6 k7 k8 (i 0) (i 1))

end Cert.Kernel3Ideal.Gen

end
-- ==== Proof.Ffn.lean ====
module

public import proofs.«01_k».proof.Proof.Gen.Kernel4Ideal.Value
public import proofs.«01_k».proof.Proof.Gen.Reference4Ideal.Run
public import proofs.«01_k».proof.Proof.Merge
public import Idealize.ShloMosaic.Lib.Pipeline.ValueKit

/-!
# What the feed-forward kernel computes at a point

The terms the body stores, each at an index: the two products, the rows above the tile, the
convolution, the activation, the projection down and the normalisation.
-/

set_option maxRecDepth 16384

@[expose] public section

noncomputable section

namespace Cert.Kernel4Ideal.Gen

open Idealize.ShloMosaic Idealize.ShloMosaic.TcCoe Idealize.SL.Sem

/-- A choice on a row number. -/
theorem sel {α : Type} (r : Fin 512) (k : ℕ) (hk : k < 512) (a b : α) :
    Scalar.select (IntOp.cmpi .eq (BitVec.ofNat 32 r.val) (BitVec.ofNat 32 k)) a b = if r.val = k then a else b := by
  have hr : r.val < 2 ^ 32 := by omega
  rw [WordCmp.cmpi_eq_ofNat hr (by omega)]
  by_cases h : r.val = k <;> simp [h, Scalar.select]

theorem pay8_apply (v1 : FVec Ideal S1x512x1024 .f32) (v9 : FVec Ideal S1024x1408 .bf16) (r : Fin 512) (e : Fin 1408) :
    (k0_pay8 (F := Ideal) v1 v9 : FVec Ideal S512x1408 .f32) (ix2 r e) = ∑ k : Fin 1024, v1 (ix3 0 r k) * v9 (ix2 k e) := by
  unfold k0_pay8 k0_pay5
  pointwise
theorem pay17_apply (v1 : FVec Ideal S1x512x1024 .f32) (v9 : FVec Ideal S1024x1408 .bf16) (r : Fin 512) (e : Fin 1408) :
    (k0_pay17 (F := Ideal) (k0_pay5 v1) v9 : FVec Ideal S512x1408 .f32) (ix2 r e) = ∑ k : Fin 1024, v1 (ix3 0 r k) * v9 (ix2 k e) := by
  unfold k0_pay17 k0_pay5
  pointwise
theorem pay11_apply (v1 : FVec Ideal S1x512x1024 .f32) (v9 : FVec Ideal S1024x1408 .bf16) (v13 : FVec Ideal S1x8x1408 .f32) (r : Fin 512) (e : Fin 1408) :
    (k0_pay11 (F := Ideal) v1 v9 v13 : FVec Ideal S512x1408 .f32) (ix2 r e)
     = if r.val = 0 then v13 (ix3 0 7 e) else (k0_pay8 (F := Ideal) v1 v9 : FVec Ideal S512x1408 .f32) (ix2 ⟨(r.val + 512 - 1) % 512, by omega⟩ e) := by
  unfold k0_pay11 k0_pay10 k0_pay9
  generalize k0_pay8 (F := Ideal) v1 v9 = H
  pointwise
  exact sel r 0 (by decide) _ _
theorem pay12_apply (v1 : FVec Ideal S1x512x1024 .f32) (v9 : FVec Ideal S1024x1408 .bf16) (v13 : FVec Ideal S1x8x1408 .f32) (r : Fin 512) (e : Fin 1408) :
    (k0_pay12 (F := Ideal) v1 v9 v13 : FVec Ideal S512x1408 .f32) (ix2 r e)
     = if r.val = 0 then v13 (ix3 0 6 e) else if r.val = 1 then v13 (ix3 0 7 e) else (k0_pay8 (F := Ideal) v1 v9 : FVec Ideal S512x1408 .f32) (ix2 ⟨(r.val + 512 - 2) % 512, by omega⟩ e) := by
  unfold k0_pay12 k0_pay10 k0_pay9
  generalize k0_pay8 (F := Ideal) v1 v9 = H
  pointwise
  refine (sel r 0 (by decide) _ _).trans ?_
  rw [sel r 1 (by decide)]
theorem pay16_apply (v11 v24 v39 : FVec Ideal S512x1408 .f32) (v48 v50 v53 v57 : FVec Ideal S1x1408 .f32) (r : Fin 512) (e : Fin 1408) :
    (k0_pay16 (F := Ideal) v11 v24 v39 v48 v50 v53 v57 : FVec Ideal S512x1408 .f32) (ix2 r e)
     = v48 (ix2 0 e) + (v50 (ix2 0 e) * v39 (ix2 r e) + v53 (ix2 0 e) * v24 (ix2 r e) + v57 (ix2 0 e) * v11 (ix2 r e)) := by
  unfold k0_pay16
  pointwise
theorem pay27_apply (H : FVec Ideal S1024x1408 .bf16) (x : FVec Ideal S512x1024 .bf16) (v67 : FVec Ideal S1x8x1408 .f32) (v48 v50 v53 v57 : FVec Ideal S1x1408 .f32) (r : Fin 512) (e : Fin 1408) (v65 : FVec Ideal S512x1408 .f32) (h : k0_pay17 (F := Ideal) x H = v65) :
    (k0_pay27 (F := Ideal) (iota .tc S512x1 32 [0] iota_S512x1_d0_w32) v65 (k0_pay19 v67) (k0_pay20 v67) (k0_pay21 x H) (k0_pay22 (iota .tc S512x1 32 [0] iota_S512x1_d0_w32)) (k0_pay23 v67) v48 v50 v53 v57 : FVec Ideal S512x1408 .f32) (ix2 r e)
     = v48 (ix2 0 e) + (v50 (ix2 0 e) * (if r.val = 0 then v67 (ix3 0 6 e) else if r.val = 1 then v67 (ix3 0 7 e) else v65 (ix2 ⟨(r.val + 512 - 2) % 512, by omega⟩ e))
       + v53 (ix2 0 e) * (if r.val = 0 then v67 (ix3 0 7 e) else v65 (ix2 ⟨(r.val + 512 - 1) % 512, by omega⟩ e)) + v57 (ix2 0 e) * v65 (ix2 r e)) := by
  unfold k0_pay27 k0_pay21 k0_pay22 k0_pay23 k0_pay19 k0_pay20 k0_pay18
  rw [h]
  pointwise
  erw [sel r 0 (by decide), sel r 1 (by decide), sel r 0 (by decide)]
theorem pay14_apply (v : FVec Ideal S512x1408 .f32) (q : Fin 8) (e : Fin 1408) : (k0_pay14 (F := Ideal) v : FVec Ideal S1x8x1408 .f32) (ix3 0 q e) = v (ix2 ⟨504 + q.val, by omega⟩ e) := by
  unfold k0_pay14 k0_pay13
  pointwise
theorem pay25_apply (v : FVec Ideal S512x1408 .f32) (q : Fin 8) (e : Fin 1408) : (k0_pay25 (F := Ideal) v : FVec Ideal S1x8x1408 .f32) (ix3 0 q e) = v (ix2 ⟨504 + q.val, by omega⟩ e) := by
  unfold k0_pay25 k0_pay24
  pointwise
theorem pay15_apply (v : FVec Ideal S512x1408 .f32) (q : Fin 8) (e : Fin 1408) : (k0_pay15 (F := Ideal) v : FVec Ideal S1x1x8x1408 .f32) (ix4 0 0 q e) = v (ix2 ⟨504 + q.val, by omega⟩ e) := by
  unfold k0_pay15 k0_pay13
  pointwise
theorem pay26_apply (v : FVec Ideal S512x1408 .f32) (q : Fin 8) (e : Fin 1408) : (k0_pay26 (F := Ideal) v : FVec Ideal S1x1x8x1408 .f32) (ix4 0 0 q e) = v (ix2 ⟨504 + q.val, by omega⟩ e) := by
  unfold k0_pay26 k0_pay24
  pointwise
theorem pay6_apply (y) : (k0_pay6 (F := Ideal) : FVec Ideal S2x8x1408 .f32) y = 0 := by
  unfold k0_pay6
  pointwise
theorem pay7_apply (y) : (k0_pay7 (F := Ideal) : FVec Ideal S2x8x1408 .f32) y = 0 := by
  unfold k0_pay7
  pointwise

/-- The exact activation. -/
def gelu (z : EReal) : EReal := Ideal.ofBits .f32 0x3F000000#32 * z * (1 + Ideal.erf (z * Ideal.ofBits .f32 0x3F3504F3#32))

theorem pay1_apply (u g : FVec Ideal S512x1408 .f32) (w : FVec Ideal S1408x1024 .bf16) (r : Fin 512) (n : Fin 1024) :
    (k0_pay1 (F := Ideal) u g (Scalar.ofBits .f32 0x3F000000#32) w : FVec Ideal S512x1024 .f32) (ix2 r n) = ∑ e : Fin 1408, gelu (g (ix2 r e)) * u (ix2 r e) * w (ix2 e n) := by
  unfold k0_pay1 gelu
  pointwise
  rfl
theorem pay4_apply (x : FVec Ideal S1x512x1024 .f32) (a : FVec Ideal S512x1024 .f32) (w b : FVec Ideal S1x1024 .f32) (r : Fin 512) (n : Fin 1024) :
    (k0_pay4 (F := Ideal) x a w b : FVec Ideal S1x512x1024 .f32) (ix3 0 r n)
     = Cert.Merge.lnorm (fun n => Ideal.ofBits .f32 0x3F9837F0#32 * x (ix3 0 r n) + a (ix2 r n)) (fun n => w (ix2 0 n)) (fun n => b (ix2 0 n)) n := by
  unfold k0_pay4 Cert.Merge.lnorm Cert.Merge.mean
  pointwise

end Cert.Kernel4Ideal.Gen
end
-- ==== Proof.FfnCol.lean ====
module

public import proofs.«01_k».proof.Proof.Ffn

/-!
# The feed-forward, a row at a time

The layer's feed-forward written over the merged rows of a sequence, and what one point of the kernel
makes of it: a tile of 512 rows, one half of the hidden columns, and the eight rows above the tile that
the point before left in the scratch.
-/

set_option maxRecDepth 16384

@[expose] public section

noncomputable section

namespace Cert.Kernel4Ideal.Gen

open Idealize.ShloMosaic Idealize.ShloMosaic.TcCoe Idealize.SL.Sem

/-- The arguments of the feed-forward. -/
structure Args where
  X : FVec Ideal S4x4096x1024 .f32
  W : FVec Ideal S1024x5632 .f32
  CW : FVec Ideal S3x5632 .f32
  CB : FVec Ideal S5632 .f32
  WD : FVec Ideal S2816x1024 .f32
  LW : FVec Ideal S1024 .f32
  LB : FVec Ideal S1024 .f32

/-- The row `d` above row `s` of a column, nothing above the first. -/
def prev (H : Fin 4096 → EReal) (d : ℕ) (s : Fin 4096) : EReal := if h : d ≤ s.val then H ⟨s.val - d, by omega⟩ else 0

/-- The last eight rows of the tile before tile `i` of a column, nothing before the first. -/
def carry (H : Fin 4096 → EReal) (i : ℕ) (q : Fin 8) : EReal :=
  if h : 1 ≤ i ∧ i ≤ 8 then H ⟨512 * i - 8 + q.val, by omega⟩ else 0

/-- Column `n` of the projection up. -/
def Args.up (A : Args) (b : Fin 4) (n : Fin 5632) (s : Fin 4096) : EReal := ∑ k : Fin 1024, A.X (ix3 b s k) * A.W (ix2 k n)

/-- The convolution of a column over the row and the two above it. -/
def Args.cv (A : Args) (b : Fin 4) (n : Fin 5632) (s : Fin 4096) : EReal :=
  A.CB (ix1 n) + (A.CW (ix2 0 n) * prev (A.up b n) 2 s + A.CW (ix2 1 n) * prev (A.up b n) 1 s + A.CW (ix2 2 n) * A.up b n s)

/-- The gated hidden row. -/
def Args.act (A : Args) (b : Fin 4) (s : Fin 4096) (e : Fin 2816) : EReal :=
  gelu (A.cv b ⟨2816 + e.val, by omega⟩ s) * A.cv b ⟨e.val, by omega⟩ s

/-- One half of the hidden columns' share of the projection down. -/
def Args.part (A : Args) (b : Fin 4) (s : Fin 4096) (j : Fin 2) (n : Fin 1024) : EReal :=
  ∑ e : Fin 1408, A.act b s ⟨1408 * j.val + e.val, by omega⟩ * A.WD (ix2 ⟨1408 * j.val + e.val, by omega⟩ n)

/-- The feed-forward's row: the residual and the projection down, normalised. -/
def Args.row (A : Args) (b : Fin 4) (s : Fin 4096) (n : Fin 1024) : EReal :=
  Cert.Merge.lnorm (fun n => Ideal.ofBits .f32 0x3F9837F0#32 * A.X (ix3 b s n) + ∑ e : Fin 2816, A.act b s e * A.WD (ix2 e n))
    (fun n => A.LW (ix1 n)) (fun n => A.LB (ix1 n)) n

theorem Args.parts (A : Args) (b : Fin 4) (s : Fin 4096) (n : Fin 1024) :
    A.part b s 0 n + A.part b s 1 n = ∑ e : Fin 2816, A.act b s e * A.WD (ix2 e n) := by
  have := Fin.sum_univ_add (a := 1408) (b := 1408) (fun e : Fin (1408 + 1408) => A.act b s ⟨e.val, e.isLt⟩ * A.WD (ix2 ⟨e.val, e.isLt⟩ n))
  refine Eq.trans ?_ this.symm
  unfold Args.part
  refine congrArg₂ (· + ·) (Finset.sum_congr rfl fun e _ => ?_) (Finset.sum_congr rfl fun e _ => ?_)
  · have h : (⟨1408 * (0 : Fin 2).val + e.val, by omega⟩ : Fin 2816) = ⟨(Fin.castAdd 1408 e).val, (Fin.castAdd 1408 e).isLt⟩ := by
      apply Fin.ext; simp
    rw [h]
  · have h : (⟨1408 * (1 : Fin 2).val + e.val, by omega⟩ : Fin 2816) = ⟨(Fin.natAdd 1408 e).val, (Fin.natAdd 1408 e).isLt⟩ := by
      apply Fin.ext; simp [Nat.add_comm]
    rw [h]

/-- The row above, inside the tile or out of the carried rows. -/
theorem prev_one (H : Fin 4096 → EReal) (i : Fin 8) (r : Fin 512) (v : Fin 8 → EReal) (hv : ∀ q, v q = carry H i.val q)
    (h : Fin 512 → EReal) (hh : ∀ r, h r = H ⟨512 * i.val + r.val, by omega⟩) :
    (if r.val = 0 then v 7 else h ⟨(r.val + 512 - 1) % 512, by omega⟩) = prev H 1 ⟨512 * i.val + r.val, by omega⟩ := by
  unfold prev
  by_cases h0 : r.val = 0
  · rw [if_pos h0, hv]
    unfold carry
    by_cases hi : 1 ≤ i.val
    · rw [dif_pos (by omega), dif_pos (by show 1 ≤ 512 * i.val + r.val; omega)]
      congr 1; apply Fin.ext; show 512 * i.val - 8 + 7 = 512 * i.val + r.val - 1; omega
    · rw [dif_neg (by omega), dif_neg (by show ¬1 ≤ 512 * i.val + r.val; omega)]
  · rw [if_neg h0, hh, dif_pos (by show 1 ≤ 512 * i.val + r.val; omega)]
    congr 1; apply Fin.ext; show 512 * i.val + (r.val + 512 - 1) % 512 = 512 * i.val + r.val - 1; omega

/-- The row two above. -/
theorem prev_two (H : Fin 4096 → EReal) (i : Fin 8) (r : Fin 512) (v : Fin 8 → EReal) (hv : ∀ q, v q = carry H i.val q)
    (h : Fin 512 → EReal) (hh : ∀ r, h r = H ⟨512 * i.val + r.val, by omega⟩) :
    (if r.val = 0 then v 6 else if r.val = 1 then v 7 else h ⟨(r.val + 512 - 2) % 512, by omega⟩) = prev H 2 ⟨512 * i.val + r.val, by omega⟩ := by
  unfold prev
  by_cases h0 : r.val = 0
  · rw [if_pos h0, hv]
    unfold carry
    by_cases hi : 1 ≤ i.val
    · rw [dif_pos (by omega), dif_pos (by show 2 ≤ 512 * i.val + r.val; omega)]
      congr 1; apply Fin.ext; show 512 * i.val - 8 + 6 = 512 * i.val + r.val - 2; omega
    · rw [dif_neg (by omega), dif_neg (by show ¬2 ≤ 512 * i.val + r.val; omega)]
  rw [if_neg h0]
  by_cases h1 : r.val = 1
  · rw [if_pos h1, hv]
    unfold carry
    by_cases hi : 1 ≤ i.val
    · rw [dif_pos (by omega), dif_pos (by show 2 ≤ 512 * i.val + r.val; omega)]
      congr 1; apply Fin.ext; show 512 * i.val - 8 + 7 = 512 * i.val + r.val - 2; omega
    · rw [dif_neg (by omega), dif_neg (by show ¬2 ≤ 512 * i.val + r.val; omega)]
  · rw [if_neg h1, hh, dif_pos (by show 2 ≤ 512 * i.val + r.val; omega)]
    congr 1; apply Fin.ext; show 512 * i.val + (r.val + 512 - 2) % 512 = 512 * i.val + r.val - 2; omega

/-- The blocks of a point, read off the arguments. -/
structure Blk (A : Args) (b : Fin 4) (i : Fin 8) (j : Fin 2) (x0 : FVec Ideal S1x512x1024 .f32) (x1 x2 : FVec Ideal S1024x1408 .bf16)
    (x3 x4 : FVec Ideal S3x1408 .f32) (x5 x6 : FVec Ideal S1x1408 .f32) (x7 : FVec Ideal S1408x1024 .bf16) (x8 x9 : FVec Ideal S1x1024 .f32) : Prop where
  h0 : ∀ (r : Fin 512) (k : Fin 1024), x0 (ix3 0 r k) = A.X (ix3 b ⟨512 * i.val + r.val, by omega⟩ k)
  h1 : ∀ (k : Fin 1024) (e : Fin 1408), x1 (ix2 k e) = A.W (ix2 k ⟨1408 * j.val + e.val, by omega⟩)
  h2 : ∀ (k : Fin 1024) (e : Fin 1408), x2 (ix2 k e) = A.W (ix2 k ⟨2816 + (1408 * j.val + e.val), by omega⟩)
  h3 : ∀ (k : Fin 3) (e : Fin 1408), x3 (ix2 k e) = A.CW (ix2 k ⟨1408 * j.val + e.val, by omega⟩)
  h4 : ∀ (k : Fin 3) (e : Fin 1408), x4 (ix2 k e) = A.CW (ix2 k ⟨2816 + (1408 * j.val + e.val), by omega⟩)
  h5 : ∀ (e : Fin 1408), x5 (ix2 0 e) = A.CB (ix1 ⟨1408 * j.val + e.val, by omega⟩)
  h6 : ∀ (e : Fin 1408), x6 (ix2 0 e) = A.CB (ix1 ⟨2816 + (1408 * j.val + e.val), by omega⟩)
  h7 : ∀ (e : Fin 1408) (n : Fin 1024), x7 (ix2 e n) = A.WD (ix2 ⟨1408 * j.val + e.val, by omega⟩ n)
  h8 : ∀ (n : Fin 1024), x8 (ix2 0 n) = A.LW (ix1 n)
  h9 : ∀ (n : Fin 1024), x9 (ix2 0 n) = A.LB (ix1 n)

/-- A row of the convolution's weights. -/
theorem tap0 (x : FVec Ideal S3x1408 .f32) (e : Fin 1408) :
    View.ld (Val := Elt Ideal) (e' := .f32) x (Rect.unit (s := S3x1408) ![0, 0] ![1, 1408] inb_S3x1408_S1x1408_0_0) (ix2 0 e) = x (ix2 0 e) :=
  View.ld_unit_apply_of (Val := Elt Ideal) (e := .f32) x ![0, 0] ![1, 1408] inb_S3x1408_S1x1408_0_0 (ix2 0 e) (ix2 0 e) (by intro k; fin_cases k <;> simp [ix2])

theorem tap1 (x : FVec Ideal S3x1408 .f32) (e : Fin 1408) :
    View.ld (Val := Elt Ideal) (e' := .f32) x (Rect.unit (s := S3x1408) ![1, 0] ![1, 1408] inb_S3x1408_S1x1408_1_0) (ix2 0 e) = x (ix2 1 e) :=
  View.ld_unit_apply_of (Val := Elt Ideal) (e := .f32) x ![1, 0] ![1, 1408] inb_S3x1408_S1x1408_1_0 (ix2 0 e) (ix2 1 e) (by intro k; fin_cases k <;> simp [ix2])

theorem tap2 (x : FVec Ideal S3x1408 .f32) (e : Fin 1408) :
    View.ld (Val := Elt Ideal) (e' := .f32) x (Rect.unit (s := S3x1408) ![2, 0] ![1, 1408] inb_S3x1408_S1x1408_2_0) (ix2 0 e) = x (ix2 2 e) :=
  View.ld_unit_apply_of (Val := Elt Ideal) (e := .f32) x ![2, 0] ![1, 1408] inb_S3x1408_S1x1408_2_0 (ix2 0 e) (ix2 2 e) (by intro k; fin_cases k <;> simp [ix2])

section
variable {A : Args} {b : Fin 4} {i : Fin 8} {j : Fin 2} {x0 : FVec Ideal S1x512x1024 .f32} {x1 x2 : FVec Ideal S1024x1408 .bf16}
    {x3 x4 : FVec Ideal S3x1408 .f32} {x5 x6 : FVec Ideal S1x1408 .f32} {x7 : FVec Ideal S1408x1024 .bf16} {x8 x9 : FVec Ideal S1x1024 .f32}
    (B : Blk A b i j x0 x1 x2 x3 x4 x5 x6 x7 x8 x9)

include B in
theorem Blk.hu (r : Fin 512) (e : Fin 1408) : (k0_pay8 (F := Ideal) x0 x1 : FVec Ideal S512x1408 .f32) (ix2 r e)
    = A.up b ⟨1408 * j.val + e.val, by omega⟩ ⟨512 * i.val + r.val, by omega⟩ := by
  rw [pay8_apply]
  exact Finset.sum_congr rfl fun k _ => by rw [B.h0, B.h1]

include B in
theorem Blk.hg (r : Fin 512) (e : Fin 1408) : (k0_pay17 (F := Ideal) (k0_pay5 x0) x2 : FVec Ideal S512x1408 .f32) (ix2 r e)
    = A.up b ⟨2816 + (1408 * j.val + e.val), by omega⟩ ⟨512 * i.val + r.val, by omega⟩ := by
  rw [pay17_apply]
  exact Finset.sum_congr rfl fun k _ => by rw [B.h0, B.h2]

/-- The convolution of a column of the first half, given the carried rows. -/
abbrev convu (x0 : FVec Ideal S1x512x1024 .f32) (x1 : FVec Ideal S1024x1408 .bf16) (x3 : FVec Ideal S3x1408 .f32) (x5 : FVec Ideal S1x1408 .f32)
    (v : FVec Ideal S1x8x1408 .f32) : FVec Ideal S512x1408 .f32 :=
  k0_pay16 (F := Ideal) (k0_pay8 x0 x1) (k0_pay11 x0 x1 v) (k0_pay12 x0 x1 v) x5
    (View.ld (Val := Elt Ideal) (e' := .f32) x3 (Rect.unit (s := S3x1408) ![0, 0] ![1, 1408] inb_S3x1408_S1x1408_0_0))
    (View.ld (Val := Elt Ideal) (e' := .f32) x3 (Rect.unit (s := S3x1408) ![1, 0] ![1, 1408] inb_S3x1408_S1x1408_1_0))
    (View.ld (Val := Elt Ideal) (e' := .f32) x3 (Rect.unit (s := S3x1408) ![2, 0] ![1, 1408] inb_S3x1408_S1x1408_2_0))

/-- The convolution of a column of the second half. -/
abbrev convg (x0 : FVec Ideal S1x512x1024 .f32) (x2 : FVec Ideal S1024x1408 .bf16) (x4 : FVec Ideal S3x1408 .f32) (x6 : FVec Ideal S1x1408 .f32)
    (v : FVec Ideal S1x8x1408 .f32) : FVec Ideal S512x1408 .f32 :=
  k0_pay27 (F := Ideal) (iota .tc S512x1 32 [0] iota_S512x1_d0_w32) (k0_pay17 (k0_pay5 x0) x2) (k0_pay19 v) (k0_pay20 v) (k0_pay21 (k0_pay5 x0) x2)
    (k0_pay22 (iota .tc S512x1 32 [0] iota_S512x1_d0_w32)) (k0_pay23 v) x6
    (View.ld (Val := Elt Ideal) (e' := .f32) x4 (Rect.unit (s := S3x1408) ![0, 0] ![1, 1408] inb_S3x1408_S1x1408_0_0))
    (View.ld (Val := Elt Ideal) (e' := .f32) x4 (Rect.unit (s := S3x1408) ![1, 0] ![1, 1408] inb_S3x1408_S1x1408_1_0))
    (View.ld (Val := Elt Ideal) (e' := .f32) x4 (Rect.unit (s := S3x1408) ![2, 0] ![1, 1408] inb_S3x1408_S1x1408_2_0))

include B in
theorem Blk.convu (v : FVec Ideal S1x8x1408 .f32) (r : Fin 512) (e : Fin 1408)
    (hv : ∀ q, v (ix3 0 q e) = carry (A.up b ⟨1408 * j.val + e.val, by omega⟩) i.val q) :
    convu x0 x1 x3 x5 v (ix2 r e) = A.cv b ⟨1408 * j.val + e.val, by omega⟩ ⟨512 * i.val + r.val, by omega⟩ := by
  unfold Gen.convu Args.cv
  rw [pay16_apply, pay11_apply, pay12_apply, tap0 x3 e, tap1 x3 e, tap2 x3 e, B.h5, B.h3, B.h3, B.h3]
  rw [prev_one (A.up b ⟨1408 * j.val + e.val, by omega⟩) i r (fun q => v (ix3 0 q e)) hv
      (fun r => (k0_pay8 (F := Ideal) x0 x1 : FVec Ideal S512x1408 .f32) (ix2 r e)) (fun r => B.hu r e),
    prev_two (A.up b ⟨1408 * j.val + e.val, by omega⟩) i r (fun q => v (ix3 0 q e)) hv
      (fun r => (k0_pay8 (F := Ideal) x0 x1 : FVec Ideal S512x1408 .f32) (ix2 r e)) (fun r => B.hu r e), B.hu]

include B in
theorem Blk.convg (v : FVec Ideal S1x8x1408 .f32) (r : Fin 512) (e : Fin 1408)
    (hv : ∀ q, v (ix3 0 q e) = carry (A.up b ⟨2816 + (1408 * j.val + e.val), by omega⟩) i.val q) :
    convg x0 x2 x4 x6 v (ix2 r e) = A.cv b ⟨2816 + (1408 * j.val + e.val), by omega⟩ ⟨512 * i.val + r.val, by omega⟩ := by
  unfold Gen.convg Args.cv
  rw [pay27_apply _ _ _ _ _ _ _ _ _ _ rfl, tap0 x4 e, tap1 x4 e, tap2 x4 e, B.h6, B.h4, B.h4, B.h4]
  rw [prev_one (A.up b ⟨2816 + (1408 * j.val + e.val), by omega⟩) i r (fun q => v (ix3 0 q e)) hv
      (fun r => (k0_pay17 (F := Ideal) (k0_pay5 x0) x2 : FVec Ideal S512x1408 .f32) (ix2 r e)) (fun r => B.hg r e),
    prev_two (A.up b ⟨2816 + (1408 * j.val + e.val), by omega⟩) i r (fun q => v (ix3 0 q e)) hv
      (fun r => (k0_pay17 (F := Ideal) (k0_pay5 x0) x2 : FVec Ideal S512x1408 .f32) (ix2 r e)) (fun r => B.hg r e), B.hg]

include B in
/-- The point's share of the projection down. -/
theorem Blk.part (u g : FVec Ideal S1x8x1408 .f32)
    (hu : ∀ q (e : Fin 1408), u (ix3 0 q e) = carry (A.up b ⟨1408 * j.val + e.val, by omega⟩) i.val q)
    (hg : ∀ q (e : Fin 1408), g (ix3 0 q e) = carry (A.up b ⟨2816 + (1408 * j.val + e.val), by omega⟩) i.val q) (r : Fin 512) (n : Fin 1024) :
    (k0_pay1 (F := Ideal) (Gen.convu x0 x1 x3 x5 u) (Gen.convg x0 x2 x4 x6 g) (Scalar.ofBits .f32 0x3F000000#32) x7 : FVec Ideal S512x1024 .f32) (ix2 r n)
      = A.part b ⟨512 * i.val + r.val, by omega⟩ j n := by
  rw [pay1_apply]
  unfold Args.part Args.act
  refine Finset.sum_congr rfl fun e _ => ?_
  rw [B.convu u r e fun q => hu q e, B.convg g r e fun q => hg q e, B.h7]

include B in
/-- The row, from both halves' shares. -/
theorem Blk.row (a : FVec Ideal S512x1024 .f32) (r : Fin 512)
    (ha : ∀ n, a (ix2 r n) = A.part b ⟨512 * i.val + r.val, by omega⟩ 0 n + A.part b ⟨512 * i.val + r.val, by omega⟩ 1 n) (n : Fin 1024) :
    (k0_pay4 (F := Ideal) x0 a x8 x9 : FVec Ideal S1x512x1024 .f32) (ix3 0 r n) = A.row b ⟨512 * i.val + r.val, by omega⟩ n := by
  rw [pay4_apply]
  unfold Args.row
  have e0 : (fun n => Ideal.ofBits .f32 0x3F9837F0#32 * (x0 (ix3 0 r n) : EReal) + a (ix2 r n)) = _ := funext fun n => by rw [B.h0, ha, A.parts]
  have e1 : (fun n => (x8 (ix2 0 n) : EReal)) = _ := funext fun n => B.h8 n
  have e2 : (fun n => (x9 (ix2 0 n) : EReal)) = _ := funext fun n => B.h9 n
  exact congrFun (congr (congr (congrArg Cert.Merge.lnorm e0) e1) e2) n

end

end Cert.Kernel4Ideal.Gen
end
-- ==== Proof.FfnCase.lean ====
module

public import proofs.«01_k».proof.Proof.FfnCol

/-!
# What a point of the feed-forward leaves

The three kinds of points: the first of a sequence, which zeroes the carried rows; the first half of the
hidden columns at a later tile; the second half. Each leaves its share, the last rows of the tile in its
slot of the scratch, and the tile's results.
-/

set_option maxRecDepth 16384

@[expose] public section

noncomputable section

namespace Cert.Kernel4Ideal.Gen

open Idealize.ShloMosaic Idealize.ShloMosaic.TcCoe Idealize.SL.Sem

/-- A slot of the carried rows, loaded. -/
theorem slot_ld (xs : FVec Ideal S2x8x1408 .f32) (off : Fin 3 → ℕ) (j : Fin 2) (hoff : off = ![j.val, 0, 0]) (inb : ∀ a, off a + S1x8x1408.size a ≤ S2x8x1408.size a) (q : Fin 8) (e : Fin 1408) :
    View.ld (Val := Elt Ideal) (e' := .f32) xs (Rect.unit (s := S2x8x1408) off S1x8x1408.size inb) (ix3 0 q e) = xs (ix3 j q e) :=
  View.ld_unit_apply_of (Val := Elt Ideal) (e := .f32) xs off S1x8x1408.size inb (ix3 0 q e) (ix3 j q e) (by subst hoff; intro k; fin_cases k <;> simp [ix3])

/-- A slot stored: the other slot keeps what it held. -/
theorem slot_rd (v : View sig .tc .vmem S2x8x1408 .f32) (f : BufTy.Contents (Elt Ideal) v.ty) (L : List (View.Piece (Elt Ideal) S2x8x1408 .f32)) (j : Fin 2)
    (inb : ∀ a : Fin 3, (![j.val, 0, 0] : Fin 3 → ℕ) a + (![1, 8, 1408] : Fin 3 → ℕ) a ≤ S2x8x1408.size a) (P : Vec Ideal S1x8x1408 .f32) (p : Fin 2) (q : Fin 8) (e : Fin 1408) :
    v.read (Elt Ideal) (v.writes (Elt Ideal) f ((⟨Rect.unit (s := S2x8x1408) ![j.val, 0, 0] ![1, 8, 1408] inb, P⟩ : View.Piece (Elt Ideal) S2x8x1408 .f32) :: L)) (ix3 p q e)
      = if p = j then P (ix3 0 q e) else v.read (Elt Ideal) (v.writes (Elt Ideal) f L) (ix3 p q e) := by
  by_cases h : p = j
  · rw [if_pos h]
    subst h
    exact View.read_writes_cons_unit_of_mem _ f inb P L _ (ix3 0 q e) rfl (by intro a; fin_cases a <;> simp [ix3])
  · rw [if_neg h]
    exact View.read_writes_cons_unit_of_not_mem _ f inb P L _ rfl 0 (by
      have : p.val ≠ j.val := fun h' => h (Fin.ext h')
      show p.val < j.val ∨ j.val + 1 ≤ p.val
      omega)

theorem slot_st (arg : Memref sig .tc .vmem S2x8x1408 .f32) (harg : arg.IsWhole) (xs : Vec Ideal S2x8x1408 .f32) (off : Fin 3 → ℕ) (j : Fin 2) (hoff : off = ![j.val, 0, 0])
    (inb : ∀ a : Fin 3, off a + (![1, 8, 1408] : Fin 3 → ℕ) a ≤ S2x8x1408.size a) (P : Vec Ideal S1x8x1408 .f32) (p : Fin 2) (q : Fin 8) (e : Fin 1408) :
    arg.view.read (Elt Ideal) (arg.view.writes (Elt Ideal) (harg.unread xs) [⟨Rect.unit (s := S2x8x1408) off ![1, 8, 1408] inb, P⟩]) (ix3 p q e)
      = if p = j then P (ix3 0 q e) else xs (ix3 p q e) := by
  subst hoff
  refine (slot_rd _ _ [] j inb P p q e).trans ?_
  rw [View.writes_nil, harg.read_unread]

/-- A slot stored over the zeroed slots. -/
theorem slot_canon (Z : Vec Ideal S2x8x1408 .f32) (off : Fin 3 → ℕ) (j : Fin 2) (hoff : off = ![j.val, 0, 0])
    (inb : ∀ a : Fin 3, off a + (![1, 8, 1408] : Fin 3 → ℕ) a ≤ S2x8x1408.size a) (P : Vec Ideal S1x8x1408 .f32) (p : Fin 2) (q : Fin 8) (e : Fin 1408) :
    View.canon (Val := Elt Ideal) (s := S2x8x1408) (e := .f32) [⟨Rect.unit (s := S2x8x1408) off ![1, 8, 1408] inb, P⟩, ⟨Rect.unit (s := S2x8x1408) ![0, 0, 0] ![2, 8, 1408] inb_S2x8x1408_S2x8x1408_0_0_0, Z⟩] (ix3 p q e)
      = if p = j then P (ix3 0 q e) else Z (ix3 p q e) := by
  subst hoff
  by_cases h : p = j
  · rw [if_pos h]
    subst h
    have e' : (Rect.unit (s := S2x8x1408) ![p.val, 0, 0] ![1, 8, 1408] inb).emb (ix3 0 q e) = ix3 p q e := funext fun a => Fin.ext (by
      refine (Rect.idx_unit_val (s := S2x8x1408) ![p.val, 0, 0] ![1, 8, 1408] inb (ix3 0 q e) a).trans ?_
      fin_cases a <;> simp [ix3])
    refine (congrArg (View.canon (Val := Elt Ideal) (s := S2x8x1408) (e := .f32) _) e'.symm).trans ?_
    exact View.canon_cons_emb (Val := Elt Ideal) (Rect.unit (s := S2x8x1408) ![p.val, 0, 0] ![1, 8, 1408] inb) P _ (ix3 0 q e)
  · rw [if_neg h]
    refine (View.canon_cons_of_not_mem _ _ ?_).trans (congrFun (View.canon_unit_zero (by funext a; fin_cases a <;> rfl) _ Z) (ix3 p q e))
    intro hm
    have := (Rect.mem_set_unit (s := S2x8x1408) (off := ![j.val, 0, 0]) (size := ![1, 8, 1408]) (inb := inb)).mp hm 0
    have h' : p.val ≠ j.val := fun h' => h (Fin.ext h')
    have h1 : j.val ≤ p.val := this.1
    have h2 : p.val < j.val + 1 := this.2
    omega

section
variable {c : Dev nD} {i : grid0.Coords} {arg3 : Memref sig .tc .vmem S1x512x1024 .f32} {harg3 : arg3.IsWhole} {arg4 : Memref sig .tc .vmem S1024x1408 .bf16} {harg4 : arg4.IsWhole} {arg5 : Memref sig .tc .vmem S1024x1408 .bf16} {harg5 : arg5.IsWhole} {arg6 : Memref sig .tc .vmem S3x1408 .f32} {harg6 : arg6.IsWhole} {arg7 : Memref sig .tc .vmem S3x1408 .f32} {harg7 : arg7.IsWhole} {arg8 : Memref sig .tc .vmem S1x1408 .f32} {harg8 : arg8.IsWhole} {arg9 : Memref sig .tc .vmem S1x1408 .f32} {harg9 : arg9.IsWhole} {arg10 : Memref sig .tc .vmem S1408x1024 .bf16} {harg10 : arg10.IsWhole} {arg11 : Memref sig .tc .vmem S1x1024 .f32} {harg11 : arg11.IsWhole} {arg12 : Memref sig .tc .vmem S1x1024 .f32} {harg12 : arg12.IsWhole} {arg13 : Memref sig .tc .vmem S1x512x1024 .f32} {harg13 : arg13.IsWhole} {arg14 : Memref sig .tc .vmem S1x1x8x1408 .f32} {harg14 : arg14.IsWhole} {arg15 : Memref sig .tc .vmem S1x1x8x1408 .f32} {harg15 : arg15.IsWhole} {arg16 : Memref sig .tc .vmem S512x1024 .f32} {harg16 : arg16.IsWhole} {arg17 : Memref sig .tc .vmem S2x8x1408 .f32} {harg17 : arg17.IsWhole} {arg18 : Memref sig .tc .vmem S2x8x1408 .f32} {harg18 : arg18.IsWhole} {x0 : FVec Ideal S1x512x1024 .f32} {x1 x2 : FVec Ideal S1024x1408 .bf16} {x3 x4 : FVec Ideal S3x1408 .f32} {x5 x6 : FVec Ideal S1x1408 .f32} {x7 : FVec Ideal S1408x1024 .bf16} {x8 x9 : FVec Ideal S1x1024 .f32} {xs0 : FVec Ideal S512x1024 .f32} {xs1 xs2 : FVec Ideal S2x8x1408 .f32}

theorem sout0_A_0_eq {hc0 : cond0_0 i} {hc1 : cond0_1 i} {hc2 : ¬cond0_2 i} {hc3 : ¬cond0_3 i} (y : S512x1024.Idx) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 y = k0_pay2 (F := Ideal) (convu x0 x1 x3 x5 (View.ld (Val := Elt Ideal) (e' := .f32) (k0_pay6 (F := Ideal)) (Rect.unit (s := S2x8x1408) (k0_off1 i) S1x8x1408.size (k0_off1_inb i)))) (convg x0 x2 x4 x6 (View.ld (Val := Elt Ideal) (e' := .f32) (k0_pay7 (F := Ideal)) (Rect.unit (s := S2x8x1408) (k0_off1 i) S1x8x1408.size (k0_off1_inb i)))) (Scalar.ofBits .f32 0x3F000000#32) x7 y := by
  frame_out

theorem out0_A_11_eq {hc0 : cond0_0 i} {hc1 : cond0_1 i} {hc2 : ¬cond0_2 i} {hc3 : ¬cond0_3 i} (y : S1x1x8x1408.Idx) :
    out0_A_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 y = k0_pay15 (F := Ideal) (k0_pay8 x0 x1) y := by
  frame_out

theorem out0_A_12_eq {hc0 : cond0_0 i} {hc1 : cond0_1 i} {hc2 : ¬cond0_2 i} {hc3 : ¬cond0_3 i} (y : S1x1x8x1408.Idx) :
    out0_A_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 y = k0_pay26 (F := Ideal) (k0_pay17 (k0_pay5 x0) x2) y := by
  frame_out

theorem sout0_B_0_eq {hc0 : ¬cond0_0 i} {hc1 : ¬cond0_1 i} {hc2 : cond0_2 i} {hc3 : cond0_3 i} (y : S512x1024.Idx) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 y = k0_pay3 (F := Ideal) (convu x0 x1 x3 x5 (View.ld (Val := Elt Ideal) (e' := .f32) xs1 (Rect.unit (s := S2x8x1408) (k0_off1 i) S1x8x1408.size (k0_off1_inb i)))) (convg x0 x2 x4 x6 (View.ld (Val := Elt Ideal) (e' := .f32) xs2 (Rect.unit (s := S2x8x1408) (k0_off1 i) S1x8x1408.size (k0_off1_inb i)))) (Scalar.ofBits .f32 0x3F000000#32) x7 xs0 y := by
  frame_out

theorem out0_B_10_eq {hc0 : ¬cond0_0 i} {hc1 : ¬cond0_1 i} {hc2 : cond0_2 i} {hc3 : cond0_3 i} (y : S1x512x1024.Idx) :
    out0_B_10 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 y = k0_pay4 (F := Ideal) x0 (k0_pay3 (F := Ideal) (convu x0 x1 x3 x5 (View.ld (Val := Elt Ideal) (e' := .f32) xs1 (Rect.unit (s := S2x8x1408) (k0_off1 i) S1x8x1408.size (k0_off1_inb i)))) (convg x0 x2 x4 x6 (View.ld (Val := Elt Ideal) (e' := .f32) xs2 (Rect.unit (s := S2x8x1408) (k0_off1 i) S1x8x1408.size (k0_off1_inb i)))) (Scalar.ofBits .f32 0x3F000000#32) x7 xs0) x8 x9 y := by
  frame_out

theorem out0_B_11_eq {hc0 : ¬cond0_0 i} {hc1 : ¬cond0_1 i} {hc2 : cond0_2 i} {hc3 : cond0_3 i} (y : S1x1x8x1408.Idx) :
    out0_B_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 y = k0_pay15 (F := Ideal) (k0_pay8 x0 x1) y := by
  frame_out

theorem out0_B_12_eq {hc0 : ¬cond0_0 i} {hc1 : ¬cond0_1 i} {hc2 : cond0_2 i} {hc3 : cond0_3 i} (y : S1x1x8x1408.Idx) :
    out0_B_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 y = k0_pay26 (F := Ideal) (k0_pay17 (k0_pay5 x0) x2) y := by
  frame_out

theorem sout0_C_0_eq {hc0 : ¬cond0_0 i} {hc1 : cond0_1 i} {hc2 : ¬cond0_2 i} {hc3 : ¬cond0_3 i} (y : S512x1024.Idx) :
    sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs1 xs2 y = k0_pay2 (F := Ideal) (convu x0 x1 x3 x5 (View.ld (Val := Elt Ideal) (e' := .f32) xs1 (Rect.unit (s := S2x8x1408) (k0_off1 i) S1x8x1408.size (k0_off1_inb i)))) (convg x0 x2 x4 x6 (View.ld (Val := Elt Ideal) (e' := .f32) xs2 (Rect.unit (s := S2x8x1408) (k0_off1 i) S1x8x1408.size (k0_off1_inb i)))) (Scalar.ofBits .f32 0x3F000000#32) x7 y := by
  frame_out

theorem out0_C_11_eq {hc0 : ¬cond0_0 i} {hc1 : cond0_1 i} {hc2 : ¬cond0_2 i} {hc3 : ¬cond0_3 i} (y : S1x1x8x1408.Idx) :
    out0_C_11 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs1 xs2 y = k0_pay15 (F := Ideal) (k0_pay8 x0 x1) y := by
  frame_out

theorem out0_C_12_eq {hc0 : ¬cond0_0 i} {hc1 : cond0_1 i} {hc2 : ¬cond0_2 i} {hc3 : ¬cond0_3 i} (y : S1x1x8x1408.Idx) :
    out0_C_12 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs1 xs2 y = k0_pay26 (F := Ideal) (k0_pay17 (k0_pay5 x0) x2) y := by
  frame_out

theorem sout0_A_1_eq {hc0 : cond0_0 i} {hc1 : cond0_1 i} {hc2 : ¬cond0_2 i} {hc3 : ¬cond0_3 i} (j : Fin 2) (hoff : k0_off1 i = ![j.val, 0, 0]) (p : Fin 2) (q : Fin 8) (e : Fin 1408) :
    sout0_A_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 (ix3 p q e) = if p = j then (k0_pay14 (F := Ideal) (k0_pay8 x0 x1) : FVec Ideal S1x8x1408 .f32) (ix3 0 q e) else (k0_pay6 (F := Ideal) : FVec Ideal S2x8x1408 .f32) (ix3 p q e) := by
  frame_out
  exact slot_canon _ _ j hoff _ _ p q e

theorem sout0_A_2_eq {hc0 : cond0_0 i} {hc1 : cond0_1 i} {hc2 : ¬cond0_2 i} {hc3 : ¬cond0_3 i} (j : Fin 2) (hoff : k0_off1 i = ![j.val, 0, 0]) (p : Fin 2) (q : Fin 8) (e : Fin 1408) :
    sout0_A_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 (ix3 p q e) = if p = j then (k0_pay25 (F := Ideal) (k0_pay17 (k0_pay5 x0) x2) : FVec Ideal S1x8x1408 .f32) (ix3 0 q e) else (k0_pay7 (F := Ideal) : FVec Ideal S2x8x1408 .f32) (ix3 p q e) := by
  frame_out
  exact slot_canon _ _ j hoff _ _ p q e

theorem sout0_B_1_eq {hc0 : ¬cond0_0 i} {hc1 : ¬cond0_1 i} {hc2 : cond0_2 i} {hc3 : cond0_3 i} (j : Fin 2) (hoff : k0_off1 i = ![j.val, 0, 0]) (p : Fin 2) (q : Fin 8) (e : Fin 1408) :
    sout0_B_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 (ix3 p q e) = if p = j then (k0_pay14 (F := Ideal) (k0_pay8 x0 x1) : FVec Ideal S1x8x1408 .f32) (ix3 0 q e) else (xs1 : FVec Ideal S2x8x1408 .f32) (ix3 p q e) := by
  frame_out
  exact slot_st _ _ _ _ j hoff _ _ p q e

theorem sout0_B_2_eq {hc0 : ¬cond0_0 i} {hc1 : ¬cond0_1 i} {hc2 : cond0_2 i} {hc3 : cond0_3 i} (j : Fin 2) (hoff : k0_off1 i = ![j.val, 0, 0]) (p : Fin 2) (q : Fin 8) (e : Fin 1408) :
    sout0_B_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs0 xs1 xs2 (ix3 p q e) = if p = j then (k0_pay25 (F := Ideal) (k0_pay17 (k0_pay5 x0) x2) : FVec Ideal S1x8x1408 .f32) (ix3 0 q e) else (xs2 : FVec Ideal S2x8x1408 .f32) (ix3 p q e) := by
  frame_out
  exact slot_st _ _ _ _ j hoff _ _ p q e

theorem sout0_C_1_eq {hc0 : ¬cond0_0 i} {hc1 : cond0_1 i} {hc2 : ¬cond0_2 i} {hc3 : ¬cond0_3 i} (j : Fin 2) (hoff : k0_off1 i = ![j.val, 0, 0]) (p : Fin 2) (q : Fin 8) (e : Fin 1408) :
    sout0_C_1 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs1 xs2 (ix3 p q e) = if p = j then (k0_pay14 (F := Ideal) (k0_pay8 x0 x1) : FVec Ideal S1x8x1408 .f32) (ix3 0 q e) else (xs1 : FVec Ideal S2x8x1408 .f32) (ix3 p q e) := by
  frame_out
  exact slot_st _ _ _ _ j hoff _ _ p q e

theorem sout0_C_2_eq {hc0 : ¬cond0_0 i} {hc1 : cond0_1 i} {hc2 : ¬cond0_2 i} {hc3 : ¬cond0_3 i} (j : Fin 2) (hoff : k0_off1 i = ![j.val, 0, 0]) (p : Fin 2) (q : Fin 8) (e : Fin 1408) :
    sout0_C_2 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 hc3 x0 x1 x2 x3 x4 x5 x6 x7 x8 x9 xs1 xs2 (ix3 p q e) = if p = j then (k0_pay25 (F := Ideal) (k0_pay17 (k0_pay5 x0) x2) : FVec Ideal S1x8x1408 .f32) (ix3 0 q e) else (xs2 : FVec Ideal S2x8x1408 .f32) (ix3 p q e) := by
  frame_out
  exact slot_st _ _ _ _ j hoff _ _ p q e

end

end Cert.Kernel4Ideal.Gen
end
-- ==== Proof.FfnInv.lean ====
module

public import proofs.«01_k».proof.Proof.FfnCase

/-!
# The rows carried from tile to tile

By induction over the points: the scratch holds, for each half of the hidden columns, the last rows of
the tile that half was last computed at, so the convolution of the next tile sees the rows above it.
-/

set_option maxRecDepth 16384

@[expose] public section

noncomputable section

namespace Cert.Kernel4Ideal.Gen

open Idealize.ShloMosaic Idealize.ShloMosaic.TcCoe Idealize.SL.Sem

/-- The scratch before a point: the slots of the halves already done at this tile are ahead. -/
def Pre (A : Args) (b : Fin 4) (i : ℕ) (j : ℕ) (u g : FVec Ideal S2x8x1408 .f32) : Prop :=
  (∀ (p : Fin 2) (q : Fin 8) (e : Fin 1408), u (ix3 p q e) = carry (A.up b ⟨1408 * p.val + e.val, by omega⟩) (if p.val < j then i + 1 else i) q)
  ∧ (∀ (p : Fin 2) (q : Fin 8) (e : Fin 1408), g (ix3 p q e) = carry (A.up b ⟨2816 + (1408 * p.val + e.val), by omega⟩) (if p.val < j then i + 1 else i) q)

/-- What a point leaves. -/
def Post (A : Args) (b : Fin 4) (i : Fin 8) (j : Fin 2)
    (o : FVec Ideal S1x512x1024 .f32 × FVec Ideal S1x1x8x1408 .f32 × FVec Ideal S1x1x8x1408 .f32 × FVec Ideal S512x1024 .f32 × FVec Ideal S2x8x1408 .f32 × FVec Ideal S2x8x1408 .f32) : Prop :=
  (j.val = 1 → ∀ (r : Fin 512) (n : Fin 1024), o.1 (ix3 0 r n) = A.row b ⟨512 * i.val + r.val, by omega⟩ n)
  ∧ (∀ (q : Fin 8) (e : Fin 1408), o.2.1 (ix4 0 0 q e) = A.up b ⟨1408 * j.val + e.val, by omega⟩ ⟨512 * i.val + (504 + q.val), by omega⟩)
  ∧ (∀ (q : Fin 8) (e : Fin 1408), o.2.2.1 (ix4 0 0 q e) = A.up b ⟨2816 + (1408 * j.val + e.val), by omega⟩ ⟨512 * i.val + (504 + q.val), by omega⟩)
  ∧ (j.val = 0 → ∀ (r : Fin 512) (n : Fin 1024), o.2.2.2.1 (ix2 r n) = A.part b ⟨512 * i.val + r.val, by omega⟩ 0 n)
  ∧ Pre A b i.val (j.val + 1) o.2.2.2.2.1 o.2.2.2.2.2

section
variable {A : Args} {b : Fin 4} {i : Fin 8} {j : Fin 2} {x0 : FVec Ideal S1x512x1024 .f32} {x1 x2 : FVec Ideal S1024x1408 .bf16}
    {x3 x4 : FVec Ideal S3x1408 .f32} {x5 x6 : FVec Ideal S1x1408 .f32} {x7 : FVec Ideal S1408x1024 .bf16} {x8 x9 : FVec Ideal S1x1024 .f32}
    (B : Blk A b i j x0 x1 x2 x3 x4 x5 x6 x7 x8 x9)

theorem carry_succ (H : Fin 4096 → EReal) (i : Fin 8) (q : Fin 8) : carry H (i.val + 1) q = H ⟨512 * i.val + (504 + q.val), by omega⟩ := by
  unfold carry
  rw [dif_pos (by omega)]
  congr 1; apply Fin.ext; show 512 * (i.val + 1) - 8 + q.val = 512 * i.val + (504 + q.val); omega

theorem carry_zero (H : Fin 4096 → EReal) (q : Fin 8) : carry H 0 q = 0 := by
  unfold carry
  rw [dif_neg (by omega)]

include B in
theorem Blk.post (u g u' g' : FVec Ideal S2x8x1408 .f32) (hp : Pre A b i.val j.val u g)
    (hu : ∀ (p : Fin 2) (q : Fin 8) (e : Fin 1408), u' (ix3 p q e) = if p = j then (k0_pay14 (F := Ideal) (k0_pay8 x0 x1) : FVec Ideal S1x8x1408 .f32) (ix3 0 q e) else u (ix3 p q e))
    (hg : ∀ (p : Fin 2) (q : Fin 8) (e : Fin 1408), g' (ix3 p q e) = if p = j then (k0_pay25 (F := Ideal) (k0_pay17 (k0_pay5 x0) x2) : FVec Ideal S1x8x1408 .f32) (ix3 0 q e) else g (ix3 p q e)) :
    Pre A b i.val (j.val + 1) u' g' := by
  constructor
  · intro p q e
    rw [hu]
    by_cases h : p = j
    · subst h
      rw [if_pos rfl, if_pos (by omega), pay14_apply, B.hu, carry_succ]
    · have : p.val ≠ j.val := fun h' => h (Fin.ext h')
      rw [if_neg h, hp.1]
      by_cases h1 : p.val < j.val
      · rw [if_pos h1, if_pos (by omega)]
      · rw [if_neg h1, if_neg (by omega)]
  · intro p q e
    rw [hg]
    by_cases h : p = j
    · subst h
      rw [if_pos rfl, if_pos (by omega), pay25_apply, B.hg, carry_succ]
    · have : p.val ≠ j.val := fun h' => h (Fin.ext h')
      rw [if_neg h, hp.2]
      by_cases h1 : p.val < j.val
      · rw [if_pos h1, if_pos (by omega)]
      · rw [if_neg h1, if_neg (by omega)]

include B in
theorem Blk.share (u g : FVec Ideal S2x8x1408 .f32) (hp : Pre A b i.val j.val u g) (off : Fin 3 → ℕ) (hoff : off = ![j.val, 0, 0]) (inb : ∀ a : Fin 3, off a + S1x8x1408.size a ≤ S2x8x1408.size a)
    (r : Fin 512) (n : Fin 1024) :
    (k0_pay1 (F := Ideal) (Gen.convu x0 x1 x3 x5 (View.ld (Val := Elt Ideal) (e' := .f32) u (Rect.unit (s := S2x8x1408) off S1x8x1408.size inb)))
        (Gen.convg x0 x2 x4 x6 (View.ld (Val := Elt Ideal) (e' := .f32) g (Rect.unit (s := S2x8x1408) off S1x8x1408.size inb))) (Scalar.ofBits .f32 0x3F000000#32) x7 : FVec Ideal S512x1024 .f32) (ix2 r n)
      = A.part b ⟨512 * i.val + r.val, by omega⟩ j n := by
  refine B.part _ _ (fun q e => ?_) (fun q e => ?_) r n
  · refine (slot_ld u off j hoff inb q e).trans ((hp.1 j q e).trans ?_)
    rw [if_neg (lt_irrefl _)]
  · refine (slot_ld g off j hoff inb q e).trans ((hp.2 j q e).trans ?_)
    rw [if_neg (lt_irrefl _)]

end

theorem pay2_apply (u g : FVec Ideal S512x1408 .f32) (k : Ideal .f32) (w : FVec Ideal S1408x1024 .bf16) (r : Fin 512) (n : Fin 1024) :
    (k0_pay2 (F := Ideal) u g k w : FVec Ideal S512x1024 .f32) (ix2 r n) = (k0_pay1 (F := Ideal) u g k w : FVec Ideal S512x1024 .f32) (ix2 r n) := by
  unfold k0_pay2
  generalize k0_pay1 (F := Ideal) u g k w = H
  pointwise

theorem pay3_apply (u g : FVec Ideal S512x1408 .f32) (k : Ideal .f32) (w : FVec Ideal S1408x1024 .bf16) (a : FVec Ideal S512x1024 .f32) (r : Fin 512) (n : Fin 1024) :
    (k0_pay3 (F := Ideal) u g k w a : FVec Ideal S512x1024 .f32) (ix2 r n) = a (ix2 r n) + (k0_pay1 (F := Ideal) u g k w : FVec Ideal S512x1024 .f32) (ix2 r n) := by
  unfold k0_pay3
  generalize k0_pay1 (F := Ideal) u g k w = H
  pointwise

/-- The slot a point loads and stores. -/
theorem off_eq : ∀ t : Fin cfg0.N, k0_off1 (grid0.coords t) = ![t.val % 2, 0, 0] :=
  (by decide +kernel : ∀ t : Fin grid0.N, _)

section
variable (m : (ℓ : Loc nD τ sig) → Buf (Elt Ideal) ℓ) (c : Dev nD) (A : Args)

/-- The blocks of every point are the arguments'. -/
abbrev Blks : Prop := ∀ (t : Fin cfg0.N) (b : Fin 4) (i : Fin 8) (j : Fin 2), t.val = 16 * b.val + 2 * i.val + j.val →
  Blk A b i j (iblk m c 0 t) (iblk m c 1 t) (iblk m c 2 t) (iblk m c 3 t) (iblk m c 4 t) (iblk m c 5 t) (iblk m c 6 t) (iblk m c 7 t) (iblk m c 8 t) (iblk m c 9 t)

theorem post_A (hB : Blks m c A) (t : Fin cfg0.N) (b : Fin 4) (ht : t.val = 16 * b.val) : Post A b 0 0 (outsAt0 m c t.val t.isLt) := by
  have B := hB t b 0 0 (by show t.val = 16 * b.val + 2 * 0 + 0; omega)
  have h0 : t.val % 16 = 0 := by omega
  have h1 : t.val % 2 = 0 := by omega
  have h2 : ¬t.val % 2 = 1 := by omega
  have E := outsAt0_A m c t h0 h1 h2 h2
  have hoff : k0_off1 (grid0.coords t) = ![(0 : Fin 2).val, 0, 0] := (off_eq t).trans (by rw [h1]; rfl)
  have hp : Pre A b (0 : Fin 8).val (0 : Fin 2).val (k0_pay6 (F := Ideal)) (k0_pay7 (F := Ideal)) :=
    ⟨fun p q e => (pay6_apply _).trans (by rw [if_neg (by omega)]; exact (carry_zero _ _).symm),
      fun p q e => (pay7_apply _).trans (by rw [if_neg (by omega)]; exact (carry_zero _ _).symm)⟩
  refine ⟨fun h => absurd h (by decide), fun q e => ?_, fun q e => ?_, fun _ r n => ?_, ?_⟩
  · refine (congrArg (fun o => o.2.1 (ix4 0 0 q e)) E).trans ?_
    dsimp only
    refine (out0_A_11_eq (ix4 0 0 q e)).trans ?_
    exact (pay15_apply _ q e).trans (B.hu _ e)
  · refine (congrArg (fun o => o.2.2.1 (ix4 0 0 q e)) E).trans ?_
    dsimp only
    refine (out0_A_12_eq (ix4 0 0 q e)).trans ?_
    exact (pay26_apply _ q e).trans (B.hg _ e)
  · refine (congrArg (fun o => o.2.2.2.1 (ix2 r n)) E).trans ?_
    dsimp only
    refine (sout0_A_0_eq (ix2 r n)).trans ?_
    exact (pay2_apply _ _ _ _ r n).trans (B.share _ _ hp _ hoff _ r n)
  · refine B.post _ _ _ _ hp (fun p q e => ?_) (fun p q e => ?_)
    · refine (congrArg (fun o => o.2.2.2.2.1 (ix3 p q e)) E).trans ?_
      dsimp only
      exact sout0_A_1_eq 0 hoff p q e
    · refine (congrArg (fun o => o.2.2.2.2.2 (ix3 p q e)) E).trans ?_
      dsimp only
      exact sout0_A_2_eq 0 hoff p q e

theorem post_C (hB : Blks m c A) (t : Fin cfg0.N) (b : Fin 4) (i : Fin 8) (hi : 1 ≤ i.val) (ht : t.val = 16 * b.val + 2 * i.val)
    (hp : Pre A b i.val 0 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) :
    Post A b i 0 (outsAt0 m c t.val t.isLt) := by
  have B := hB t b i 0 (by show t.val = 16 * b.val + 2 * i.val + 0; omega)
  have h0 : ¬t.val % 16 = 0 := by omega
  have h1 : t.val % 2 = 0 := by omega
  have h2 : ¬t.val % 2 = 1 := by omega
  have E := outsAt0_C m c t h0 h1 h2 h2
  have hoff : k0_off1 (grid0.coords t) = ![(0 : Fin 2).val, 0, 0] := (off_eq t).trans (by rw [h1]; rfl)
  refine ⟨fun h => absurd h (by decide), fun q e => ?_, fun q e => ?_, fun _ r n => ?_, ?_⟩
  · refine (congrArg (fun o => o.2.1 (ix4 0 0 q e)) E).trans ?_
    dsimp only
    refine (out0_C_11_eq (ix4 0 0 q e)).trans ?_
    exact (pay15_apply _ q e).trans (B.hu _ e)
  · refine (congrArg (fun o => o.2.2.1 (ix4 0 0 q e)) E).trans ?_
    dsimp only
    refine (out0_C_12_eq (ix4 0 0 q e)).trans ?_
    exact (pay26_apply _ q e).trans (B.hg _ e)
  · refine (congrArg (fun o => o.2.2.2.1 (ix2 r n)) E).trans ?_
    dsimp only
    refine (sout0_C_0_eq (ix2 r n)).trans ?_
    exact (pay2_apply _ _ _ _ r n).trans (B.share _ _ hp _ hoff _ r n)
  · refine B.post _ _ _ _ hp (fun p q e => ?_) (fun p q e => ?_)
    · refine (congrArg (fun o => o.2.2.2.2.1 (ix3 p q e)) E).trans ?_
      dsimp only
      exact sout0_C_1_eq 0 hoff p q e
    · refine (congrArg (fun o => o.2.2.2.2.2 (ix3 p q e)) E).trans ?_
      dsimp only
      exact sout0_C_2_eq 0 hoff p q e

theorem post_B (hB : Blks m c A) (t : Fin cfg0.N) (b : Fin 4) (i : Fin 8) (ht : t.val = 16 * b.val + 2 * i.val + 1)
    (hp : Pre A b i.val 1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (ha : ∀ (r : Fin 512) (n : Fin 1024), (outsAt0 m c (t.val - 1) (Nat.lt_of_le_of_lt (Nat.sub_le _ _) t.isLt)).2.2.2.1 (ix2 r n) = A.part b ⟨512 * i.val + r.val, by omega⟩ 0 n) :
    Post A b i 1 (outsAt0 m c t.val t.isLt) := by
  have B := hB t b i 1 (by show t.val = 16 * b.val + 2 * i.val + 1; omega)
  have h0 : ¬t.val % 16 = 0 := by omega
  have h1 : ¬t.val % 2 = 0 := by omega
  have h2 : t.val % 2 = 1 := by omega
  have E := outsAt0_B m c t h0 h1 h2 h2
  have hoff : k0_off1 (grid0.coords t) = ![(1 : Fin 2).val, 0, 0] := (off_eq t).trans (by rw [h2]; rfl)
  refine ⟨fun _ r n => ?_, fun q e => ?_, fun q e => ?_, fun h => absurd h (by decide), ?_⟩
  · refine (congrArg (fun o => o.1 (ix3 0 r n)) E).trans ?_
    dsimp only
    refine (out0_B_10_eq (ix3 0 r n)).trans ?_
    exact B.row _ r (fun n => (pay3_apply _ _ _ _ _ r n).trans
      (congrArg₂ (· + ·) (ha r n) (B.share _ _ hp _ hoff _ r n))) n
  · refine (congrArg (fun o => o.2.1 (ix4 0 0 q e)) E).trans ?_
    dsimp only
    refine (out0_B_11_eq (ix4 0 0 q e)).trans ?_
    exact (pay15_apply _ q e).trans (B.hu _ e)
  · refine (congrArg (fun o => o.2.2.1 (ix4 0 0 q e)) E).trans ?_
    dsimp only
    refine (out0_B_12_eq (ix4 0 0 q e)).trans ?_
    exact (pay26_apply _ q e).trans (B.hg _ e)
  · refine B.post _ _ _ _ hp (fun p q e => ?_) (fun p q e => ?_)
    · refine (congrArg (fun o => o.2.2.2.2.1 (ix3 p q e)) E).trans ?_
      dsimp only
      exact sout0_B_1_eq 1 hoff p q e
    · refine (congrArg (fun o => o.2.2.2.2.2 (ix3 p q e)) E).trans ?_
      dsimp only
      exact sout0_B_2_eq 1 hoff p q e

/-- Every point leaves its rows. -/
theorem post (hB : Blks m c A) : ∀ (n : ℕ) (hn : n < cfg0.N) (b : Fin 4) (i : Fin 8) (j : Fin 2), n = 16 * b.val + 2 * i.val + j.val → Post A b i j (outsAt0 m c n hn) := by
  intro n
  induction n with
  | zero =>
    intro hn b i j h
    obtain rfl : i = 0 := Fin.ext (by show i.val = 0; omega)
    obtain rfl : j = 0 := Fin.ext (by show j.val = 0; omega)
    exact post_A m c A hB ⟨0, hn⟩ b (by show 0 = 16 * b.val; omega)
  | succ n ih =>
    intro hn b i j h
    have hn' : n < cfg0.N := Nat.lt_of_succ_lt hn
    by_cases hj : j.val = 1
    · obtain rfl : j = 1 := Fin.ext hj
      have P := ih hn' b i 0 (by show n = 16 * b.val + 2 * i.val + 0; omega)
      exact post_B m c A hB ⟨n + 1, hn⟩ b i (by show n + 1 = _; omega) P.2.2.2.2 (P.2.2.2.1 rfl)
    · obtain rfl : j = 0 := Fin.ext (by show j.val = 0; omega)
      have h' : n + 1 = 16 * b.val + 2 * i.val := h
      by_cases hi : i.val = 0
      · obtain rfl : i = 0 := Fin.ext hi
        exact post_A m c A hB ⟨n + 1, hn⟩ b (by show n + 1 = _; omega)
      · have P := ih hn' b ⟨i.val - 1, by omega⟩ 1 (by show n = 16 * b.val + 2 * (i.val - 1) + 1; omega)
        refine post_C m c A hB ⟨n + 1, hn⟩ b i (by omega) h' ⟨fun p q e => (P.2.2.2.2.1 p q e).trans ?_, fun p q e => (P.2.2.2.2.2 p q e).trans ?_⟩
        all_goals
          rw [if_pos (by show p.val < 1 + 1; omega), if_neg (by omega)]
          congr 1
          show i.val - 1 + 1 = i.val
          omega

end

end Cert.Kernel4Ideal.Gen
end
-- ==== Proof.FfnRef.lean ====
module

public import proofs.«01_k».proof.Proof.FfnCol
public import Idealize.ShloMosaic.Lib.Claim

/-!
# The feed-forward's reference

The reference's array written in stages, each at an index, is the row of `FfnCol`.
-/

set_option maxRecDepth 16384

@[expose] public section

noncomputable section

namespace Cert.Reference4Ideal.Value

open Cert.Reference4Ideal Cert.Reference4Ideal.Gen Idealize.ShloMosaic Idealize.ShloMosaic.TcCoe Idealize.SL.Sem
open Cert.Merge
open Cert.Kernel4Ideal.Gen (Args prev gelu)

/-- The projection up with the two zero rows above it. -/
def HP (X : FVec Ideal S4x4096x1024 .f32) (W : FVec Ideal S1024x5632 .f32) : FVec Ideal S4x4098x5632 .f32 :=
  concatenate S4x4098x5632 1 [⟨S4x2x5632, (broadcastInDim S4x2x5632 ![] bcast_S_S4x2x5632 (constant S_ .f32 0x00000000#32))⟩, ⟨S4x4096x5632, (Host.dotGeneral dot_S4x4096x1024_S1024x5632_S4x4096x5632_2_0_01_1_n_n none X W)⟩] concatenates_S4x2x5632_S4x4096x5632_S4x4098x5632_d1
/-- The last eight rows of each tile, the first half of the columns. -/
def TU (H : FVec Ideal S4x4098x5632 .f32) : FVec Ideal S4x8x8x2816 .f32 :=
  extractStridedSlice S4x8x8x2816 ![0, 0, 0, 0] (extractStridedSlice S4x8x8x5632 ![0, 0, 504, 0] (shapeCast _ (extractStridedSlice S4x4096x5632 ![0, 2, 0] H slices_S4x4098x5632_S4x4096x5632_0_2_0) shapeCasts_S4x4096x5632_S4x8x512x5632) slices_S4x8x512x5632_S4x8x8x5632_0_0_504_0) slices_S4x8x8x5632_S4x8x8x2816_0_0_0_0
/-- The last eight rows of each tile, the second half of the columns. -/
def TG (H : FVec Ideal S4x4098x5632 .f32) : FVec Ideal S4x8x8x2816 .f32 :=
  extractStridedSlice S4x8x8x2816 ![0, 0, 0, 2816] (extractStridedSlice S4x8x8x5632 ![0, 0, 504, 0] (shapeCast _ (extractStridedSlice S4x4096x5632 ![0, 2, 0] H slices_S4x4098x5632_S4x4096x5632_0_2_0) shapeCasts_S4x4096x5632_S4x8x512x5632) slices_S4x8x512x5632_S4x8x8x5632_0_0_504_0) slices_S4x8x8x5632_S4x8x8x2816_0_0_0_2816
/-- The convolution. -/
def CV (H : FVec Ideal S4x4098x5632 .f32) (CW : FVec Ideal S3x5632 .f32) (CB : FVec Ideal S5632 .f32) : FVec Ideal S4x4096x5632 .f32 :=
  addf (broadcastInDim S4x4096x5632 ![0, 1, 2] bcast_S1x1x5632_S4x4096x5632_0_1_2 (broadcastInDim S1x1x5632 ![2] bcast_S5632_S1x1x5632_2 CB)) (addf (addf (addf (broadcastInDim S4x4096x5632 ![] bcast_S_S4x4096x5632 (constant S_ .f32 0x00000000#32)) (mulf (extractStridedSlice S4x4096x5632 ![0, 0, 0] H slices_S4x4098x5632_S4x4096x5632_0_0_0) (broadcastInDim S4x4096x5632 ![0, 1, 2] bcast_S1x1x5632_S4x4096x5632_0_1_2 (broadcastInDim S1x1x5632 ![2] bcast_S5632_S1x1x5632_2 (shapeCast _ (extractStridedSlice S1x5632 ![0, 0] CW slices_S3x5632_S1x5632_0_0) shapeCasts_S1x5632_S5632))))) (mulf (extractStridedSlice S4x4096x5632 ![0, 1, 0] H slices_S4x4098x5632_S4x4096x5632_0_1_0) (broadcastInDim S4x4096x5632 ![0, 1, 2] bcast_S1x1x5632_S4x4096x5632_0_1_2 (broadcastInDim S1x1x5632 ![2] bcast_S5632_S1x1x5632_2 (shapeCast _ (extractStridedSlice S1x5632 ![1, 0] CW slices_S3x5632_S1x5632_1_0) shapeCasts_S1x5632_S5632))))) (mulf (extractStridedSlice S4x4096x5632 ![0, 2, 0] H slices_S4x4098x5632_S4x4096x5632_0_2_0) (broadcastInDim S4x4096x5632 ![0, 1, 2] bcast_S1x1x5632_S4x4096x5632_0_1_2 (broadcastInDim S1x1x5632 ![2] bcast_S5632_S1x1x5632_2 (shapeCast _ (extractStridedSlice S1x5632 ![2, 0] CW slices_S3x5632_S1x5632_2_0) shapeCasts_S1x5632_S5632)))))
/-- The gated hidden rows. -/
def ACT (C : FVec Ideal S4x4096x5632 .f32) : FVec Ideal S4x4096x2816 .f32 :=
  mulf (mulf (mulf (broadcastInDim S4x4096x2816 ![] bcast_S_S4x4096x2816 (constant S_ .f32 0x3F000000#32)) (extractStridedSlice S4x4096x2816 ![0, 0, 2816] C slices_S4x4096x5632_S4x4096x2816_0_0_2816)) (Host.erfc (mulf (Host.negf (extractStridedSlice S4x4096x2816 ![0, 0, 2816] C slices_S4x4096x5632_S4x4096x2816_0_0_2816)) (broadcastInDim S4x4096x2816 ![] bcast_S_S4x4096x2816 (constant S_ .f32 0x3F3504F3#32))))) (extractStridedSlice S4x4096x2816 ![0, 0, 0] C slices_S4x4096x5632_S4x4096x2816_0_0_0)
/-- The residual and the projection down. -/
def RES (X : FVec Ideal S4x4096x1024 .f32) (Y : FVec Ideal S4x4096x2816 .f32) (WD : FVec Ideal S2816x1024 .f32) : FVec Ideal S4x4096x1024 .f32 :=
  addf (mulf (broadcastInDim S4x4096x1024 ![] bcast_S_S4x4096x1024 (constant S_ .f32 0x3F9837F0#32)) X) (Host.dotGeneral dot_S4x4096x2816_S2816x1024_S4x4096x1024_2_0_01_1_n_n none Y WD)
/-- The mean of each position. -/
def MU (Z : FVec Ideal S4x4096x1024 .f32) : FVec Ideal S4x4096x1 .f32 :=
  Host.divf (broadcastInDim S4x4096x1 ![0, 1] bcast_S4x4096_S4x4096x1_0_1 (Host.reduceAdd Z (constant S_ .f32 0x00000000#32) reducesTo_S4x4096x1024_S4x4096_d2 h_S_)) (broadcastInDim S4x4096x1 ![] bcast_S_S4x4096x1 (constant S_ .f32 0x44800000#32))
/-- The normalized array. -/
def NRM (Z : FVec Ideal S4x4096x1024 .f32) (A7 : FVec Ideal S1024 .f32) (A8 : FVec Ideal S1024 .f32) : FVec Ideal S4x4096x1024 .f32 :=
  addf (mulf (mulf (subf Z (broadcastInDim S4x4096x1024 ![0, 1, 2] bcast_S4x4096x1_S4x4096x1024_0_1_2 (MU Z))) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (subf Z (broadcastInDim S4x4096x1024 ![0, 1, 2] bcast_S4x4096x1_S4x4096x1024_0_1_2 (MU Z))) (subf Z (broadcastInDim S4x4096x1024 ![0, 1, 2] bcast_S4x4096x1_S4x4096x1024_0_1_2 (MU Z)))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x3727C5AC#32)))))) (broadcastInDim S4x4096x1024 ![0, 1, 2] bcast_S1x1x1024_S4x4096x1024_0_1_2 (broadcastInDim S1x1x1024 ![2] bcast_S1024_S1x1x1024_2 A7))) (broadcastInDim S4x4096x1024 ![0, 1, 2] bcast_S1x1x1024_S4x4096x1024_0_1_2 (broadcastInDim S1x1x1024 ![2] bcast_S1024_S1x1x1024_2 A8))

theorem HP_apply (A : Args) (b : Fin 4) (s : Fin 4096) (d : Fin 3) (n : Fin 5632) :
    HP A.X A.W (ix3 b ⟨s.val + 2 - d.val, by omega⟩ n) = prev (A.up b n) d.val s := by
  unfold HP prev Args.up
  by_cases h : d.val ≤ s.val
  · rw [dif_pos h]
    pointwise
    rw [dif_neg (by omega)]
    have e : (⟨s.val + 2 - d.val - 2, by omega⟩ : Fin 4096) = ⟨s.val - d.val, by omega⟩ := Fin.ext (by show s.val + 2 - d.val - 2 = s.val - d.val; omega)
    simp only [e]
  · rw [dif_neg h]
    pointwise
    rw [dif_pos (by omega)]

theorem TU_at (H : FVec Ideal S4x4098x5632 .f32) (b : Fin 4) (i : Fin 8) (q : Fin 8) (e : Fin 2816) :
    TU H (ix4 b i q e) = H (ix3 b ⟨512 * i.val + (504 + q.val) + 2, by omega⟩ ⟨e.val, by omega⟩) := by
  unfold TU
  pointwise
  have e : (⟨2 + (i.val * 512 + (504 + q.val)), by omega⟩ : Fin 4098) = ⟨512 * i.val + (504 + q.val) + 2, by omega⟩ := Fin.ext (by show 2 + (i.val * 512 + (504 + q.val)) = 512 * i.val + (504 + q.val) + 2; omega)
  rw [e]

theorem TG_at (H : FVec Ideal S4x4098x5632 .f32) (b : Fin 4) (i : Fin 8) (q : Fin 8) (e : Fin 2816) :
    TG H (ix4 b i q e) = H (ix3 b ⟨512 * i.val + (504 + q.val) + 2, by omega⟩ ⟨2816 + e.val, by omega⟩) := by
  unfold TG
  pointwise
  have e : (⟨2 + (i.val * 512 + (504 + q.val)), by omega⟩ : Fin 4098) = ⟨512 * i.val + (504 + q.val) + 2, by omega⟩ := Fin.ext (by show 2 + (i.val * 512 + (504 + q.val)) = 512 * i.val + (504 + q.val) + 2; omega)
  rw [e]

theorem TU_apply (A : Args) (b : Fin 4) (i : Fin 8) (q : Fin 8) (e : Fin 2816) :
    TU (HP A.X A.W) (ix4 b i q e) = A.up b ⟨e.val, by omega⟩ ⟨512 * i.val + (504 + q.val), by omega⟩ :=
  (TU_at _ b i q e).trans ((HP_apply A b ⟨512 * i.val + (504 + q.val), by omega⟩ 0 ⟨e.val, by omega⟩).trans (dif_pos (Nat.zero_le _)))

theorem TG_apply (A : Args) (b : Fin 4) (i : Fin 8) (q : Fin 8) (e : Fin 2816) :
    TG (HP A.X A.W) (ix4 b i q e) = A.up b ⟨2816 + e.val, by omega⟩ ⟨512 * i.val + (504 + q.val), by omega⟩ :=
  (TG_at _ b i q e).trans ((HP_apply A b ⟨512 * i.val + (504 + q.val), by omega⟩ 0 ⟨2816 + e.val, by omega⟩).trans (dif_pos (Nat.zero_le _)))

theorem CV_apply (H : FVec Ideal S4x4098x5632 .f32) (CW : FVec Ideal S3x5632 .f32) (CB : FVec Ideal S5632 .f32) (b : Fin 4) (s : Fin 4096) (n : Fin 5632) :
    CV H CW CB (ix3 b s n) = CB (ix1 n) + (H (ix3 b ⟨s.val, by omega⟩ n) * CW (ix2 0 n) + H (ix3 b ⟨1 + s.val, by omega⟩ n) * CW (ix2 1 n)
      + H (ix3 b ⟨2 + s.val, by omega⟩ n) * CW (ix2 2 n)) := by
  unfold CV
  pointwise

theorem ACT_apply (C : FVec Ideal S4x4096x5632 .f32) (b : Fin 4) (s : Fin 4096) (e : Fin 2816) :
    ACT C (ix3 b s e) = gelu (C (ix3 b s ⟨2816 + e.val, by omega⟩)) * C (ix3 b s ⟨e.val, by omega⟩) := by
  unfold ACT gelu
  rw [← Ideal.erfc_neg, ← neg_mul]
  pointwise

theorem RES_apply (X : FVec Ideal S4x4096x1024 .f32) (Y : FVec Ideal S4x4096x2816 .f32) (WD : FVec Ideal S2816x1024 .f32) (b : Fin 4) (s : Fin 4096) (n : Fin 1024) :
    RES X Y WD (ix3 b s n) = Ideal.ofBits .f32 0x3F9837F0#32 * X (ix3 b s n) + ∑ e : Fin 2816, Y (ix3 b s e) * WD (ix2 e n) := by
  unfold RES
  pointwise

theorem MU_apply (Z : FVec Ideal S4x4096x1024 .f32) (b : Fin 4) (s : Fin 4096) :
    MU Z (ix3 b s 0) = mean (fun n => Z (ix3 b s n)) := by
  rw [mean_div]
  unfold MU
  pointwise

theorem NRM_apply (Z : FVec Ideal S4x4096x1024 .f32) (A7 : FVec Ideal S1024 .f32) (A8 : FVec Ideal S1024 .f32) (b : Fin 4) (s : Fin 4096) (n : Fin 1024) :
    NRM Z A7 A8 (ix3 b s n) = lnorm (fun n => Z (ix3 b s n)) (fun n => A7 (ix1 n)) (fun n => A8 (ix1 n)) n := by
  unfold NRM lnorm
  rw [mean_div (fun k => _ * _), ← MU_apply]
  pointwise

theorem act_apply (A : Args) (b : Fin 4) (s : Fin 4096) (e : Fin 2816) : ACT (CV (HP A.X A.W) A.CW A.CB) (ix3 b s e) = A.act b s e := by
  have c : ∀ n : Fin 5632, CV (HP A.X A.W) A.CW A.CB (ix3 b s n) = A.cv b n s := fun n => by
    rw [CV_apply]
    unfold Args.cv
    have p0 := HP_apply A b s 2 n
    have p1 := HP_apply A b s 1 n
    have p2 := HP_apply A b s 0 n
    have e1 : (⟨1 + s.val, by omega⟩ : Fin 4098) = ⟨s.val + 2 - (1 : Fin 3).val, by simp; omega⟩ := Fin.ext (by show 1 + s.val = s.val + 2 - 1; omega)
    have e2 : (⟨2 + s.val, by omega⟩ : Fin 4098) = ⟨s.val + 2 - (0 : Fin 3).val, by simp; omega⟩ := Fin.ext (by show 2 + s.val = s.val + 2 - 0; omega)
    rw [e1, e2]
    have q : prev (A.up b n) (0 : Fin 3).val s = A.up b n s := dif_pos (Nat.zero_le _)
    refine congrArg _ (congrArg₂ (· + ·) (congrArg₂ (· + ·) ?_ ?_) ?_)
    · exact (mul_comm _ _).trans (congrArg _ p0)
    · exact (mul_comm _ _).trans (congrArg _ p1)
    · exact (mul_comm _ _).trans (congrArg _ (p2.trans q))
  rw [ACT_apply, c, c]
  rfl

theorem ref_apply (m : (ℓ : Loc nD τ sig) → Buf (Elt Ideal) ℓ) (c : Dev nD) (A : Args)
    (h0 : A.X = m (c, Proc.devRef .tc main_arg0)) (h1 : A.W = m (c, Proc.devRef .tc main_arg1)) (h2 : A.CW = m (c, Proc.devRef .tc main_arg2)) (h3 : A.CB = m (c, Proc.devRef .tc main_arg3)) (h4 : A.WD = m (c, Proc.devRef .tc main_arg4)) (h5 : A.LW = m (c, Proc.devRef .tc main_arg5)) (h6 : A.LB = m (c, Proc.devRef .tc main_arg6)) (b : Fin 4) (s : Fin 4096) (n : Fin 1024) :
    (res_main_v65 (F := Ideal) m c : FVec Ideal S4x4096x1024 .f32) (ix3 b s n) = A.row b s n := by
  have h : (res_main_v65 (F := Ideal) m c : FVec Ideal S4x4096x1024 .f32) = NRM (RES A.X (ACT (CV (HP A.X A.W) A.CW A.CB)) A.WD) A.LW A.LB := by
    rw [h0, h1, h2, h3, h4, h5, h6]
    rfl
  rw [h, NRM_apply]
  simp only [RES_apply, act_apply]
  rfl

end Cert.Reference4Ideal.Value

end
-- ==== Proof.FfnOut.lean ====
module

public import proofs.«01_k».proof.Proof.FfnInv
public import proofs.«01_k».proof.Proof.FfnRef
public import Idealize.ShloMosaic.Lib.Pipeline.ValueKit
public import Idealize.ShloMosaic.Lib.Claim

/-!
# The arrays the feed-forward's call leaves

The three results of the call are the reference's, from the same arguments.
-/

set_option maxRecDepth 16384

@[expose] public section

noncomputable section

namespace Cert.Kernel4Ideal.Gen

open Idealize.ShloMosaic Idealize.ShloMosaic.TcCoe Idealize.SL.Sem

variable (m : (ℓ : Loc nD τ sig) → Buf (Elt Ideal) ℓ)

theorem idx : ∀ t : Fin cfg0.N, win0_0.index t = ![t.val / 16, t.val / 2 % 8, 0] ∧ win0_1.index t = ![0, t.val % 2] ∧ win0_2.index t = ![0, 2 + t.val % 2] ∧ win0_3.index t = ![0, t.val % 2] ∧ win0_4.index t = ![0, 2 + t.val % 2] ∧ win0_5.index t = ![0, t.val % 2] ∧ win0_6.index t = ![0, 2 + t.val % 2] ∧ win0_7.index t = ![t.val % 2, 0] ∧ win0_8.index t = ![0, 0] ∧ win0_9.index t = ![0, 0] ∧ win0_10.index t = ![t.val / 16, t.val / 2 % 8, 0] ∧ win0_11.index t = ![t.val / 16, t.val / 2 % 8, 0, t.val % 2] ∧ win0_12.index t = ![t.val / 16, t.val / 2 % 8, 0, t.val % 2] :=
  (by decide +kernel : ∀ t : Fin grid0.N, _)

theorem blk0 (c : Dev nD) (t : Fin cfg0.N) (b : Fin 4) (i : Fin 8) (j : Fin 2) (ht : t.val = 16 * b.val + 2 * i.val + j.val) (r : Fin 512) (k : Fin 1024) :
    iblk m c 0 t (ix3 0 r k) = V m c main_arg0 (ix3 b ⟨512 * i.val + r.val, by omega⟩ k) := by
  blk_ext [iblk, idx t]
theorem blk1 (c : Dev nD) (t : Fin cfg0.N) (b : Fin 4) (i : Fin 8) (j : Fin 2) (ht : t.val = 16 * b.val + 2 * i.val + j.val) (k : Fin 1024) (e : Fin 1408) :
    iblk m c 1 t (ix2 k e) = V m c main_v0 (ix2 k ⟨1408 * j.val + e.val, by omega⟩) := by
  blk_ext [iblk, idx t]
theorem blk2 (c : Dev nD) (t : Fin cfg0.N) (b : Fin 4) (i : Fin 8) (j : Fin 2) (ht : t.val = 16 * b.val + 2 * i.val + j.val) (k : Fin 1024) (e : Fin 1408) :
    iblk m c 2 t (ix2 k e) = V m c main_v0 (ix2 k ⟨2816 + (1408 * j.val + e.val), by omega⟩) := by
  blk_ext [iblk, idx t]
theorem blk3 (c : Dev nD) (t : Fin cfg0.N) (b : Fin 4) (i : Fin 8) (j : Fin 2) (ht : t.val = 16 * b.val + 2 * i.val + j.val) (k : Fin 3) (e : Fin 1408) :
    iblk m c 3 t (ix2 k e) = V m c main_arg2 (ix2 k ⟨1408 * j.val + e.val, by omega⟩) := by
  blk_ext [iblk, idx t]
theorem blk4 (c : Dev nD) (t : Fin cfg0.N) (b : Fin 4) (i : Fin 8) (j : Fin 2) (ht : t.val = 16 * b.val + 2 * i.val + j.val) (k : Fin 3) (e : Fin 1408) :
    iblk m c 4 t (ix2 k e) = V m c main_arg2 (ix2 k ⟨2816 + (1408 * j.val + e.val), by omega⟩) := by
  blk_ext [iblk, idx t]
theorem blk5 (c : Dev nD) (t : Fin cfg0.N) (b : Fin 4) (i : Fin 8) (j : Fin 2) (ht : t.val = 16 * b.val + 2 * i.val + j.val) (e : Fin 1408) :
    iblk m c 5 t (ix2 0 e) = V m c main_v2 (ix2 0 ⟨1408 * j.val + e.val, by omega⟩) := by
  blk_ext [iblk, idx t]
theorem blk6 (c : Dev nD) (t : Fin cfg0.N) (b : Fin 4) (i : Fin 8) (j : Fin 2) (ht : t.val = 16 * b.val + 2 * i.val + j.val) (e : Fin 1408) :
    iblk m c 6 t (ix2 0 e) = V m c main_v2 (ix2 0 ⟨2816 + (1408 * j.val + e.val), by omega⟩) := by
  blk_ext [iblk, idx t]
theorem blk7 (c : Dev nD) (t : Fin cfg0.N) (b : Fin 4) (i : Fin 8) (j : Fin 2) (ht : t.val = 16 * b.val + 2 * i.val + j.val) (e : Fin 1408) (n : Fin 1024) :
    iblk m c 7 t (ix2 e n) = V m c main_v1 (ix2 ⟨1408 * j.val + e.val, by omega⟩ n) := by
  blk_ext [iblk, idx t]
theorem blk8 (c : Dev nD) (t : Fin cfg0.N) (b : Fin 4) (i : Fin 8) (j : Fin 2) (ht : t.val = 16 * b.val + 2 * i.val + j.val) (n : Fin 1024) :
    iblk m c 8 t (ix2 0 n) = V m c main_v3 (ix2 0 n) := by
  blk_ext [iblk, idx t]
theorem blk9 (c : Dev nD) (t : Fin cfg0.N) (b : Fin 4) (i : Fin 8) (j : Fin 2) (ht : t.val = 16 * b.val + 2 * i.val + j.val) (n : Fin 1024) :
    iblk m c 9 t (ix2 0 n) = V m c main_v4 (ix2 0 n) := by
  blk_ext [iblk, idx t]

theorem read0 (c : Dev nD) (b : Fin 4) (s : Fin 4096) (k : Fin 1024) (X : FVec Ideal S4x4096x1024 .f32) (h : X = m (c, Proc.devRef .tc main_arg0)) :
    (V m c main_arg0 : FVec Ideal S4x4096x1024 .f32) (ix3 b s k) = X (ix3 b s k) := by
  rw [V_main_arg0 m c, h]
theorem read1 (c : Dev nD) (k : Fin 1024) (e : Fin 5632) (X : FVec Ideal S1024x5632 .f32) (h : X = m (c, Proc.devRef .tc main_arg1)) :
    (V m c main_v0 : FVec Ideal S1024x5632 .bf16) (ix2 k e) = X (ix2 k e) := by
  subst h
  unfold V
  simp only [hostOps0, List.flatten_cons, List.flatten_nil, List.append_nil, List.cons_append, List.nil_append]
  after_results_simp
  pointwise
theorem read3 (c : Dev nD) (k : Fin 3) (e : Fin 5632) (X : FVec Ideal S3x5632 .f32) (h : X = m (c, Proc.devRef .tc main_arg2)) :
    (V m c main_arg2 : FVec Ideal S3x5632 .f32) (ix2 k e) = X (ix2 k e) := by
  rw [V_main_arg2 m c, h]
theorem read5 (c : Dev nD) (e : Fin 5632) (X : FVec Ideal S5632 .f32) (h : X = m (c, Proc.devRef .tc main_arg3)) :
    (V m c main_v2 : FVec Ideal S1x5632 .f32) (ix2 0 e) = X (ix1 e) := by
  subst h
  unfold V
  simp only [hostOps0, List.flatten_cons, List.flatten_nil, List.append_nil, List.cons_append, List.nil_append]
  after_results_simp
  pointwise
theorem read7 (c : Dev nD) (e : Fin 2816) (n : Fin 1024) (X : FVec Ideal S2816x1024 .f32) (h : X = m (c, Proc.devRef .tc main_arg4)) :
    (V m c main_v1 : FVec Ideal S2816x1024 .bf16) (ix2 e n) = X (ix2 e n) := by
  subst h
  unfold V
  simp only [hostOps0, List.flatten_cons, List.flatten_nil, List.append_nil, List.cons_append, List.nil_append]
  after_results_simp
  pointwise
theorem read8 (c : Dev nD) (n : Fin 1024) (X : FVec Ideal S1024 .f32) (h : X = m (c, Proc.devRef .tc main_arg5)) :
    (V m c main_v3 : FVec Ideal S1x1024 .f32) (ix2 0 n) = X (ix1 n) := by
  subst h
  unfold V
  simp only [hostOps0, List.flatten_cons, List.flatten_nil, List.append_nil, List.cons_append, List.nil_append]
  after_results_simp
  pointwise
theorem read9 (c : Dev nD) (n : Fin 1024) (X : FVec Ideal S1024 .f32) (h : X = m (c, Proc.devRef .tc main_arg6)) :
    (V m c main_v4 : FVec Ideal S1x1024 .f32) (ix2 0 n) = X (ix1 n) := by
  subst h
  unfold V
  simp only [hostOps0, List.flatten_cons, List.flatten_nil, List.append_nil, List.cons_append, List.nil_append]
  after_results_simp
  pointwise

/-- The blocks of a point are the arguments'. -/
theorem blks (c : Dev nD) (A : Args) (h0 : A.X = m (c, Proc.devRef .tc main_arg0)) (h1 : A.W = m (c, Proc.devRef .tc main_arg1)) (h2 : A.CW = m (c, Proc.devRef .tc main_arg2)) (h3 : A.CB = m (c, Proc.devRef .tc main_arg3)) (h4 : A.WD = m (c, Proc.devRef .tc main_arg4)) (h5 : A.LW = m (c, Proc.devRef .tc main_arg5)) (h6 : A.LB = m (c, Proc.devRef .tc main_arg6)) : Blks m c A := fun t b i j ht => {
  h0 := fun r k => (blk0 m c t b i j ht r k).trans (read0 m c _ _ _ A.X h0)
  h1 := fun k e => (blk1 m c t b i j ht k e).trans (read1 m c _ _ A.W h1)
  h2 := fun k e => (blk2 m c t b i j ht k e).trans (read1 m c _ _ A.W h1)
  h3 := fun k e => (blk3 m c t b i j ht k e).trans (read3 m c _ _ A.CW h2)
  h4 := fun k e => (blk4 m c t b i j ht k e).trans (read3 m c _ _ A.CW h2)
  h5 := fun e => (blk5 m c t b i j ht e).trans (read5 m c _ A.CB h3)
  h6 := fun e => (blk6 m c t b i j ht e).trans (read5 m c _ A.CB h3)
  h7 := fun e n => (blk7 m c t b i j ht e n).trans (read7 m c _ _ A.WD h4)
  h8 := fun n => (blk8 m c t b i j ht n).trans (read8 m c _ A.LW h5)
  h9 := fun n => (blk9 m c t b i j ht n).trans (read9 m c _ A.LB h6)
  }

/-- The layer's rows as an array. -/
def Y (A : Args) : FVec Ideal S4x4096x1024 .f32 := fun i => A.row (i 0) (i 1) (i 2)
/-- The last rows of each tile, the first half of the columns. -/
def TU (A : Args) : FVec Ideal S4x8x8x2816 .f32 := fun i => A.up (i 0) ⟨(i 3).val, Nat.lt_of_lt_of_le (i 3).isLt (by decide)⟩ ⟨512 * (i 1).val + (504 + (i 2).val), by have : (i 1).val < 8 := (i 1).isLt; have : (i 2).val < 8 := (i 2).isLt; omega⟩
/-- The last rows of each tile, the second half of the columns. -/
def TG (A : Args) : FVec Ideal S4x8x8x2816 .f32 := fun i => A.up (i 0) ⟨2816 + (i 3).val, by have : (i 3).val < 2816 := (i 3).isLt; omega⟩ ⟨512 * (i 1).val + (504 + (i 2).val), by have : (i 1).val < 8 := (i 1).isLt; have : (i 2).val < 8 := (i 2).isLt; omega⟩

section
variable (c : Dev nD) (A : Args) (hB : Blks m c A)

include hB in
theorem point10 (t : Fin cfg0.N) (hf : t.val % 2 = 1) (y : S1x512x1024.Idx) :
    (outsAt0 m c t.val t.isLt).1 y = Y A (((cfg0.win 10).blk t).view.emb y : S4x4096x1024.Idx) := by
  have ht : t.val < 64 := Nat.lt_of_lt_of_eq t.isLt N_0
  have y0 : (y 0).val < 1 := (y 0).isLt
  have y1 : (y 1).val < 512 := (y 1).isLt
  have e : (((cfg0.win 10).blk t).view.emb y : S4x4096x1024.Idx) = ix3 ⟨t.val / 16, by omega⟩ ⟨512 * (t.val / 2 % 8) + (y 1).val, by omega⟩ (y 2) := by
    blk_ext [idx t]
  have z0 : @Eq (Fin 1) (y 0) 0 := @Subsingleton.elim (Fin 1) _ _ _
  have E : y = ix3 0 (y 1) (y 2) := (eq_ix3 y).trans (congrArg (fun a : Fin 1 => (ix3 a (y 1) (y 2) : S1x512x1024.Idx)) z0)
  have P := post m c A hB t.val t.isLt ⟨t.val / 16, by omega⟩ ⟨t.val / 2 % 8, by omega⟩ 1 (by show t.val = 16 * (t.val / 16) + 2 * (t.val / 2 % 8) + 1; omega)
  refine Eq.trans ?_ (congrArg (Y A) e).symm
  exact (congrArg _ E).trans (P.1 rfl (y 1) (y 2))

include hB in
theorem fin10 : (dats m 0 c).arrAt 10 (cfgs 0).N = Y A := by
  refine (dats m 0 c).arrAt_eq_of_covers 10 _ (by decide +kernel) fun t hf y => ?_
  blk_simp
  rw [after0_10]
  exact point10 m c A hB t ((flush0_10 t).mp hf) y

include hB in
theorem point11 (t : Fin cfg0.N) (y : S1x1x8x1408.Idx) :
    (outsAt0 m c t.val t.isLt).2.1 y = TU A (((cfg0.win 11).blk t).view.emb y : S4x8x8x2816.Idx) := by
  have ht : t.val < 64 := Nat.lt_of_lt_of_eq t.isLt N_0
  have y0 : (y 0).val < 1 := (y 0).isLt
  have y1 : (y 1).val < 1 := (y 1).isLt
  have y2 : (y 2).val < 8 := (y 2).isLt
  have y3 : (y 3).val < 1408 := (y 3).isLt
  have e : (((cfg0.win 11).blk t).view.emb y : S4x8x8x2816.Idx) = ix4 ⟨t.val / 16, by omega⟩ ⟨t.val / 2 % 8, by omega⟩ (y 2) ⟨1408 * (t.val % 2) + (y 3).val, by omega⟩ := by
    blk_ext [idx t]
  have z0 : @Eq (Fin 1) (y 0) 0 := @Subsingleton.elim (Fin 1) _ _ _
  have z1 : @Eq (Fin 1) (y 1) 0 := @Subsingleton.elim (Fin 1) _ _ _
  have E : y = ix4 0 0 (y 2) (y 3) := (eq_ix4 y).trans (congrArg₂ (fun a b : Fin 1 => (ix4 a b (y 2) (y 3) : S1x1x8x1408.Idx)) z0 z1)
  have P := post m c A hB t.val t.isLt ⟨t.val / 16, by omega⟩ ⟨t.val / 2 % 8, by omega⟩ ⟨t.val % 2, by omega⟩ (by show t.val = 16 * (t.val / 16) + 2 * (t.val / 2 % 8) + t.val % 2; omega)
  refine Eq.trans ?_ (congrArg (TU A) e).symm
  exact (congrArg _ E).trans (P.2.1 (y 2) (y 3))

include hB in
theorem fin11 : (dats m 0 c).arrAt 11 (cfgs 0).N = TU A := by
  refine (dats m 0 c).arrAt_eq_of_covers 11 _ (by decide +kernel) fun t _ y => ?_
  blk_simp
  rw [after0_11]
  exact point11 m c A hB t y

include hB in
theorem point12 (t : Fin cfg0.N) (y : S1x1x8x1408.Idx) :
    (outsAt0 m c t.val t.isLt).2.2.1 y = TG A (((cfg0.win 12).blk t).view.emb y : S4x8x8x2816.Idx) := by
  have ht : t.val < 64 := Nat.lt_of_lt_of_eq t.isLt N_0
  have y0 : (y 0).val < 1 := (y 0).isLt
  have y1 : (y 1).val < 1 := (y 1).isLt
  have y2 : (y 2).val < 8 := (y 2).isLt
  have y3 : (y 3).val < 1408 := (y 3).isLt
  have e : (((cfg0.win 12).blk t).view.emb y : S4x8x8x2816.Idx) = ix4 ⟨t.val / 16, by omega⟩ ⟨t.val / 2 % 8, by omega⟩ (y 2) ⟨1408 * (t.val % 2) + (y 3).val, by omega⟩ := by
    blk_ext [idx t]
  have z0 : @Eq (Fin 1) (y 0) 0 := @Subsingleton.elim (Fin 1) _ _ _
  have z1 : @Eq (Fin 1) (y 1) 0 := @Subsingleton.elim (Fin 1) _ _ _
  have E : y = ix4 0 0 (y 2) (y 3) := (eq_ix4 y).trans (congrArg₂ (fun a b : Fin 1 => (ix4 a b (y 2) (y 3) : S1x1x8x1408.Idx)) z0 z1)
  have P := post m c A hB t.val t.isLt ⟨t.val / 16, by omega⟩ ⟨t.val / 2 % 8, by omega⟩ ⟨t.val % 2, by omega⟩ (by show t.val = 16 * (t.val / 16) + 2 * (t.val / 2 % 8) + t.val % 2; omega)
  refine Eq.trans ?_ (congrArg (TG A) e).symm
  exact (congrArg _ E).trans (P.2.2.1 (y 2) (y 3))

include hB in
theorem fin12 : (dats m 0 c).arrAt 12 (cfgs 0).N = TG A := by
  refine (dats m 0 c).arrAt_eq_of_covers 12 _ (by decide +kernel) fun t _ y => ?_
  blk_simp
  rw [after0_12]
  exact point12 m c A hB t y

end

/-- The three results, from agreeing arguments. -/
theorem equal (c : Dev nD) (m' : (ℓ : Loc Cert.Reference4Ideal.nD Cert.Reference4Ideal.τ Cert.Reference4Ideal.sig) → Buf (Elt Ideal) ℓ) (A : Args)
    (h0 : A.X = m (c, Proc.devRef .tc main_arg0)) (h1 : A.W = m (c, Proc.devRef .tc main_arg1)) (h2 : A.CW = m (c, Proc.devRef .tc main_arg2)) (h3 : A.CB = m (c, Proc.devRef .tc main_arg3)) (h4 : A.WD = m (c, Proc.devRef .tc main_arg4)) (h5 : A.LW = m (c, Proc.devRef .tc main_arg5)) (h6 : A.LB = m (c, Proc.devRef .tc main_arg6))
    (k0 : A.X = m' (c, Proc.devRef .tc Cert.Reference4Ideal.main_arg0)) (k1 : A.W = m' (c, Proc.devRef .tc Cert.Reference4Ideal.main_arg1)) (k2 : A.CW = m' (c, Proc.devRef .tc Cert.Reference4Ideal.main_arg2)) (k3 : A.CB = m' (c, Proc.devRef .tc Cert.Reference4Ideal.main_arg3)) (k4 : A.WD = m' (c, Proc.devRef .tc Cert.Reference4Ideal.main_arg4)) (k5 : A.LW = m' (c, Proc.devRef .tc Cert.Reference4Ideal.main_arg5)) (k6 : A.LB = m' (c, Proc.devRef .tc Cert.Reference4Ideal.main_arg6)) :
    Cert.Reference4Ideal.Value.res_main_v65 (F := Ideal) m' c = (dats m 0 c).arrAt 10 (cfgs 0).N
      ∧ Cert.Reference4Ideal.Value.TU (Cert.Reference4Ideal.Value.HP A.X A.W) = (dats m 0 c).arrAt 11 (cfgs 0).N
      ∧ Cert.Reference4Ideal.Value.TG (Cert.Reference4Ideal.Value.HP A.X A.W) = (dats m 0 c).arrAt 12 (cfgs 0).N := by
  have hB := blks m c A h0 h1 h2 h3 h4 h5 h6
  rw [fin10 m c A hB, fin11 m c A hB, fin12 m c A hB]
  refine ⟨?_, ?_, ?_⟩
  · funext i
    exact (congrArg _ (eq_ix3 i)).trans (Cert.Reference4Ideal.Value.ref_apply m' c A k0 k1 k2 k3 k4 k5 k6 (i 0) (i 1) (i 2))
  · funext i
    exact (congrArg _ (eq_ix4 i)).trans (Cert.Reference4Ideal.Value.TU_apply A (i 0) (i 1) (i 2) (i 3))
  · funext i
    exact (congrArg _ (eq_ix4 i)).trans (Cert.Reference4Ideal.Value.TG_apply A (i 0) (i 1) (i 2) (i 3))

end Cert.Kernel4Ideal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel3.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Equal
public import proofs.«01_k».proof.Proof.ProjOut
public import proofs.«01_k».proof.Proof.MergeOut
public import proofs.«01_k».proof.Proof.FfnOut
public import Idealize.ShloMosaic.Lib.Claim
public import Idealize.ShloMosaic.Adequacy
public import Idealize.ShloMosaic.Init
public import Idealize.ShloMosaic.Lib.Quiescent

@[expose] public section

noncomputable section

namespace Cert.Proof

open Idealize.ShloMosaic Idealize.SL.Sem Cert.Kernel

theorem preserves : Cert.preserves_Kernel_KernelIdeal :=
  IdealRules.named_const.statement Cert.KernelIdeal.κ "mask" .f32 0xF149F2CA#32 ⊥ rfl

theorem algebraic : Cert.algebraic_KernelIdeal_ReferenceIdeal_pre_finite := by
  pair_intro
  · run_from Cert.KernelIdeal.Value.run_blocks m g
  · run_from Cert.ReferenceIdeal.Value.run m' g'
    obtain ⟨a0, a1, a2, a3, a4, a5, a6, a7, a8⟩ := hagree c
    rw [← a8]
    exact Cert.Equal.equal m c (StableHlo.launchContents m' c) _ _ _ _ _ _ _ _ _ rfl rfl rfl rfl rfl rfl rfl rfl rfl
      a0.symm a1.symm a2.symm a3.symm a4.symm a5.symm a6.symm a7.symm a8.symm (hpre c)

theorem frame_R : Cert.quiescent_ReferenceIdeal := by
  intro m g _
  run_from Cert.ReferenceIdeal.Value.run m g
  · exact fun _ => ⟨trivial, trivial, trivial, trivial, trivial, trivial, trivial, trivial, trivial⟩
  · exact sem_eq_zero_of_no_sems (sig := Cert.ReferenceIdeal.sig) (by rfl) _

theorem frame_R_finite : Cert.quiescent_ReferenceIdeal_pre_finite := by
  intro m g _
  run_from Cert.ReferenceIdeal.Value.run m g
  · exact fun _ => ⟨trivial, trivial, trivial, trivial, trivial, trivial, trivial, trivial, trivial⟩
  · exact sem_eq_zero_of_no_sems (sig := Cert.ReferenceIdeal.sig) (by rfl) _

theorem preserves2 : Cert.preserves_Kernel2_Kernel2Ideal :=
  IdealRules.named_const.statement Cert.Kernel2Ideal.κ "qscale" .f32 0x3E38AA3B#32 (((8 * (Real.log 2))⁻¹ : ℝ) : EReal) rfl

theorem preserves3 : Cert.preserves_Kernel3_Kernel3Ideal := trivial

theorem algebraic2 : Cert.algebraic_Kernel2Ideal_Reference2Ideal := by
  pair_intro
  · run_from Cert.Kernel2Ideal.Value.run_blocks m g
  · run_from Cert.Reference2Ideal.Value.run m' g'
    · exact (Cert.Kernel2Ideal.Gen.final2 m c _ _ rfl rfl).symm
    · exact (Cert.Kernel2Ideal.Gen.final3 m c _ _ rfl rfl).symm
    · exact (Cert.Kernel2Ideal.Gen.final4 m c _ _ rfl rfl).symm
    · exact (Cert.Kernel2Ideal.Gen.final5 m c _ _ rfl rfl).symm
    · exact (Cert.Kernel2Ideal.Gen.final6 m c _ _ rfl rfl).symm
    · exact (Cert.Kernel2Ideal.Gen.final7 m c _ _ rfl rfl).symm
    · exact (Cert.Kernel2Ideal.Gen.final8 m c _ _ rfl rfl).symm

theorem algebraic3 : Cert.algebraic_Kernel3Ideal_Reference3Ideal := by
  pair_intro
  · run_from Cert.Kernel3Ideal.Value.run_blocks m g
  · run_from Cert.Reference3Ideal.Value.run m' g'
    obtain ⟨a0, a1, a2, a3, a4, a5, a6, a7, a8⟩ := hagree c
    exact Cert.Kernel3Ideal.Gen.equal m c m' _ _ _ _ _ _ _ _ _ rfl rfl rfl rfl rfl rfl rfl rfl rfl
      a0.symm a1.symm a2.symm a3.symm a4.symm a5.symm a6.symm a7.symm a8.symm

theorem frame_R2 : Cert.quiescent_Reference2Ideal := by
  intro m g _
  run_from Cert.Reference2Ideal.Value.run m g
  · exact fun _ => ⟨trivial, trivial⟩
  · exact sem_eq_zero_of_no_sems (sig := Cert.Reference2Ideal.sig) (by rfl) _

theorem frame_R3 : Cert.quiescent_Reference3Ideal := by
  intro m g _
  run_from Cert.Reference3Ideal.Value.run m g
  · exact fun _ => ⟨trivial, trivial, trivial, trivial, trivial, trivial, trivial, trivial, trivial⟩
  · exact sem_eq_zero_of_no_sems (sig := Cert.Reference3Ideal.sig) (by rfl) _

theorem preserves4 : Cert.preserves_Kernel4_Kernel4Ideal := trivial

/-- The feed-forward's arguments. -/
abbrev args4 (m : (ℓ : Loc Cert.Kernel4Ideal.nD Cert.Kernel4Ideal.τ Cert.Kernel4Ideal.sig) → Buf (Elt Ideal) ℓ) (c : Dev Cert.Kernel4Ideal.nD) : Cert.Kernel4Ideal.Gen.Args where
  X := m (c, Proc.devRef .tc Cert.Kernel4Ideal.main_arg0)
  W := m (c, Proc.devRef .tc Cert.Kernel4Ideal.main_arg1)
  CW := m (c, Proc.devRef .tc Cert.Kernel4Ideal.main_arg2)
  CB := m (c, Proc.devRef .tc Cert.Kernel4Ideal.main_arg3)
  WD := m (c, Proc.devRef .tc Cert.Kernel4Ideal.main_arg4)
  LW := m (c, Proc.devRef .tc Cert.Kernel4Ideal.main_arg5)
  LB := m (c, Proc.devRef .tc Cert.Kernel4Ideal.main_arg6)

theorem algebraic4 : Cert.algebraic_Kernel4Ideal_Reference4Ideal := by
  pair_intro
  · run_from Cert.Kernel4Ideal.Value.run_blocks m g
  · run_from Cert.Reference4Ideal.Value.run m' g'
    all_goals
      obtain ⟨a0, a1, a2, a3, a4, a5, a6⟩ := hagree c
      have E := Cert.Kernel4Ideal.Gen.equal m c m' (args4 m c) rfl rfl rfl rfl rfl rfl rfl
        a0.symm a1.symm a2.symm a3.symm a4.symm a5.symm a6.symm
    · exact E.1
    · exact E.2.1
    · exact E.2.2

theorem frame_R4 : Cert.quiescent_Reference4Ideal := by
  intro m g _
  run_from Cert.Reference4Ideal.Value.run m g
  · exact fun _ => ⟨trivial, trivial, trivial, trivial, trivial, trivial, trivial⟩
  · exact sem_eq_zero_of_no_sems (sig := Cert.Reference4Ideal.sig) (by rfl) _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
  fun m g _ => Cert.Kernel.Gen.frame m g, fun m g _ => Cert.KernelIdeal.Gen.frame m g, fun m g _ => Cert.KernelIdeal.Gen.frame m g,
  frame_R, frame_R_finite,
  fun m g _ => Cert.Kernel2.Gen.frame m g, fun m g _ => Cert.Kernel2Ideal.Gen.frame m g, frame_R2,
  fun m g _ => Cert.Kernel3.Gen.frame m g, fun m g _ => Cert.Kernel3Ideal.Gen.frame m g, frame_R3,
  fun m g _ => Cert.Kernel4.Gen.frame m g, fun m g _ => Cert.Kernel4Ideal.Gen.frame m g, frame_R4,
  preserves, algebraic, preserves2, algebraic2, preserves3, algebraic3, preserves4, algebraic4⟩

end Cert.Proof

end
